-- ==== Defs.lean ====
def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_ProjectA (m : (ℓ : Loc Cert.ProjectA.nD Cert.ProjectA.τ Cert.ProjectA.sig) → Buf (Elt Bits) ℓ) : Prop :=
  True

def Pre_ProjectAIdeal (m : (ℓ : Loc Cert.ProjectAIdeal.nD Cert.ProjectAIdeal.τ Cert.ProjectAIdeal.sig) → Buf (Elt Ideal) ℓ) : Prop :=
  True

def Pre_ProjectAReferenceIdeal (m : (ℓ : Loc Cert.ProjectAReferenceIdeal.nD Cert.ProjectAReferenceIdeal.τ Cert.ProjectAReferenceIdeal.sig) → Buf (Elt Ideal) ℓ) : Prop :=
  True

def Pre_ProjectB (m : (ℓ : Loc Cert.ProjectB.nD Cert.ProjectB.τ Cert.ProjectB.sig) → Buf (Elt Bits) ℓ) : Prop :=
  True

def Pre_ProjectBIdeal (m : (ℓ : Loc Cert.ProjectBIdeal.nD Cert.ProjectBIdeal.τ Cert.ProjectBIdeal.sig) → Buf (Elt Ideal) ℓ) : Prop :=
  True

def Pre_ProjectBReferenceIdeal (m : (ℓ : Loc Cert.ProjectBReferenceIdeal.nD Cert.ProjectBReferenceIdeal.τ Cert.ProjectBReferenceIdeal.sig) → Buf (Elt Ideal) ℓ) : Prop :=
  True

def Pre_GatedIn (m : (ℓ : Loc Cert.GatedIn.nD Cert.GatedIn.τ Cert.GatedIn.sig) → Buf (Elt Bits) ℓ) : Prop :=
  True

def Pre_GatedInIdeal (m : (ℓ : Loc Cert.GatedInIdeal.nD Cert.GatedInIdeal.τ Cert.GatedInIdeal.sig) → Buf (Elt Ideal) ℓ) : Prop :=
  True

def Pre_GatedInReferenceIdeal (m : (ℓ : Loc Cert.GatedInReferenceIdeal.nD Cert.GatedInReferenceIdeal.τ Cert.GatedInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_ContextA (m : (ℓ : Loc Cert.ContextA.nD Cert.ContextA.τ Cert.ContextA.sig) → Buf (Elt Bits) ℓ) : Prop :=
  True

def Pre_ContextAIdeal (m : (ℓ : Loc Cert.ContextAIdeal.nD Cert.ContextAIdeal.τ Cert.ContextAIdeal.sig) → Buf (Elt Ideal) ℓ) : Prop :=
  True

def Pre_ContextAIdeal_finite_a [hPre_finite_a : Cert.Pre_finite_a.Facts] (m : (ℓ : Loc Cert.ContextAIdeal.nD Cert.ContextAIdeal.τ Cert.ContextAIdeal.sig) → Buf (Elt Ideal) ℓ) : Prop :=
  ∀ c : Dev Cert.ContextAIdeal.nD,
    (Cert.Pre_finite_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).1 = (fun _ => 1#1)
    ∧ (Cert.Pre_finite_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).2 = (fun _ => 1#1)

def Pre_ContextAReferenceIdeal (m : (ℓ : Loc Cert.ContextAReferenceIdeal.nD Cert.ContextAReferenceIdeal.τ Cert.ContextAReferenceIdeal.sig) → Buf (Elt Ideal) ℓ) : Prop :=
  True

def Pre_ContextAReferenceIdeal_finite_a [hPre_finite_a : Cert.Pre_finite_a.Facts] (m : (ℓ : Loc Cert.ContextAReferenceIdeal.nD Cert.ContextAReferenceIdeal.τ Cert.ContextAReferenceIdeal.sig) → Buf (Elt Ideal) ℓ) : Prop :=
  ∀ c : Dev Cert.ContextAReferenceIdeal.nD,
    (Cert.Pre_finite_a.fn (F := Ideal) (m ((c.tc : Thread Cert.ContextAReferenceIdeal.nD Cert.ContextAReferenceIdeal.τ).loc Cert.ContextAReferenceIdeal.main_arg0)) (m ((c.tc : Thread Cert.ContextAReferenceIdeal.nD Cert.ContextAReferenceIdeal.τ).loc Cert.ContextAReferenceIdeal.main_arg1))).1 = (fun _ => 1#1)
    ∧ (Cert.Pre_finite_a.fn (F := Ideal) (m ((c.tc : Thread Cert.ContextAReferenceIdeal.nD Cert.ContextAReferenceIdeal.τ).loc Cert.ContextAReferenceIdeal.main_arg0)) (m ((c.tc : Thread Cert.ContextAReferenceIdeal.nD Cert.ContextAReferenceIdeal.τ).loc Cert.ContextAReferenceIdeal.main_arg1))).2 = (fun _ => 1#1)

def Pre_ContextB (m : (ℓ : Loc Cert.ContextB.nD Cert.ContextB.τ Cert.ContextB.sig) → Buf (Elt Bits) ℓ) : Prop :=
  True

def Pre_ContextBIdeal (m : (ℓ : Loc Cert.ContextBIdeal.nD Cert.ContextBIdeal.τ Cert.ContextBIdeal.sig) → Buf (Elt Ideal) ℓ) : Prop :=
  True

def Pre_ContextBIdeal_finite_b [hPre_finite_b : Cert.Pre_finite_b.Facts] (m : (ℓ : Loc Cert.ContextBIdeal.nD Cert.ContextBIdeal.τ Cert.ContextBIdeal.sig) → Buf (Elt Ideal) ℓ) : Prop :=
  ∀ c : Dev Cert.ContextBIdeal.nD,
    (Cert.Pre_finite_b.fn (F := Ideal) (m ((c.tc : Thread Cert.ContextBIdeal.nD Cert.ContextBIdeal.τ).loc Cert.ContextBIdeal.main_arg0))) = (fun _ => 1#1)

def Pre_ContextBReferenceIdeal (m : (ℓ : Loc Cert.ContextBReferenceIdeal.nD Cert.ContextBReferenceIdeal.τ Cert.ContextBReferenceIdeal.sig) → Buf (Elt Ideal) ℓ) : Prop :=
  True

def Pre_ContextBReferenceIdeal_finite_b [hPre_finite_b : Cert.Pre_finite_b.Facts] (m : (ℓ : Loc Cert.ContextBReferenceIdeal.nD Cert.ContextBReferenceIdeal.τ Cert.ContextBReferenceIdeal.sig) → Buf (Elt Ideal) ℓ) : Prop :=
  ∀ c : Dev Cert.ContextBReferenceIdeal.nD,
    (Cert.Pre_finite_b.fn (F := Ideal) (m ((c.tc : Thread Cert.ContextBReferenceIdeal.nD Cert.ContextBReferenceIdeal.τ).loc Cert.ContextBReferenceIdeal.main_arg0))) = (fun _ => 1#1)

def Pre_CombinePrompt (m : (ℓ : Loc Cert.CombinePrompt.nD Cert.CombinePrompt.τ Cert.CombinePrompt.sig) → Buf (Elt Bits) ℓ) : Prop :=
  True

def Pre_CombinePromptIdeal (m : (ℓ : Loc Cert.CombinePromptIdeal.nD Cert.CombinePromptIdeal.τ Cert.CombinePromptIdeal.sig) → Buf (Elt Ideal) ℓ) : Prop :=
  True

def Pre_CombinePromptReferenceIdeal (m : (ℓ : Loc Cert.CombinePromptReferenceIdeal.nD Cert.CombinePromptReferenceIdeal.τ Cert.CombinePromptReferenceIdeal.sig) → Buf (Elt Ideal) ℓ) : Prop :=
  True

def Pre_CombineSample (m : (ℓ : Loc Cert.CombineSample.nD Cert.CombineSample.τ Cert.CombineSample.sig) → Buf (Elt Bits) ℓ) : Prop :=
  True

def Pre_CombineSampleIdeal (m : (ℓ : Loc Cert.CombineSampleIdeal.nD Cert.CombineSampleIdeal.τ Cert.CombineSampleIdeal.sig) → Buf (Elt Ideal) ℓ) : Prop :=
  True

def Pre_CombineSampleReferenceIdeal (m : (ℓ : Loc Cert.CombineSampleReferenceIdeal.nD Cert.CombineSampleReferenceIdeal.τ Cert.CombineSampleReferenceIdeal.sig) → Buf (Elt Ideal) ℓ) : Prop :=
  True

def Pre_MixFirst (m : (ℓ : Loc Cert.MixFirst.nD Cert.MixFirst.τ Cert.MixFirst.sig) → Buf (Elt Bits) ℓ) : Prop :=
  True

def Pre_MixFirstIdeal (m : (ℓ : Loc Cert.MixFirstIdeal.nD Cert.MixFirstIdeal.τ Cert.MixFirstIdeal.sig) → Buf (Elt Ideal) ℓ) : Prop :=
  True

def Pre_MixFirstReferenceIdeal (m : (ℓ : Loc Cert.MixFirstReferenceIdeal.nD Cert.MixFirstReferenceIdeal.τ Cert.MixFirstReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_NextSample (m : (ℓ : Loc Cert.NextSample.nD Cert.NextSample.τ Cert.NextSample.sig) → Buf (Elt Bits) ℓ) : Prop :=
  True

def Pre_NextSampleIdeal (m : (ℓ : Loc Cert.NextSampleIdeal.nD Cert.NextSampleIdeal.τ Cert.NextSampleIdeal.sig) → Buf (Elt Ideal) ℓ) : Prop :=
  True

def Pre_NextSampleReferenceIdeal (m : (ℓ : Loc Cert.NextSampleReferenceIdeal.nD Cert.NextSampleReferenceIdeal.τ Cert.NextSampleReferenceIdeal.sig) → Buf (Elt Ideal) ℓ) : Prop :=
  True

def Pre_EnterSample (m : (ℓ : Loc Cert.EnterSample.nD Cert.EnterSample.τ Cert.EnterSample.sig) → Buf (Elt Bits) ℓ) : Prop :=
  True

def Pre_EnterSampleIdeal (m : (ℓ : Loc Cert.EnterSampleIdeal.nD Cert.EnterSampleIdeal.τ Cert.EnterSampleIdeal.sig) → Buf (Elt Ideal) ℓ) : Prop :=
  True

def Pre_EnterSampleReferenceIdeal (m : (ℓ : Loc Cert.EnterSampleReferenceIdeal.nD Cert.EnterSampleReferenceIdeal.τ Cert.EnterSampleReferenceIdeal.sig) → Buf (Elt Ideal) ℓ) : Prop :=
  True

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_ProjectA [hProjectA : Cert.ProjectA.Facts] : Prop :=
  ∀ (m : (ℓ : Loc Cert.ProjectA.nD Cert.ProjectA.τ Cert.ProjectA.sig) → Buf (Elt Bits) ℓ) (g : Dev Cert.ProjectA.nD → PrngReg), Pre_ProjectA m →
    θ_run (Cert.ProjectA.defs (F := Bits)) (onTc (τ := Cert.ProjectA.τ) (Cert.ProjectA.main (F := Bits))) ⟨m, fun _ => 0, g⟩ (fun r => (∀ c : Dev Cert.ProjectA.nD,
      r.2.mem ((c.tc : Thread Cert.ProjectA.nD Cert.ProjectA.τ).loc Cert.ProjectA.main_arg0) = m ((c.tc : Thread Cert.ProjectA.nD Cert.ProjectA.τ).loc Cert.ProjectA.main_arg0)
      ∧ r.2.mem ((c.tc : Thread Cert.ProjectA.nD Cert.ProjectA.τ).loc Cert.ProjectA.main_arg1) = m ((c.tc : Thread Cert.ProjectA.nD Cert.ProjectA.τ).loc Cert.ProjectA.main_arg1))
      ∧ r.2.sem = fun _ => 0)

def quiescent_ProjectAIdeal [hProjectAIdeal : Cert.ProjectAIdeal.Facts] : Prop :=
  ∀ (m : (ℓ : Loc Cert.ProjectAIdeal.nD Cert.ProjectAIdeal.τ Cert.ProjectAIdeal.sig) → Buf (Elt Ideal) ℓ) (g : Dev Cert.ProjectAIdeal.nD → PrngReg), Pre_ProjectAIdeal m →
    θ_run (Cert.ProjectAIdeal.defs (F := Ideal)) (onTc (τ := Cert.ProjectAIdeal.τ) (Cert.ProjectAIdeal.main (F := Ideal))) ⟨m, fun _ => 0, g⟩ (fun r => (∀ c : Dev Cert.ProjectAIdeal.nD,
      r.2.mem ((c.tc : Thread Cert.ProjectAIdeal.nD Cert.ProjectAIdeal.τ).loc Cert.ProjectAIdeal.main_arg0) = m ((c.tc : Thread Cert.ProjectAIdeal.nD Cert.ProjectAIdeal.τ).loc Cert.ProjectAIdeal.main_arg0)
      ∧ r.2.mem ((c.tc : Thread Cert.ProjectAIdeal.nD Cert.ProjectAIdeal.τ).loc Cert.ProjectAIdeal.main_arg1) = m ((c.tc : Thread Cert.ProjectAIdeal.nD Cert.ProjectAIdeal.τ).loc Cert.ProjectAIdeal.main_arg1))
      ∧ r.2.sem = fun _ => 0)

def quiescent_ProjectAReferenceIdeal [hProjectAReferenceIdeal : Cert.ProjectAReferenceIdeal.Facts] : Prop :=
  ∀ (m : (ℓ : Loc Cert.ProjectAReferenceIdeal.nD Cert.ProjectAReferenceIdeal.τ Cert.ProjectAReferenceIdeal.sig) → Buf (Elt Ideal) ℓ) (g : Dev Cert.ProjectAReferenceIdeal.nD → PrngReg), Pre_ProjectAReferenceIdeal m →
    θ_run (Cert.ProjectAReferenceIdeal.defs (F := Ideal)) (onTc (τ := Cert.ProjectAReferenceIdeal.τ) (Cert.ProjectAReferenceIdeal.main (F := Ideal))) ⟨m, fun _ => 0, g⟩ (fun r => (∀ c : Dev Cert.ProjectAReferenceIdeal.nD,
      r.2.mem ((c.tc : Thread Cert.ProjectAReferenceIdeal.nD Cert.ProjectAReferenceIdeal.τ).loc Cert.ProjectAReferenceIdeal.main_arg0) = m ((c.tc : Thread Cert.ProjectAReferenceIdeal.nD Cert.ProjectAReferenceIdeal.τ).loc Cert.ProjectAReferenceIdeal.main_arg0)
      ∧ r.2.mem ((c.tc : Thread Cert.ProjectAReferenceIdeal.nD Cert.ProjectAReferenceIdeal.τ).loc Cert.ProjectAReferenceIdeal.main_arg1) = m ((c.tc : Thread Cert.ProjectAReferenceIdeal.nD Cert.ProjectAReferenceIdeal.τ).loc Cert.ProjectAReferenceIdeal.main_arg1))
      ∧ r.2.sem = fun _ => 0)

def quiescent_ProjectB [hProjectB : Cert.ProjectB.Facts] : Prop :=
  ∀ (m : (ℓ : Loc Cert.ProjectB.nD Cert.ProjectB.τ Cert.ProjectB.sig) → Buf (Elt Bits) ℓ) (g : Dev Cert.ProjectB.nD → PrngReg), Pre_ProjectB m →
    θ_run (Cert.ProjectB.defs (F := Bits)) (onTc (τ := Cert.ProjectB.τ) (Cert.ProjectB.main (F := Bits))) ⟨m, fun _ => 0, g⟩ (fun r => (∀ c : Dev Cert.ProjectB.nD,
      r.2.mem ((c.tc : Thread Cert.ProjectB.nD Cert.ProjectB.τ).loc Cert.ProjectB.main_arg0) = m ((c.tc : Thread Cert.ProjectB.nD Cert.ProjectB.τ).loc Cert.ProjectB.main_arg0)
      ∧ r.2.mem ((c.tc : Thread Cert.ProjectB.nD Cert.ProjectB.τ).loc Cert.ProjectB.main_arg1) = m ((c.tc : Thread Cert.ProjectB.nD Cert.ProjectB.τ).loc Cert.ProjectB.main_arg1))
      ∧ r.2.sem = fun _ => 0)

def quiescent_ProjectBIdeal [hProjectBIdeal : Cert.ProjectBIdeal.Facts] : Prop :=
  ∀ (m : (ℓ : Loc Cert.ProjectBIdeal.nD Cert.ProjectBIdeal.τ Cert.ProjectBIdeal.sig) → Buf (Elt Ideal) ℓ) (g : Dev Cert.ProjectBIdeal.nD → PrngReg), Pre_ProjectBIdeal m →
    θ_run (Cert.ProjectBIdeal.defs (F := Ideal)) (onTc (τ := Cert.ProjectBIdeal.τ) (Cert.ProjectBIdeal.main (F := Ideal))) ⟨m, fun _ => 0, g⟩ (fun r => (∀ c : Dev Cert.ProjectBIdeal.nD,
      r.2.mem ((c.tc : Thread Cert.ProjectBIdeal.nD Cert.ProjectBIdeal.τ).loc Cert.ProjectBIdeal.main_arg0) = m ((c.tc : Thread Cert.ProjectBIdeal.nD Cert.ProjectBIdeal.τ).loc Cert.ProjectBIdeal.main_arg0)
      ∧ r.2.mem ((c.tc : Thread Cert.ProjectBIdeal.nD Cert.ProjectBIdeal.τ).loc Cert.ProjectBIdeal.main_arg1) = m ((c.tc : Thread Cert.ProjectBIdeal.nD Cert.ProjectBIdeal.τ).loc Cert.ProjectBIdeal.main_arg1))
      ∧ r.2.sem = fun _ => 0)

def quiescent_ProjectBReferenceIdeal [hProjectBReferenceIdeal : Cert.ProjectBReferenceIdeal.Facts] : Prop :=
  ∀ (m : (ℓ : Loc Cert.ProjectBReferenceIdeal.nD Cert.ProjectBReferenceIdeal.τ Cert.ProjectBReferenceIdeal.sig) → Buf (Elt Ideal) ℓ) (g : Dev Cert.ProjectBReferenceIdeal.nD → PrngReg), Pre_ProjectBReferenceIdeal m →
    θ_run (Cert.ProjectBReferenceIdeal.defs (F := Ideal)) (onTc (τ := Cert.ProjectBReferenceIdeal.τ) (Cert.ProjectBReferenceIdeal.main (F := Ideal))) ⟨m, fun _ => 0, g⟩ (fun r => (∀ c : Dev Cert.ProjectBReferenceIdeal.nD,
      r.2.mem ((c.tc : Thread Cert.ProjectBReferenceIdeal.nD Cert.ProjectBReferenceIdeal.τ).loc Cert.ProjectBReferenceIdeal.main_arg0) = m ((c.tc : Thread Cert.ProjectBReferenceIdeal.nD Cert.ProjectBReferenceIdeal.τ).loc Cert.ProjectBReferenceIdeal.main_arg0)
      ∧ r.2.mem ((c.tc : Thread Cert.ProjectBReferenceIdeal.nD Cert.ProjectBReferenceIdeal.τ).loc Cert.ProjectBReferenceIdeal.main_arg1) = m ((c.tc : Thread Cert.ProjectBReferenceIdeal.nD Cert.ProjectBReferenceIdeal.τ).loc Cert.ProjectBReferenceIdeal.main_arg1))
      ∧ r.2.sem = fun _ => 0)

def quiescent_GatedIn [hGatedIn : Cert.GatedIn.Facts] : Prop :=
  ∀ (m : (ℓ : Loc Cert.GatedIn.nD Cert.GatedIn.τ Cert.GatedIn.sig) → Buf (Elt Bits) ℓ) (g : Dev Cert.GatedIn.nD → PrngReg), Pre_GatedIn m →
    θ_run (Cert.GatedIn.defs (F := Bits)) (onTc (τ := Cert.GatedIn.τ) (Cert.GatedIn.main (F := Bits))) ⟨m, fun _ => 0, g⟩ (fun r => (∀ c : Dev Cert.GatedIn.nD,
      r.2.mem ((c.tc : Thread Cert.GatedIn.nD Cert.GatedIn.τ).loc Cert.GatedIn.main_arg0) = m ((c.tc : Thread Cert.GatedIn.nD Cert.GatedIn.τ).loc Cert.GatedIn.main_arg0)
      ∧ r.2.mem ((c.tc : Thread Cert.GatedIn.nD Cert.GatedIn.τ).loc Cert.GatedIn.main_arg1) = m ((c.tc : Thread Cert.GatedIn.nD Cert.GatedIn.τ).loc Cert.GatedIn.main_arg1))
      ∧ r.2.sem = fun _ => 0)

def quiescent_GatedInIdeal [hGatedInIdeal : Cert.GatedInIdeal.Facts] : Prop :=
  ∀ (m : (ℓ : Loc Cert.GatedInIdeal.nD Cert.GatedInIdeal.τ Cert.GatedInIdeal.sig) → Buf (Elt Ideal) ℓ) (g : Dev Cert.GatedInIdeal.nD → PrngReg), Pre_GatedInIdeal m →
    θ_run (Cert.GatedInIdeal.defs (F := Ideal)) (onTc (τ := Cert.GatedInIdeal.τ) (Cert.GatedInIdeal.main (F := Ideal))) ⟨m, fun _ => 0, g⟩ (fun r => (∀ c : Dev Cert.GatedInIdeal.nD,
      r.2.mem ((c.tc : Thread Cert.GatedInIdeal.nD Cert.GatedInIdeal.τ).loc Cert.GatedInIdeal.main_arg0) = m ((c.tc : Thread Cert.GatedInIdeal.nD Cert.GatedInIdeal.τ).loc Cert.GatedInIdeal.main_arg0)
      ∧ r.2.mem ((c.tc : Thread Cert.GatedInIdeal.nD Cert.GatedInIdeal.τ).loc Cert.GatedInIdeal.main_arg1) = m ((c.tc : Thread Cert.GatedInIdeal.nD Cert.GatedInIdeal.τ).loc Cert.GatedInIdeal.main_arg1))
      ∧ r.2.sem = fun _ => 0)

def quiescent_GatedInReferenceIdeal [hGatedInReferenceIdeal : Cert.GatedInReferenceIdeal.Facts] : Prop :=
  ∀ (m : (ℓ : Loc Cert.GatedInReferenceIdeal.nD Cert.GatedInReferenceIdeal.τ Cert.GatedInReferenceIdeal.sig) → Buf (Elt Ideal) ℓ) (g : Dev Cert.GatedInReferenceIdeal.nD → PrngReg), Pre_GatedInReferenceIdeal m →
    θ_run (Cert.GatedInReferenceIdeal.defs (F := Ideal)) (onTc (τ := Cert.GatedInReferenceIdeal.τ) (Cert.GatedInReferenceIdeal.main (F := Ideal))) ⟨m, fun _ => 0, g⟩ (fun r => (∀ c : Dev Cert.GatedInReferenceIdeal.nD,
      r.2.mem ((c.tc : Thread Cert.GatedInReferenceIdeal.nD Cert.GatedInReferenceIdeal.τ).loc Cert.GatedInReferenceIdeal.main_arg0) = m ((c.tc : Thread Cert.GatedInReferenceIdeal.nD Cert.GatedInReferenceIdeal.τ).loc Cert.GatedInReferenceIdeal.main_arg0)
      ∧ r.2.mem ((c.tc : Thread Cert.GatedInReferenceIdeal.nD Cert.GatedInReferenceIdeal.τ).loc Cert.GatedInReferenceIdeal.main_arg1) = m ((c.tc : Thread Cert.GatedInReferenceIdeal.nD Cert.GatedInReferenceIdeal.τ).loc Cert.GatedInReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0)

def quiescent_ContextA [hContextA : Cert.ContextA.Facts] : Prop :=
  ∀ (m : (ℓ : Loc Cert.ContextA.nD Cert.ContextA.τ Cert.ContextA.sig) → Buf (Elt Bits) ℓ) (g : Dev Cert.ContextA.nD → PrngReg), Pre_ContextA m →
    θ_run (Cert.ContextA.defs (F := Bits)) (onTc (τ := Cert.ContextA.τ) (Cert.ContextA.main (F := Bits))) ⟨m, fun _ => 0, g⟩ (fun r => (∀ c : Dev Cert.ContextA.nD,
      r.2.mem ((c.tc : Thread Cert.ContextA.nD Cert.ContextA.τ).loc Cert.ContextA.main_arg0) = m ((c.tc : Thread Cert.ContextA.nD Cert.ContextA.τ).loc Cert.ContextA.main_arg0)
      ∧ r.2.mem ((c.tc : Thread Cert.ContextA.nD Cert.ContextA.τ).loc Cert.ContextA.main_arg1) = m ((c.tc : Thread Cert.ContextA.nD Cert.ContextA.τ).loc Cert.ContextA.main_arg1))
      ∧ r.2.sem = fun _ => 0)

def quiescent_ContextAIdeal [hContextAIdeal : Cert.ContextAIdeal.Facts] : Prop :=
  ∀ (m : (ℓ : Loc Cert.ContextAIdeal.nD Cert.ContextAIdeal.τ Cert.ContextAIdeal.sig) → Buf (Elt Ideal) ℓ) (g : Dev Cert.ContextAIdeal.nD → PrngReg), Pre_ContextAIdeal m →
    θ_run (Cert.ContextAIdeal.defs (F := Ideal)) (onTc (τ := Cert.ContextAIdeal.τ) (Cert.ContextAIdeal.main (F := Ideal))) ⟨m, fun _ => 0, g⟩ (fun r => (∀ c : Dev Cert.ContextAIdeal.nD,
      r.2.mem ((c.tc : Thread Cert.ContextAIdeal.nD Cert.ContextAIdeal.τ).loc Cert.ContextAIdeal.main_arg0) = m ((c.tc : Thread Cert.ContextAIdeal.nD Cert.ContextAIdeal.τ).loc Cert.ContextAIdeal.main_arg0)
      ∧ r.2.mem ((c.tc : Thread Cert.ContextAIdeal.nD Cert.ContextAIdeal.τ).loc Cert.ContextAIdeal.main_arg1) = m ((c.tc : Thread Cert.ContextAIdeal.nD Cert.ContextAIdeal.τ).loc Cert.ContextAIdeal.main_arg1))
      ∧ r.2.sem = fun _ => 0)

def quiescent_ContextAIdeal_pre_finite_a [hContextAIdeal : Cert.ContextAIdeal.Facts] [hPre_finite_a : Cert.Pre_finite_a.Facts] : Prop :=
  ∀ (m : (ℓ : Loc Cert.ContextAIdeal.nD Cert.ContextAIdeal.τ Cert.ContextAIdeal.sig) → Buf (Elt Ideal) ℓ) (g : Dev Cert.ContextAIdeal.nD → PrngReg), Pre_ContextAIdeal_finite_a m →
    θ_run (Cert.ContextAIdeal.defs (F := Ideal)) (onTc (τ := Cert.ContextAIdeal.τ) (Cert.ContextAIdeal.main (F := Ideal))) ⟨m, fun _ => 0, g⟩ (fun r => (∀ c : Dev Cert.ContextAIdeal.nD,
      r.2.mem ((c.tc : Thread Cert.ContextAIdeal.nD Cert.ContextAIdeal.τ).loc Cert.ContextAIdeal.main_arg0) = m ((c.tc : Thread Cert.ContextAIdeal.nD Cert.ContextAIdeal.τ).loc Cert.ContextAIdeal.main_arg0)
      ∧ r.2.mem ((c.tc : Thread Cert.ContextAIdeal.nD Cert.ContextAIdeal.τ).loc Cert.ContextAIdeal.main_arg1) = m ((c.tc : Thread Cert.ContextAIdeal.nD Cert.ContextAIdeal.τ).loc Cert.ContextAIdeal.main_arg1))
      ∧ r.2.sem = fun _ => 0)

def quiescent_ContextAReferenceIdeal [hContextAReferenceIdeal : Cert.ContextAReferenceIdeal.Facts] : Prop :=
  ∀ (m : (ℓ : Loc Cert.ContextAReferenceIdeal.nD Cert.ContextAReferenceIdeal.τ Cert.ContextAReferenceIdeal.sig) → Buf (Elt Ideal) ℓ) (g : Dev Cert.ContextAReferenceIdeal.nD → PrngReg), Pre_ContextAReferenceIdeal m →
    θ_run (Cert.ContextAReferenceIdeal.defs (F := Ideal)) (onTc (τ := Cert.ContextAReferenceIdeal.τ) (Cert.ContextAReferenceIdeal.main (F := Ideal))) ⟨m, fun _ => 0, g⟩ (fun r => (∀ c : Dev Cert.ContextAReferenceIdeal.nD,
      r.2.mem ((c.tc : Thread Cert.ContextAReferenceIdeal.nD Cert.ContextAReferenceIdeal.τ).loc Cert.ContextAReferenceIdeal.main_arg0) = m ((c.tc : Thread Cert.ContextAReferenceIdeal.nD Cert.ContextAReferenceIdeal.τ).loc Cert.ContextAReferenceIdeal.main_arg0)
      ∧ r.2.mem ((c.tc : Thread Cert.ContextAReferenceIdeal.nD Cert.ContextAReferenceIdeal.τ).loc Cert.ContextAReferenceIdeal.main_arg1) = m ((c.tc : Thread Cert.ContextAReferenceIdeal.nD Cert.ContextAReferenceIdeal.τ).loc Cert.ContextAReferenceIdeal.main_arg1))
      ∧ r.2.sem = fun _ => 0)

def quiescent_ContextAReferenceIdeal_pre_finite_a [hContextAReferenceIdeal : Cert.ContextAReferenceIdeal.Facts] [hPre_finite_a : Cert.Pre_finite_a.Facts] : Prop :=
  ∀ (m : (ℓ : Loc Cert.ContextAReferenceIdeal.nD Cert.ContextAReferenceIdeal.τ Cert.ContextAReferenceIdeal.sig) → Buf (Elt Ideal) ℓ) (g : Dev Cert.ContextAReferenceIdeal.nD → PrngReg), Pre_ContextAReferenceIdeal_finite_a m →
    θ_run (Cert.ContextAReferenceIdeal.defs (F := Ideal)) (onTc (τ := Cert.ContextAReferenceIdeal.τ) (Cert.ContextAReferenceIdeal.main (F := Ideal))) ⟨m, fun _ => 0, g⟩ (fun r => (∀ c : Dev Cert.ContextAReferenceIdeal.nD,
      r.2.mem ((c.tc : Thread Cert.ContextAReferenceIdeal.nD Cert.ContextAReferenceIdeal.τ).loc Cert.ContextAReferenceIdeal.main_arg0) = m ((c.tc : Thread Cert.ContextAReferenceIdeal.nD Cert.ContextAReferenceIdeal.τ).loc Cert.ContextAReferenceIdeal.main_arg0)
      ∧ r.2.mem ((c.tc : Thread Cert.ContextAReferenceIdeal.nD Cert.ContextAReferenceIdeal.τ).loc Cert.ContextAReferenceIdeal.main_arg1) = m ((c.tc : Thread Cert.ContextAReferenceIdeal.nD Cert.ContextAReferenceIdeal.τ).loc Cert.ContextAReferenceIdeal.main_arg1))
      ∧ r.2.sem = fun _ => 0)

def quiescent_ContextB [hContextB : Cert.ContextB.Facts] : Prop :=
  ∀ (m : (ℓ : Loc Cert.ContextB.nD Cert.ContextB.τ Cert.ContextB.sig) → Buf (Elt Bits) ℓ) (g : Dev Cert.ContextB.nD → PrngReg), Pre_ContextB m →
    θ_run (Cert.ContextB.defs (F := Bits)) (onTc (τ := Cert.ContextB.τ) (Cert.ContextB.main (F := Bits))) ⟨m, fun _ => 0, g⟩ (fun r => (∀ c : Dev Cert.ContextB.nD,
      r.2.mem ((c.tc : Thread Cert.ContextB.nD Cert.ContextB.τ).loc Cert.ContextB.main_arg0) = m ((c.tc : Thread Cert.ContextB.nD Cert.ContextB.τ).loc Cert.ContextB.main_arg0))
      ∧ r.2.sem = fun _ => 0)

def quiescent_ContextBIdeal [hContextBIdeal : Cert.ContextBIdeal.Facts] : Prop :=
  ∀ (m : (ℓ : Loc Cert.ContextBIdeal.nD Cert.ContextBIdeal.τ Cert.ContextBIdeal.sig) → Buf (Elt Ideal) ℓ) (g : Dev Cert.ContextBIdeal.nD → PrngReg), Pre_ContextBIdeal m →
    θ_run (Cert.ContextBIdeal.defs (F := Ideal)) (onTc (τ := Cert.ContextBIdeal.τ) (Cert.ContextBIdeal.main (F := Ideal))) ⟨m, fun _ => 0, g⟩ (fun r => (∀ c : Dev Cert.ContextBIdeal.nD,
      r.2.mem ((c.tc : Thread Cert.ContextBIdeal.nD Cert.ContextBIdeal.τ).loc Cert.ContextBIdeal.main_arg0) = m ((c.tc : Thread Cert.ContextBIdeal.nD Cert.ContextBIdeal.τ).loc Cert.ContextBIdeal.main_arg0))
      ∧ r.2.sem = fun _ => 0)

def quiescent_ContextBIdeal_pre_finite_b [hContextBIdeal : Cert.ContextBIdeal.Facts] [hPre_finite_b : Cert.Pre_finite_b.Facts] : Prop :=
  ∀ (m : (ℓ : Loc Cert.ContextBIdeal.nD Cert.ContextBIdeal.τ Cert.ContextBIdeal.sig) → Buf (Elt Ideal) ℓ) (g : Dev Cert.ContextBIdeal.nD → PrngReg), Pre_ContextBIdeal_finite_b m →
    θ_run (Cert.ContextBIdeal.defs (F := Ideal)) (onTc (τ := Cert.ContextBIdeal.τ) (Cert.ContextBIdeal.main (F := Ideal))) ⟨m, fun _ => 0, g⟩ (fun r => (∀ c : Dev Cert.ContextBIdeal.nD,
      r.2.mem ((c.tc : Thread Cert.ContextBIdeal.nD Cert.ContextBIdeal.τ).loc Cert.ContextBIdeal.main_arg0) = m ((c.tc : Thread Cert.ContextBIdeal.nD Cert.ContextBIdeal.τ).loc Cert.ContextBIdeal.main_arg0))
      ∧ r.2.sem = fun _ => 0)

def quiescent_ContextBReferenceIdeal [hContextBReferenceIdeal : Cert.ContextBReferenceIdeal.Facts] : Prop :=
  ∀ (m : (ℓ : Loc Cert.ContextBReferenceIdeal.nD Cert.ContextBReferenceIdeal.τ Cert.ContextBReferenceIdeal.sig) → Buf (Elt Ideal) ℓ) (g : Dev Cert.ContextBReferenceIdeal.nD → PrngReg), Pre_ContextBReferenceIdeal m →
    θ_run (Cert.ContextBReferenceIdeal.defs (F := Ideal)) (onTc (τ := Cert.ContextBReferenceIdeal.τ) (Cert.ContextBReferenceIdeal.main (F := Ideal))) ⟨m, fun _ => 0, g⟩ (fun r => (∀ c : Dev Cert.ContextBReferenceIdeal.nD,
      r.2.mem ((c.tc : Thread Cert.ContextBReferenceIdeal.nD Cert.ContextBReferenceIdeal.τ).loc Cert.ContextBReferenceIdeal.main_arg0) = m ((c.tc : Thread Cert.ContextBReferenceIdeal.nD Cert.ContextBReferenceIdeal.τ).loc Cert.ContextBReferenceIdeal.main_arg0))
      ∧ r.2.sem = fun _ => 0)

def quiescent_ContextBReferenceIdeal_pre_finite_b [hContextBReferenceIdeal : Cert.ContextBReferenceIdeal.Facts] [hPre_finite_b : Cert.Pre_finite_b.Facts] : Prop :=
  ∀ (m : (ℓ : Loc Cert.ContextBReferenceIdeal.nD Cert.ContextBReferenceIdeal.τ Cert.ContextBReferenceIdeal.sig) → Buf (Elt Ideal) ℓ) (g : Dev Cert.ContextBReferenceIdeal.nD → PrngReg), Pre_ContextBReferenceIdeal_finite_b m →
    θ_run (Cert.ContextBReferenceIdeal.defs (F := Ideal)) (onTc (τ := Cert.ContextBReferenceIdeal.τ) (Cert.ContextBReferenceIdeal.main (F := Ideal))) ⟨m, fun _ => 0, g⟩ (fun r => (∀ c : Dev Cert.ContextBReferenceIdeal.nD,
      r.2.mem ((c.tc : Thread Cert.ContextBReferenceIdeal.nD Cert.ContextBReferenceIdeal.τ).loc Cert.ContextBReferenceIdeal.main_arg0) = m ((c.tc : Thread Cert.ContextBReferenceIdeal.nD Cert.ContextBReferenceIdeal.τ).loc Cert.ContextBReferenceIdeal.main_arg0))
      ∧ r.2.sem = fun _ => 0)

def quiescent_CombinePrompt [hCombinePrompt : Cert.CombinePrompt.Facts] : Prop :=
  ∀ (m : (ℓ : Loc Cert.CombinePrompt.nD Cert.CombinePrompt.τ Cert.CombinePrompt.sig) → Buf (Elt Bits) ℓ) (g : Dev Cert.CombinePrompt.nD → PrngReg), Pre_CombinePrompt m →
    θ_run (Cert.CombinePrompt.defs (F := Bits)) (onTc (τ := Cert.CombinePrompt.τ) (Cert.CombinePrompt.main (F := Bits))) ⟨m, fun _ => 0, g⟩ (fun r => (∀ c : Dev Cert.CombinePrompt.nD,
      r.2.mem ((c.tc : Thread Cert.CombinePrompt.nD Cert.CombinePrompt.τ).loc Cert.CombinePrompt.main_arg0) = m ((c.tc : Thread Cert.CombinePrompt.nD Cert.CombinePrompt.τ).loc Cert.CombinePrompt.main_arg0)
      ∧ r.2.mem ((c.tc : Thread Cert.CombinePrompt.nD Cert.CombinePrompt.τ).loc Cert.CombinePrompt.main_arg1) = m ((c.tc : Thread Cert.CombinePrompt.nD Cert.CombinePrompt.τ).loc Cert.CombinePrompt.main_arg1)
      ∧ r.2.mem ((c.tc : Thread Cert.CombinePrompt.nD Cert.CombinePrompt.τ).loc Cert.CombinePrompt.main_arg2) = m ((c.tc : Thread Cert.CombinePrompt.nD Cert.CombinePrompt.τ).loc Cert.CombinePrompt.main_arg2)
      ∧ r.2.mem ((c.tc : Thread Cert.CombinePrompt.nD Cert.CombinePrompt.τ).loc Cert.CombinePrompt.main_arg3) = m ((c.tc : Thread Cert.CombinePrompt.nD Cert.CombinePrompt.τ).loc Cert.CombinePrompt.main_arg3)
      ∧ r.2.mem ((c.tc : Thread Cert.CombinePrompt.nD Cert.CombinePrompt.τ).loc Cert.CombinePrompt.main_arg4) = m ((c.tc : Thread Cert.CombinePrompt.nD Cert.CombinePrompt.τ).loc Cert.CombinePrompt.main_arg4))
      ∧ r.2.sem = fun _ => 0)

def quiescent_CombinePromptIdeal [hCombinePromptIdeal : Cert.CombinePromptIdeal.Facts] : Prop :=
  ∀ (m : (ℓ : Loc Cert.CombinePromptIdeal.nD Cert.CombinePromptIdeal.τ Cert.CombinePromptIdeal.sig) → Buf (Elt Ideal) ℓ) (g : Dev Cert.CombinePromptIdeal.nD → PrngReg), Pre_CombinePromptIdeal m →
    θ_run (Cert.CombinePromptIdeal.defs (F := Ideal)) (onTc (τ := Cert.CombinePromptIdeal.τ) (Cert.CombinePromptIdeal.main (F := Ideal))) ⟨m, fun _ => 0, g⟩ (fun r => (∀ c : Dev Cert.CombinePromptIdeal.nD,
      r.2.mem ((c.tc : Thread Cert.CombinePromptIdeal.nD Cert.CombinePromptIdeal.τ).loc Cert.CombinePromptIdeal.main_arg0) = m ((c.tc : Thread Cert.CombinePromptIdeal.nD Cert.CombinePromptIdeal.τ).loc Cert.CombinePromptIdeal.main_arg0)
      ∧ r.2.mem ((c.tc : Thread Cert.CombinePromptIdeal.nD Cert.CombinePromptIdeal.τ).loc Cert.CombinePromptIdeal.main_arg1) = m ((c.tc : Thread Cert.CombinePromptIdeal.nD Cert.CombinePromptIdeal.τ).loc Cert.CombinePromptIdeal.main_arg1)
      ∧ r.2.mem ((c.tc : Thread Cert.CombinePromptIdeal.nD Cert.CombinePromptIdeal.τ).loc Cert.CombinePromptIdeal.main_arg2) = m ((c.tc : Thread Cert.CombinePromptIdeal.nD Cert.CombinePromptIdeal.τ).loc Cert.CombinePromptIdeal.main_arg2)
      ∧ r.2.mem ((c.tc : Thread Cert.CombinePromptIdeal.nD Cert.CombinePromptIdeal.τ).loc Cert.CombinePromptIdeal.main_arg3) = m ((c.tc : Thread Cert.CombinePromptIdeal.nD Cert.CombinePromptIdeal.τ).loc Cert.CombinePromptIdeal.main_arg3)
      ∧ r.2.mem ((c.tc : Thread Cert.CombinePromptIdeal.nD Cert.CombinePromptIdeal.τ).loc Cert.CombinePromptIdeal.main_arg4) = m ((c.tc : Thread Cert.CombinePromptIdeal.nD Cert.CombinePromptIdeal.τ).loc Cert.CombinePromptIdeal.main_arg4))
      ∧ r.2.sem = fun _ => 0)

def quiescent_CombinePromptReferenceIdeal [hCombinePromptReferenceIdeal : Cert.CombinePromptReferenceIdeal.Facts] : Prop :=
  ∀ (m : (ℓ : Loc Cert.CombinePromptReferenceIdeal.nD Cert.CombinePromptReferenceIdeal.τ Cert.CombinePromptReferenceIdeal.sig) → Buf (Elt Ideal) ℓ) (g : Dev Cert.CombinePromptReferenceIdeal.nD → PrngReg), Pre_CombinePromptReferenceIdeal m →
    θ_run (Cert.CombinePromptReferenceIdeal.defs (F := Ideal)) (onTc (τ := Cert.CombinePromptReferenceIdeal.τ) (Cert.CombinePromptReferenceIdeal.main (F := Ideal))) ⟨m, fun _ => 0, g⟩ (fun r => (∀ c : Dev Cert.CombinePromptReferenceIdeal.nD,
      r.2.mem ((c.tc : Thread Cert.CombinePromptReferenceIdeal.nD Cert.CombinePromptReferenceIdeal.τ).loc Cert.CombinePromptReferenceIdeal.main_arg0) = m ((c.tc : Thread Cert.CombinePromptReferenceIdeal.nD Cert.CombinePromptReferenceIdeal.τ).loc Cert.CombinePromptReferenceIdeal.main_arg0)
      ∧ r.2.mem ((c.tc : Thread Cert.CombinePromptReferenceIdeal.nD Cert.CombinePromptReferenceIdeal.τ).loc Cert.CombinePromptReferenceIdeal.main_arg1) = m ((c.tc : Thread Cert.CombinePromptReferenceIdeal.nD Cert.CombinePromptReferenceIdeal.τ).loc Cert.CombinePromptReferenceIdeal.main_arg1)
      ∧ r.2.mem ((c.tc : Thread Cert.CombinePromptReferenceIdeal.nD Cert.CombinePromptReferenceIdeal.τ).loc Cert.CombinePromptReferenceIdeal.main_arg2) = m ((c.tc : Thread Cert.CombinePromptReferenceIdeal.nD Cert.CombinePromptReferenceIdeal.τ).loc Cert.CombinePromptReferenceIdeal.main_arg2)
      ∧ r.2.mem ((c.tc : Thread Cert.CombinePromptReferenceIdeal.nD Cert.CombinePromptReferenceIdeal.τ).loc Cert.CombinePromptReferenceIdeal.main_arg3) = m ((c.tc : Thread Cert.CombinePromptReferenceIdeal.nD Cert.CombinePromptReferenceIdeal.τ).loc Cert.CombinePromptReferenceIdeal.main_arg3)
      ∧ r.2.mem ((c.tc : Thread Cert.CombinePromptReferenceIdeal.nD Cert.CombinePromptReferenceIdeal.τ).loc Cert.CombinePromptReferenceIdeal.main_arg4) = m ((c.tc : Thread Cert.CombinePromptReferenceIdeal.nD Cert.CombinePromptReferenceIdeal.τ).loc Cert.CombinePromptReferenceIdeal.main_arg4))
      ∧ r.2.sem = fun _ => 0)

def quiescent_CombineSample [hCombineSample : Cert.CombineSample.Facts] : Prop :=
  ∀ (m : (ℓ : Loc Cert.CombineSample.nD Cert.CombineSample.τ Cert.CombineSample.sig) → Buf (Elt Bits) ℓ) (g : Dev Cert.CombineSample.nD → PrngReg), Pre_CombineSample m →
    θ_run (Cert.CombineSample.defs (F := Bits)) (onTc (τ := Cert.CombineSample.τ) (Cert.CombineSample.main (F := Bits))) ⟨m, fun _ => 0, g⟩ (fun r => (∀ c : Dev Cert.CombineSample.nD,
      r.2.mem ((c.tc : Thread Cert.CombineSample.nD Cert.CombineSample.τ).loc Cert.CombineSample.main_arg0) = m ((c.tc : Thread Cert.CombineSample.nD Cert.CombineSample.τ).loc Cert.CombineSample.main_arg0)
      ∧ r.2.mem ((c.tc : Thread Cert.CombineSample.nD Cert.CombineSample.τ).loc Cert.CombineSample.main_arg1) = m ((c.tc : Thread Cert.CombineSample.nD Cert.CombineSample.τ).loc Cert.CombineSample.main_arg1)
      ∧ r.2.mem ((c.tc : Thread Cert.CombineSample.nD Cert.CombineSample.τ).loc Cert.CombineSample.main_arg2) = m ((c.tc : Thread Cert.CombineSample.nD Cert.CombineSample.τ).loc Cert.CombineSample.main_arg2)
      ∧ r.2.mem ((c.tc : Thread Cert.CombineSample.nD Cert.CombineSample.τ).loc Cert.CombineSample.main_arg3) = m ((c.tc : Thread Cert.CombineSample.nD Cert.CombineSample.τ).loc Cert.CombineSample.main_arg3)
      ∧ r.2.mem ((c.tc : Thread Cert.CombineSample.nD Cert.CombineSample.τ).loc Cert.CombineSample.main_arg4) = m ((c.tc : Thread Cert.CombineSample.nD Cert.CombineSample.τ).loc Cert.CombineSample.main_arg4))
      ∧ r.2.sem = fun _ => 0)

def quiescent_CombineSampleIdeal [hCombineSampleIdeal : Cert.CombineSampleIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg), Pre_CombineSampleIdeal m →
    θ_run (Cert.CombineSampleIdeal.defs (F := Ideal)) (onTc (τ := Cert.CombineSampleIdeal.τ) (Cert.CombineSampleIdeal.main (F := Ideal))) ⟨m, fun _ => 0, g⟩ (fun r => (∀ c : Dev Cert.CombineSampleIdeal.nD,
      r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
      ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
      ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2)
      ∧ r.2.mem ((c.tc : Thread Cert.CombineSampleIdeal.nD Cert.CombineSampleIdeal.τ).loc Cert.CombineSampleIdeal.main_arg3) = m ((c.tc : Thread Cert.CombineSampleIdeal.nD Cert.CombineSampleIdeal.τ).loc Cert.CombineSampleIdeal.main_arg3)
      ∧ r.2.mem ((c.tc : Thread Cert.CombineSampleIdeal.nD Cert.CombineSampleIdeal.τ).loc Cert.CombineSampleIdeal.main_arg4) = m ((c.tc : Thread Cert.CombineSampleIdeal.nD Cert.CombineSampleIdeal.τ).loc Cert.CombineSampleIdeal.main_arg4))
      ∧ r.2.sem = fun _ => 0)

def quiescent_CombineSampleReferenceIdeal [hCombineSampleReferenceIdeal : Cert.CombineSampleReferenceIdeal.Facts] : Prop :=
  ∀ (m : (ℓ : Loc Cert.CombineSampleReferenceIdeal.nD Cert.CombineSampleReferenceIdeal.τ Cert.CombineSampleReferenceIdeal.sig) → Buf (Elt Ideal) ℓ) (g : Dev Cert.CombineSampleReferenceIdeal.nD → PrngReg), Pre_CombineSampleReferenceIdeal m →
    θ_run (Cert.CombineSampleReferenceIdeal.defs (F := Ideal)) (onTc (τ := Cert.CombineSampleReferenceIdeal.τ) (Cert.CombineSampleReferenceIdeal.main (F := Ideal))) ⟨m, fun _ => 0, g⟩ (fun r => (∀ c : Dev Cert.CombineSampleReferenceIdeal.nD,
      r.2.mem ((c.tc : Thread Cert.CombineSampleReferenceIdeal.nD Cert.CombineSampleReferenceIdeal.τ).loc Cert.CombineSampleReferenceIdeal.main_arg0) = m ((c.tc : Thread Cert.CombineSampleReferenceIdeal.nD Cert.CombineSampleReferenceIdeal.τ).loc Cert.CombineSampleReferenceIdeal.main_arg0)
      ∧ r.2.mem ((c.tc : Thread Cert.CombineSampleReferenceIdeal.nD Cert.CombineSampleReferenceIdeal.τ).loc Cert.CombineSampleReferenceIdeal.main_arg1) = m ((c.tc : Thread Cert.CombineSampleReferenceIdeal.nD Cert.CombineSampleReferenceIdeal.τ).loc Cert.CombineSampleReferenceIdeal.main_arg1)
      ∧ r.2.mem ((c.tc : Thread Cert.CombineSampleReferenceIdeal.nD Cert.CombineSampleReferenceIdeal.τ).loc Cert.CombineSampleReferenceIdeal.main_arg2) = m ((c.tc : Thread Cert.CombineSampleReferenceIdeal.nD Cert.CombineSampleReferenceIdeal.τ).loc Cert.CombineSampleReferenceIdeal.main_arg2)
      ∧ r.2.mem ((c.tc : Thread Cert.CombineSampleReferenceIdeal.nD Cert.CombineSampleReferenceIdeal.τ).loc Cert.CombineSampleReferenceIdeal.main_arg3) = m ((c.tc : Thread Cert.CombineSampleReferenceIdeal.nD Cert.CombineSampleReferenceIdeal.τ).loc Cert.CombineSampleReferenceIdeal.main_arg3)
      ∧ r.2.mem ((c.tc : Thread Cert.CombineSampleReferenceIdeal.nD Cert.CombineSampleReferenceIdeal.τ).loc Cert.CombineSampleReferenceIdeal.main_arg4) = m ((c.tc : Thread Cert.CombineSampleReferenceIdeal.nD Cert.CombineSampleReferenceIdeal.τ).loc Cert.CombineSampleReferenceIdeal.main_arg4))
      ∧ r.2.sem = fun _ => 0)

def quiescent_MixFirst [hMixFirst : Cert.MixFirst.Facts] : Prop :=
  ∀ (m : (ℓ : Loc Cert.MixFirst.nD Cert.MixFirst.τ Cert.MixFirst.sig) → Buf (Elt Bits) ℓ) (g : Dev Cert.MixFirst.nD → PrngReg), Pre_MixFirst m →
    θ_run (Cert.MixFirst.defs (F := Bits)) (onTc (τ := Cert.MixFirst.τ) (Cert.MixFirst.main (F := Bits))) ⟨m, fun _ => 0, g⟩ (fun r => (∀ c : Dev Cert.MixFirst.nD,
      r.2.mem ((c.tc : Thread Cert.MixFirst.nD Cert.MixFirst.τ).loc Cert.MixFirst.main_arg0) = m ((c.tc : Thread Cert.MixFirst.nD Cert.MixFirst.τ).loc Cert.MixFirst.main_arg0)
      ∧ r.2.mem ((c.tc : Thread Cert.MixFirst.nD Cert.MixFirst.τ).loc Cert.MixFirst.main_arg1) = m ((c.tc : Thread Cert.MixFirst.nD Cert.MixFirst.τ).loc Cert.MixFirst.main_arg1)
      ∧ r.2.mem ((c.tc : Thread Cert.MixFirst.nD Cert.MixFirst.τ).loc Cert.MixFirst.main_arg2) = m ((c.tc : Thread Cert.MixFirst.nD Cert.MixFirst.τ).loc Cert.MixFirst.main_arg2)
      ∧ r.2.mem ((c.tc : Thread Cert.MixFirst.nD Cert.MixFirst.τ).loc Cert.MixFirst.main_arg3) = m ((c.tc : Thread Cert.MixFirst.nD Cert.MixFirst.τ).loc Cert.MixFirst.main_arg3)
      ∧ r.2.mem ((c.tc : Thread Cert.MixFirst.nD Cert.MixFirst.τ).loc Cert.MixFirst.main_arg4) = m ((c.tc : Thread Cert.MixFirst.nD Cert.MixFirst.τ).loc Cert.MixFirst.main_arg4)
      ∧ r.2.mem ((c.tc : Thread Cert.MixFirst.nD Cert.MixFirst.τ).loc Cert.MixFirst.main_arg5) = m ((c.tc : Thread Cert.MixFirst.nD Cert.MixFirst.τ).loc Cert.MixFirst.main_arg5))
      ∧ r.2.sem = fun _ => 0)

def quiescent_MixFirstIdeal [hMixFirstIdeal : Cert.MixFirstIdeal.Facts] : Prop :=
  ∀ (m : (ℓ : Loc Cert.MixFirstIdeal.nD Cert.MixFirstIdeal.τ Cert.MixFirstIdeal.sig) → Buf (Elt Ideal) ℓ) (g : Dev Cert.MixFirstIdeal.nD → PrngReg), Pre_MixFirstIdeal m →
    θ_run (Cert.MixFirstIdeal.defs (F := Ideal)) (onTc (τ := Cert.MixFirstIdeal.τ) (Cert.MixFirstIdeal.main (F := Ideal))) ⟨m, fun _ => 0, g⟩ (fun r => (∀ c : Dev Cert.MixFirstIdeal.nD,
      r.2.mem ((c.tc : Thread Cert.MixFirstIdeal.nD Cert.MixFirstIdeal.τ).loc Cert.MixFirstIdeal.main_arg0) = m ((c.tc : Thread Cert.MixFirstIdeal.nD Cert.MixFirstIdeal.τ).loc Cert.MixFirstIdeal.main_arg0)
      ∧ r.2.mem ((c.tc : Thread Cert.MixFirstIdeal.nD Cert.MixFirstIdeal.τ).loc Cert.MixFirstIdeal.main_arg1) = m ((c.tc : Thread Cert.MixFirstIdeal.nD Cert.MixFirstIdeal.τ).loc Cert.MixFirstIdeal.main_arg1)
      ∧ r.2.mem ((c.tc : Thread Cert.MixFirstIdeal.nD Cert.MixFirstIdeal.τ).loc Cert.MixFirstIdeal.main_arg2) = m ((c.tc : Thread Cert.MixFirstIdeal.nD Cert.MixFirstIdeal.τ).loc Cert.MixFirstIdeal.main_arg2)
      ∧ r.2.mem ((c.tc : Thread Cert.MixFirstIdeal.nD Cert.MixFirstIdeal.τ).loc Cert.MixFirstIdeal.main_arg3) = m ((c.tc : Thread Cert.MixFirstIdeal.nD Cert.MixFirstIdeal.τ).loc Cert.MixFirstIdeal.main_arg3)
      ∧ r.2.mem ((c.tc : Thread Cert.MixFirstIdeal.nD Cert.MixFirstIdeal.τ).loc Cert.MixFirstIdeal.main_arg4) = m ((c.tc : Thread Cert.MixFirstIdeal.nD Cert.MixFirstIdeal.τ).loc Cert.MixFirstIdeal.main_arg4)
      ∧ r.2.mem ((c.tc : Thread Cert.MixFirstIdeal.nD Cert.MixFirstIdeal.τ).loc Cert.MixFirstIdeal.main_arg5) = m ((c.tc : Thread Cert.MixFirstIdeal.nD Cert.MixFirstIdeal.τ).loc Cert.MixFirstIdeal.main_arg5))
      ∧ r.2.sem = fun _ => 0)

def quiescent_MixFirstReferenceIdeal [hMixFirstReferenceIdeal : Cert.MixFirstReferenceIdeal.Facts] : Prop :=
  ∀ (m : (ℓ : Loc Cert.MixFirstReferenceIdeal.nD Cert.MixFirstReferenceIdeal.τ Cert.MixFirstReferenceIdeal.sig) → Buf (Elt Ideal) ℓ) (g : Dev Cert.MixFirstReferenceIdeal.nD → PrngReg), Pre_MixFirstReferenceIdeal m →
    θ_run (Cert.MixFirstReferenceIdeal.defs (F := Ideal)) (onTc (τ := Cert.MixFirstReferenceIdeal.τ) (Cert.MixFirstReferenceIdeal.main (F := Ideal))) ⟨m, fun _ => 0, g⟩ (fun r => (∀ c : Dev Cert.MixFirstReferenceIdeal.nD,
      r.2.mem ((c.tc : Thread Cert.MixFirstReferenceIdeal.nD Cert.MixFirstReferenceIdeal.τ).loc Cert.MixFirstReferenceIdeal.main_arg0) = m ((c.tc : Thread Cert.MixFirstReferenceIdeal.nD Cert.MixFirstReferenceIdeal.τ).loc Cert.MixFirstReferenceIdeal.main_arg0)
      ∧ r.2.mem ((c.tc : Thread Cert.MixFirstReferenceIdeal.nD Cert.MixFirstReferenceIdeal.τ).loc Cert.MixFirstReferenceIdeal.main_arg1) = m ((c.tc : Thread Cert.MixFirstReferenceIdeal.nD Cert.MixFirstReferenceIdeal.τ).loc Cert.MixFirstReferenceIdeal.main_arg1)
      ∧ r.2.mem ((c.tc : Thread Cert.MixFirstReferenceIdeal.nD Cert.MixFirstReferenceIdeal.τ).loc Cert.MixFirstReferenceIdeal.main_arg2) = m ((c.tc : Thread Cert.MixFirstReferenceIdeal.nD Cert.MixFirstReferenceIdeal.τ).loc Cert.MixFirstReferenceIdeal.main_arg2)
      ∧ r.2.mem ((c.tc : Thread Cert.MixFirstReferenceIdeal.nD Cert.MixFirstReferenceIdeal.τ).loc Cert.MixFirstReferenceIdeal.main_arg3) = m ((c.tc : Thread Cert.MixFirstReferenceIdeal.nD Cert.MixFirstReferenceIdeal.τ).loc Cert.MixFirstReferenceIdeal.main_arg3)
      ∧ r.2.mem ((c.tc : Thread Cert.MixFirstReferenceIdeal.nD Cert.MixFirstReferenceIdeal.τ).loc Cert.MixFirstReferenceIdeal.main_arg4) = m ((c.tc : Thread Cert.MixFirstReferenceIdeal.nD Cert.MixFirstReferenceIdeal.τ).loc Cert.MixFirstReferenceIdeal.main_arg4)
      ∧ r.2.mem ((c.tc : Thread Cert.MixFirstReferenceIdeal.nD Cert.MixFirstReferenceIdeal.τ).loc Cert.MixFirstReferenceIdeal.main_arg5) = m ((c.tc : Thread Cert.MixFirstReferenceIdeal.nD Cert.MixFirstReferenceIdeal.τ).loc Cert.MixFirstReferenceIdeal.main_arg5))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_NextSample [hNextSample : Cert.NextSample.Facts] : Prop :=
  ∀ (m : (ℓ : Loc Cert.NextSample.nD Cert.NextSample.τ Cert.NextSample.sig) → Buf (Elt Bits) ℓ) (g : Dev Cert.NextSample.nD → PrngReg), Pre_NextSample m →
    θ_run (Cert.NextSample.defs (F := Bits)) (onTc (τ := Cert.NextSample.τ) (Cert.NextSample.main (F := Bits))) ⟨m, fun _ => 0, g⟩ (fun r => (∀ c : Dev Cert.NextSample.nD,
      r.2.mem ((c.tc : Thread Cert.NextSample.nD Cert.NextSample.τ).loc Cert.NextSample.main_arg0) = m ((c.tc : Thread Cert.NextSample.nD Cert.NextSample.τ).loc Cert.NextSample.main_arg0)
      ∧ r.2.mem ((c.tc : Thread Cert.NextSample.nD Cert.NextSample.τ).loc Cert.NextSample.main_arg1) = m ((c.tc : Thread Cert.NextSample.nD Cert.NextSample.τ).loc Cert.NextSample.main_arg1)
      ∧ r.2.mem ((c.tc : Thread Cert.NextSample.nD Cert.NextSample.τ).loc Cert.NextSample.main_arg2) = m ((c.tc : Thread Cert.NextSample.nD Cert.NextSample.τ).loc Cert.NextSample.main_arg2)
      ∧ r.2.mem ((c.tc : Thread Cert.NextSample.nD Cert.NextSample.τ).loc Cert.NextSample.main_arg3) = m ((c.tc : Thread Cert.NextSample.nD Cert.NextSample.τ).loc Cert.NextSample.main_arg3)
      ∧ r.2.mem ((c.tc : Thread Cert.NextSample.nD Cert.NextSample.τ).loc Cert.NextSample.main_arg4) = m ((c.tc : Thread Cert.NextSample.nD Cert.NextSample.τ).loc Cert.NextSample.main_arg4)
      ∧ r.2.mem ((c.tc : Thread Cert.NextSample.nD Cert.NextSample.τ).loc Cert.NextSample.main_arg5) = m ((c.tc : Thread Cert.NextSample.nD Cert.NextSample.τ).loc Cert.NextSample.main_arg5))
      ∧ r.2.sem = fun _ => 0)

def quiescent_NextSampleIdeal [hNextSampleIdeal : Cert.NextSampleIdeal.Facts] : Prop :=
  ∀ (m : (ℓ : Loc Cert.NextSampleIdeal.nD Cert.NextSampleIdeal.τ Cert.NextSampleIdeal.sig) → Buf (Elt Ideal) ℓ) (g : Dev Cert.NextSampleIdeal.nD → PrngReg), Pre_NextSampleIdeal m →
    θ_run (Cert.NextSampleIdeal.defs (F := Ideal)) (onTc (τ := Cert.NextSampleIdeal.τ) (Cert.NextSampleIdeal.main (F := Ideal))) ⟨m, fun _ => 0, g⟩ (fun r => (∀ c : Dev Cert.NextSampleIdeal.nD,
      r.2.mem ((c.tc : Thread Cert.NextSampleIdeal.nD Cert.NextSampleIdeal.τ).loc Cert.NextSampleIdeal.main_arg0) = m ((c.tc : Thread Cert.NextSampleIdeal.nD Cert.NextSampleIdeal.τ).loc Cert.NextSampleIdeal.main_arg0)
      ∧ r.2.mem ((c.tc : Thread Cert.NextSampleIdeal.nD Cert.NextSampleIdeal.τ).loc Cert.NextSampleIdeal.main_arg1) = m ((c.tc : Thread Cert.NextSampleIdeal.nD Cert.NextSampleIdeal.τ).loc Cert.NextSampleIdeal.main_arg1)
      ∧ r.2.mem ((c.tc : Thread Cert.NextSampleIdeal.nD Cert.NextSampleIdeal.τ).loc Cert.NextSampleIdeal.main_arg2) = m ((c.tc : Thread Cert.NextSampleIdeal.nD Cert.NextSampleIdeal.τ).loc Cert.NextSampleIdeal.main_arg2)
      ∧ r.2.mem ((c.tc : Thread Cert.NextSampleIdeal.nD Cert.NextSampleIdeal.τ).loc Cert.NextSampleIdeal.main_arg3) = m ((c.tc : Thread Cert.NextSampleIdeal.nD Cert.NextSampleIdeal.τ).loc Cert.NextSampleIdeal.main_arg3)
      ∧ r.2.mem ((c.tc : Thread Cert.NextSampleIdeal.nD Cert.NextSampleIdeal.τ).loc Cert.NextSampleIdeal.main_arg4) = m ((c.tc : Thread Cert.NextSampleIdeal.nD Cert.NextSampleIdeal.τ).loc Cert.NextSampleIdeal.main_arg4)
      ∧ r.2.mem ((c.tc : Thread Cert.NextSampleIdeal.nD Cert.NextSampleIdeal.τ).loc Cert.NextSampleIdeal.main_arg5) = m ((c.tc : Thread Cert.NextSampleIdeal.nD Cert.NextSampleIdeal.τ).loc Cert.NextSampleIdeal.main_arg5))
      ∧ r.2.sem = fun _ => 0)

def quiescent_NextSampleReferenceIdeal [hNextSampleReferenceIdeal : Cert.NextSampleReferenceIdeal.Facts] : Prop :=
  ∀ (m : (ℓ : Loc Cert.NextSampleReferenceIdeal.nD Cert.NextSampleReferenceIdeal.τ Cert.NextSampleReferenceIdeal.sig) → Buf (Elt Ideal) ℓ) (g : Dev Cert.NextSampleReferenceIdeal.nD → PrngReg), Pre_NextSampleReferenceIdeal m →
    θ_run (Cert.NextSampleReferenceIdeal.defs (F := Ideal)) (onTc (τ := Cert.NextSampleReferenceIdeal.τ) (Cert.NextSampleReferenceIdeal.main (F := Ideal))) ⟨m, fun _ => 0, g⟩ (fun r => (∀ c : Dev Cert.NextSampleReferenceIdeal.nD,
      r.2.mem ((c.tc : Thread Cert.NextSampleReferenceIdeal.nD Cert.NextSampleReferenceIdeal.τ).loc Cert.NextSampleReferenceIdeal.main_arg0) = m ((c.tc : Thread Cert.NextSampleReferenceIdeal.nD Cert.NextSampleReferenceIdeal.τ).loc Cert.NextSampleReferenceIdeal.main_arg0)
      ∧ r.2.mem ((c.tc : Thread Cert.NextSampleReferenceIdeal.nD Cert.NextSampleReferenceIdeal.τ).loc Cert.NextSampleReferenceIdeal.main_arg1) = m ((c.tc : Thread Cert.NextSampleReferenceIdeal.nD Cert.NextSampleReferenceIdeal.τ).loc Cert.NextSampleReferenceIdeal.main_arg1)
      ∧ r.2.mem ((c.tc : Thread Cert.NextSampleReferenceIdeal.nD Cert.NextSampleReferenceIdeal.τ).loc Cert.NextSampleReferenceIdeal.main_arg2) = m ((c.tc : Thread Cert.NextSampleReferenceIdeal.nD Cert.NextSampleReferenceIdeal.τ).loc Cert.NextSampleReferenceIdeal.main_arg2)
      ∧ r.2.mem ((c.tc : Thread Cert.NextSampleReferenceIdeal.nD Cert.NextSampleReferenceIdeal.τ).loc Cert.NextSampleReferenceIdeal.main_arg3) = m ((c.tc : Thread Cert.NextSampleReferenceIdeal.nD Cert.NextSampleReferenceIdeal.τ).loc Cert.NextSampleReferenceIdeal.main_arg3)
      ∧ r.2.mem ((c.tc : Thread Cert.NextSampleReferenceIdeal.nD Cert.NextSampleReferenceIdeal.τ).loc Cert.NextSampleReferenceIdeal.main_arg4) = m ((c.tc : Thread Cert.NextSampleReferenceIdeal.nD Cert.NextSampleReferenceIdeal.τ).loc Cert.NextSampleReferenceIdeal.main_arg4)
      ∧ r.2.mem ((c.tc : Thread Cert.NextSampleReferenceIdeal.nD Cert.NextSampleReferenceIdeal.τ).loc Cert.NextSampleReferenceIdeal.main_arg5) = m ((c.tc : Thread Cert.NextSampleReferenceIdeal.nD Cert.NextSampleReferenceIdeal.τ).loc Cert.NextSampleReferenceIdeal.main_arg5))
      ∧ r.2.sem = fun _ => 0)

def quiescent_EnterSample [hEnterSample : Cert.EnterSample.Facts] : Prop :=
  ∀ (m : (ℓ : Loc Cert.EnterSample.nD Cert.EnterSample.τ Cert.EnterSample.sig) → Buf (Elt Bits) ℓ) (g : Dev Cert.EnterSample.nD → PrngReg), Pre_EnterSample m →
    θ_run (Cert.EnterSample.defs (F := Bits)) (onTc (τ := Cert.EnterSample.τ) (Cert.EnterSample.main (F := Bits))) ⟨m, fun _ => 0, g⟩ (fun r => (∀ c : Dev Cert.EnterSample.nD,
      r.2.mem ((c.tc : Thread Cert.EnterSample.nD Cert.EnterSample.τ).loc Cert.EnterSample.main_arg0) = m ((c.tc : Thread Cert.EnterSample.nD Cert.EnterSample.τ).loc Cert.EnterSample.main_arg0)
      ∧ r.2.mem ((c.tc : Thread Cert.EnterSample.nD Cert.EnterSample.τ).loc Cert.EnterSample.main_arg1) = m ((c.tc : Thread Cert.EnterSample.nD Cert.EnterSample.τ).loc Cert.EnterSample.main_arg1)
      ∧ r.2.mem ((c.tc : Thread Cert.EnterSample.nD Cert.EnterSample.τ).loc Cert.EnterSample.main_arg2) = m ((c.tc : Thread Cert.EnterSample.nD Cert.EnterSample.τ).loc Cert.EnterSample.main_arg2)
      ∧ r.2.mem ((c.tc : Thread Cert.EnterSample.nD Cert.EnterSample.τ).loc Cert.EnterSample.main_arg3) = m ((c.tc : Thread Cert.EnterSample.nD Cert.EnterSample.τ).loc Cert.EnterSample.main_arg3))
      ∧ r.2.sem = fun _ => 0)

def quiescent_EnterSampleIdeal [hEnterSampleIdeal : Cert.EnterSampleIdeal.Facts] : Prop :=
  ∀ (m : (ℓ : Loc Cert.EnterSampleIdeal.nD Cert.EnterSampleIdeal.τ Cert.EnterSampleIdeal.sig) → Buf (Elt Ideal) ℓ) (g : Dev Cert.EnterSampleIdeal.nD → PrngReg), Pre_EnterSampleIdeal m →
    θ_run (Cert.EnterSampleIdeal.defs (F := Ideal)) (onTc (τ := Cert.EnterSampleIdeal.τ) (Cert.EnterSampleIdeal.main (F := Ideal))) ⟨m, fun _ => 0, g⟩ (fun r => (∀ c : Dev Cert.EnterSampleIdeal.nD,
      r.2.mem ((c.tc : Thread Cert.EnterSampleIdeal.nD Cert.EnterSampleIdeal.τ).loc Cert.EnterSampleIdeal.main_arg0) = m ((c.tc : Thread Cert.EnterSampleIdeal.nD Cert.EnterSampleIdeal.τ).loc Cert.EnterSampleIdeal.main_arg0)
      ∧ r.2.mem ((c.tc : Thread Cert.EnterSampleIdeal.nD Cert.EnterSampleIdeal.τ).loc Cert.EnterSampleIdeal.main_arg1) = m ((c.tc : Thread Cert.EnterSampleIdeal.nD Cert.EnterSampleIdeal.τ).loc Cert.EnterSampleIdeal.main_arg1)
      ∧ r.2.mem ((c.tc : Thread Cert.EnterSampleIdeal.nD Cert.EnterSampleIdeal.τ).loc Cert.EnterSampleIdeal.main_arg2) = m ((c.tc : Thread Cert.EnterSampleIdeal.nD Cert.EnterSampleIdeal.τ).loc Cert.EnterSampleIdeal.main_arg2)
      ∧ r.2.mem ((c.tc : Thread Cert.EnterSampleIdeal.nD Cert.EnterSampleIdeal.τ).loc Cert.EnterSampleIdeal.main_arg3) = m ((c.tc : Thread Cert.EnterSampleIdeal.nD Cert.EnterSampleIdeal.τ).loc Cert.EnterSampleIdeal.main_arg3))
      ∧ r.2.sem = fun _ => 0)

def quiescent_EnterSampleReferenceIdeal [hEnterSampleReferenceIdeal : Cert.EnterSampleReferenceIdeal.Facts] : Prop :=
  ∀ (m : (ℓ : Loc Cert.EnterSampleReferenceIdeal.nD Cert.EnterSampleReferenceIdeal.τ Cert.EnterSampleReferenceIdeal.sig) → Buf (Elt Ideal) ℓ) (g : Dev Cert.EnterSampleReferenceIdeal.nD → PrngReg), Pre_EnterSampleReferenceIdeal m →
    θ_run (Cert.EnterSampleReferenceIdeal.defs (F := Ideal)) (onTc (τ := Cert.EnterSampleReferenceIdeal.τ) (Cert.EnterSampleReferenceIdeal.main (F := Ideal))) ⟨m, fun _ => 0, g⟩ (fun r => (∀ c : Dev Cert.EnterSampleReferenceIdeal.nD,
      r.2.mem ((c.tc : Thread Cert.EnterSampleReferenceIdeal.nD Cert.EnterSampleReferenceIdeal.τ).loc Cert.EnterSampleReferenceIdeal.main_arg0) = m ((c.tc : Thread Cert.EnterSampleReferenceIdeal.nD Cert.EnterSampleReferenceIdeal.τ).loc Cert.EnterSampleReferenceIdeal.main_arg0)
      ∧ r.2.mem ((c.tc : Thread Cert.EnterSampleReferenceIdeal.nD Cert.EnterSampleReferenceIdeal.τ).loc Cert.EnterSampleReferenceIdeal.main_arg1) = m ((c.tc : Thread Cert.EnterSampleReferenceIdeal.nD Cert.EnterSampleReferenceIdeal.τ).loc Cert.EnterSampleReferenceIdeal.main_arg1)
      ∧ r.2.mem ((c.tc : Thread Cert.EnterSampleReferenceIdeal.nD Cert.EnterSampleReferenceIdeal.τ).loc Cert.EnterSampleReferenceIdeal.main_arg2) = m ((c.tc : Thread Cert.EnterSampleReferenceIdeal.nD Cert.EnterSampleReferenceIdeal.τ).loc Cert.EnterSampleReferenceIdeal.main_arg2)
      ∧ r.2.mem ((c.tc : Thread Cert.EnterSampleReferenceIdeal.nD Cert.EnterSampleReferenceIdeal.τ).loc Cert.EnterSampleReferenceIdeal.main_arg3) = m ((c.tc : Thread Cert.EnterSampleReferenceIdeal.nD Cert.EnterSampleReferenceIdeal.τ).loc Cert.EnterSampleReferenceIdeal.main_arg3))
      ∧ r.2.sem = fun _ => 0)

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v9) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v6) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_ProjectA_ProjectAIdeal : Prop :=
  True

def algebraic_ProjectAIdeal_ProjectAReferenceIdeal [hProjectAIdeal : Cert.ProjectAIdeal.Facts] [hProjectAReferenceIdeal : Cert.ProjectAReferenceIdeal.Facts] : Prop :=
  ∀ (m : (ℓ : Loc Cert.ProjectAIdeal.nD Cert.ProjectAIdeal.τ Cert.ProjectAIdeal.sig) → Buf (Elt Ideal) ℓ) (g : Dev Cert.ProjectAIdeal.nD → PrngReg)
    (m' : (ℓ : Loc Cert.ProjectAReferenceIdeal.nD Cert.ProjectAReferenceIdeal.τ Cert.ProjectAReferenceIdeal.sig) → Buf (Elt Ideal) ℓ) (g' : Dev Cert.ProjectAReferenceIdeal.nD → PrngReg), Pre_ProjectAIdeal m →
    (∀ c : Dev Cert.ProjectAIdeal.nD,
      m' ((c.tc : Thread Cert.ProjectAReferenceIdeal.nD Cert.ProjectAReferenceIdeal.τ).loc Cert.ProjectAReferenceIdeal.main_arg0) = m ((c.tc : Thread Cert.ProjectAIdeal.nD Cert.ProjectAIdeal.τ).loc Cert.ProjectAIdeal.main_arg0)
      ∧ m' ((c.tc : Thread Cert.ProjectAReferenceIdeal.nD Cert.ProjectAReferenceIdeal.τ).loc Cert.ProjectAReferenceIdeal.main_arg1) = m ((c.tc : Thread Cert.ProjectAIdeal.nD Cert.ProjectAIdeal.τ).loc Cert.ProjectAIdeal.main_arg1)) →
    ∃ (v0 : (c : Dev Cert.ProjectAIdeal.nD) → Buf (Elt Ideal) ((c.tc : Thread Cert.ProjectAIdeal.nD Cert.ProjectAIdeal.τ).loc Cert.ProjectAIdeal.main_v0)),
      θ_run (Cert.ProjectAIdeal.defs (F := Ideal)) (onTc (τ := Cert.ProjectAIdeal.τ) (Cert.ProjectAIdeal.main (F := Ideal))) ⟨m, fun _ => 0, g⟩ (fun r => ∀ c : Dev Cert.ProjectAIdeal.nD,
          r.2.mem ((c.tc : Thread Cert.ProjectAIdeal.nD Cert.ProjectAIdeal.τ).loc Cert.ProjectAIdeal.main_v0) = v0 c
          ∧ r.2.mem ((c.tc : Thread Cert.ProjectAIdeal.nD Cert.ProjectAIdeal.τ).loc Cert.ProjectAIdeal.main_arg0) = m ((c.tc : Thread Cert.ProjectAIdeal.nD Cert.ProjectAIdeal.τ).loc Cert.ProjectAIdeal.main_arg0)
          ∧ r.2.mem ((c.tc : Thread Cert.ProjectAIdeal.nD Cert.ProjectAIdeal.τ).loc Cert.ProjectAIdeal.main_arg1) = m ((c.tc : Thread Cert.ProjectAIdeal.nD Cert.ProjectAIdeal.τ).loc Cert.ProjectAIdeal.main_arg1))
      ∧ θ_run (Cert.ProjectAReferenceIdeal.defs (F := Ideal)) (onTc (τ := Cert.ProjectAReferenceIdeal.τ) (Cert.ProjectAReferenceIdeal.main (F := Ideal))) ⟨m', fun _ => 0, g'⟩ (fun r => ∀ c : Dev Cert.ProjectAReferenceIdeal.nD,
          r.2.mem ((c.tc : Thread Cert.ProjectAReferenceIdeal.nD Cert.ProjectAReferenceIdeal.τ).loc Cert.ProjectAReferenceIdeal.main_v3) = v0 c
          ∧ r.2.mem ((c.tc : Thread Cert.ProjectAReferenceIdeal.nD Cert.ProjectAReferenceIdeal.τ).loc Cert.ProjectAReferenceIdeal.main_arg0) = m' ((c.tc : Thread Cert.ProjectAReferenceIdeal.nD Cert.ProjectAReferenceIdeal.τ).loc Cert.ProjectAReferenceIdeal.main_arg0)
          ∧ r.2.mem ((c.tc : Thread Cert.ProjectAReferenceIdeal.nD Cert.ProjectAReferenceIdeal.τ).loc Cert.ProjectAReferenceIdeal.main_arg1) = m' ((c.tc : Thread Cert.ProjectAReferenceIdeal.nD Cert.ProjectAReferenceIdeal.τ).loc Cert.ProjectAReferenceIdeal.main_arg1))

def preserves_ProjectB_ProjectBIdeal : Prop :=
  True

def algebraic_ProjectBIdeal_ProjectBReferenceIdeal [hProjectBIdeal : Cert.ProjectBIdeal.Facts] [hProjectBReferenceIdeal : Cert.ProjectBReferenceIdeal.Facts] : Prop :=
  ∀ (m : (ℓ : Loc Cert.ProjectBIdeal.nD Cert.ProjectBIdeal.τ Cert.ProjectBIdeal.sig) → Buf (Elt Ideal) ℓ) (g : Dev Cert.ProjectBIdeal.nD → PrngReg)
    (m' : (ℓ : Loc Cert.ProjectBReferenceIdeal.nD Cert.ProjectBReferenceIdeal.τ Cert.ProjectBReferenceIdeal.sig) → Buf (Elt Ideal) ℓ) (g' : Dev Cert.ProjectBReferenceIdeal.nD → PrngReg), Pre_ProjectBIdeal m →
    (∀ c : Dev Cert.ProjectBIdeal.nD,
      m' ((c.tc : Thread Cert.ProjectBReferenceIdeal.nD Cert.ProjectBReferenceIdeal.τ).loc Cert.ProjectBReferenceIdeal.main_arg0) = m ((c.tc : Thread Cert.ProjectBIdeal.nD Cert.ProjectBIdeal.τ).loc Cert.ProjectBIdeal.main_arg0)
      ∧ m' ((c.tc : Thread Cert.ProjectBReferenceIdeal.nD Cert.ProjectBReferenceIdeal.τ).loc Cert.ProjectBReferenceIdeal.main_arg1) = m ((c.tc : Thread Cert.ProjectBIdeal.nD Cert.ProjectBIdeal.τ).loc Cert.ProjectBIdeal.main_arg1)) →
    ∃ (v0 : (c : Dev Cert.ProjectBIdeal.nD) → Buf (Elt Ideal) ((c.tc : Thread Cert.ProjectBIdeal.nD Cert.ProjectBIdeal.τ).loc Cert.ProjectBIdeal.main_v0)),
      θ_run (Cert.ProjectBIdeal.defs (F := Ideal)) (onTc (τ := Cert.ProjectBIdeal.τ) (Cert.ProjectBIdeal.main (F := Ideal))) ⟨m, fun _ => 0, g⟩ (fun r => ∀ c : Dev Cert.ProjectBIdeal.nD,
          r.2.mem ((c.tc : Thread Cert.ProjectBIdeal.nD Cert.ProjectBIdeal.τ).loc Cert.ProjectBIdeal.main_v0) = v0 c
          ∧ r.2.mem ((c.tc : Thread Cert.ProjectBIdeal.nD Cert.ProjectBIdeal.τ).loc Cert.ProjectBIdeal.main_arg0) = m ((c.tc : Thread Cert.ProjectBIdeal.nD Cert.ProjectBIdeal.τ).loc Cert.ProjectBIdeal.main_arg0)
          ∧ r.2.mem ((c.tc : Thread Cert.ProjectBIdeal.nD Cert.ProjectBIdeal.τ).loc Cert.ProjectBIdeal.main_arg1) = m ((c.tc : Thread Cert.ProjectBIdeal.nD Cert.ProjectBIdeal.τ).loc Cert.ProjectBIdeal.main_arg1))
      ∧ θ_run (Cert.ProjectBReferenceIdeal.defs (F := Ideal)) (onTc (τ := Cert.ProjectBReferenceIdeal.τ) (Cert.ProjectBReferenceIdeal.main (F := Ideal))) ⟨m', fun _ => 0, g'⟩ (fun r => ∀ c : Dev Cert.ProjectBReferenceIdeal.nD,
          r.2.mem ((c.tc : Thread Cert.ProjectBReferenceIdeal.nD Cert.ProjectBReferenceIdeal.τ).loc Cert.ProjectBReferenceIdeal.main_v2) = v0 c
          ∧ r.2.mem ((c.tc : Thread Cert.ProjectBReferenceIdeal.nD Cert.ProjectBReferenceIdeal.τ).loc Cert.ProjectBReferenceIdeal.main_arg0) = m' ((c.tc : Thread Cert.ProjectBReferenceIdeal.nD Cert.ProjectBReferenceIdeal.τ).loc Cert.ProjectBReferenceIdeal.main_arg0)
          ∧ r.2.mem ((c.tc : Thread Cert.ProjectBReferenceIdeal.nD Cert.ProjectBReferenceIdeal.τ).loc Cert.ProjectBReferenceIdeal.main_arg1) = m' ((c.tc : Thread Cert.ProjectBReferenceIdeal.nD Cert.ProjectBReferenceIdeal.τ).loc Cert.ProjectBReferenceIdeal.main_arg1))

def preserves_GatedIn_GatedInIdeal : Prop :=
  True

def algebraic_GatedInIdeal_GatedInReferenceIdeal [hGatedInIdeal : Cert.GatedInIdeal.Facts] [hGatedInReferenceIdeal : Cert.GatedInReferenceIdeal.Facts] : Prop :=
  ∀ (m : (ℓ : Loc Cert.GatedInIdeal.nD Cert.GatedInIdeal.τ Cert.GatedInIdeal.sig) → Buf (Elt Ideal) ℓ) (g : Dev Cert.GatedInIdeal.nD → PrngReg)
    (m' : (ℓ : Loc Cert.GatedInReferenceIdeal.nD Cert.GatedInReferenceIdeal.τ Cert.GatedInReferenceIdeal.sig) → Buf (Elt Ideal) ℓ) (g' : Dev Cert.GatedInReferenceIdeal.nD → PrngReg), Pre_GatedInIdeal m →
    (∀ c : Dev Cert.GatedInIdeal.nD,
      m' ((c.tc : Thread Cert.GatedInReferenceIdeal.nD Cert.GatedInReferenceIdeal.τ).loc Cert.GatedInReferenceIdeal.main_arg0) = m ((c.tc : Thread Cert.GatedInIdeal.nD Cert.GatedInIdeal.τ).loc Cert.GatedInIdeal.main_arg0)
      ∧ m' ((c.tc : Thread Cert.GatedInReferenceIdeal.nD Cert.GatedInReferenceIdeal.τ).loc Cert.GatedInReferenceIdeal.main_arg1) = m ((c.tc : Thread Cert.GatedInIdeal.nD Cert.GatedInIdeal.τ).loc Cert.GatedInIdeal.main_arg1)) →
    ∃ (v0 : (c : Dev Cert.GatedInIdeal.nD) → Buf (Elt Ideal) ((c.tc : Thread Cert.GatedInIdeal.nD Cert.GatedInIdeal.τ).loc Cert.GatedInIdeal.main_v0)),
      θ_run (Cert.GatedInIdeal.defs (F := Ideal)) (onTc (τ := Cert.GatedInIdeal.τ) (Cert.GatedInIdeal.main (F := Ideal))) ⟨m, fun _ => 0, g⟩ (fun r => ∀ c : Dev Cert.GatedInIdeal.nD,
          r.2.mem ((c.tc : Thread Cert.GatedInIdeal.nD Cert.GatedInIdeal.τ).loc Cert.GatedInIdeal.main_v0) = v0 c
          ∧ r.2.mem ((c.tc : Thread Cert.GatedInIdeal.nD Cert.GatedInIdeal.τ).loc Cert.GatedInIdeal.main_arg0) = m ((c.tc : Thread Cert.GatedInIdeal.nD Cert.GatedInIdeal.τ).loc Cert.GatedInIdeal.main_arg0)
          ∧ r.2.mem ((c.tc : Thread Cert.GatedInIdeal.nD Cert.GatedInIdeal.τ).loc Cert.GatedInIdeal.main_arg1) = m ((c.tc : Thread Cert.GatedInIdeal.nD Cert.GatedInIdeal.τ).loc Cert.GatedInIdeal.main_arg1))
      ∧ θ_run (Cert.GatedInReferenceIdeal.defs (F := Ideal)) (onTc (τ := Cert.GatedInReferenceIdeal.τ) (Cert.GatedInReferenceIdeal.main (F := Ideal))) ⟨m', fun _ => 0, g'⟩ (fun r => ∀ c : Dev Cert.GatedInReferenceIdeal.nD,
          r.2.mem ((c.tc : Thread Cert.GatedInReferenceIdeal.nD Cert.GatedInReferenceIdeal.τ).loc Cert.GatedInReferenceIdeal.main_v16) = v0 c
          ∧ r.2.mem ((c.tc : Thread Cert.GatedInReferenceIdeal.nD Cert.GatedInReferenceIdeal.τ).loc Cert.GatedInReferenceIdeal.main_arg0) = m' ((c.tc : Thread Cert.GatedInReferenceIdeal.nD Cert.GatedInReferenceIdeal.τ).loc Cert.GatedInReferenceIdeal.main_arg0)
          ∧ r.2.mem ((c.tc : Thread Cert.GatedInReferenceIdeal.nD Cert.GatedInReferenceIdeal.τ).loc Cert.GatedInReferenceIdeal.main_arg1) = m' ((c.tc : Thread Cert.GatedInReferenceIdeal.nD Cert.GatedInReferenceIdeal.τ).loc Cert.GatedInReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v17) = v0 c
          ∧ r.2.mem ((c.tc : Thread Cert.MixOutReferenceIdeal.nD Cert.MixOutReferenceIdeal.τ).loc Cert.MixOutReferenceIdeal.main_v57) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4))

def preserves_ContextA_ContextAIdeal : Prop :=
  True

def algebraic_ContextAIdeal_ContextAReferenceIdeal_on_context_rows_a_pre_finite_a [hContextAIdeal : Cert.ContextAIdeal.Facts] [hContextAReferenceIdeal : Cert.ContextAReferenceIdeal.Facts] [hPre_finite_a : Cert.Pre_finite_a.Facts] [hOn_context_rows_a : Cert.On_context_rows_a.Facts] : Prop :=
  ∀ (m : (ℓ : Loc Cert.ContextAIdeal.nD Cert.ContextAIdeal.τ Cert.ContextAIdeal.sig) → Buf (Elt Ideal) ℓ) (g : Dev Cert.ContextAIdeal.nD → PrngReg)
    (m' : (ℓ : Loc Cert.ContextAReferenceIdeal.nD Cert.ContextAReferenceIdeal.τ Cert.ContextAReferenceIdeal.sig) → Buf (Elt Ideal) ℓ) (g' : Dev Cert.ContextAReferenceIdeal.nD → PrngReg), Pre_ContextAIdeal_finite_a m →
    (∀ c : Dev Cert.ContextAIdeal.nD,
      m' ((c.tc : Thread Cert.ContextAReferenceIdeal.nD Cert.ContextAReferenceIdeal.τ).loc Cert.ContextAReferenceIdeal.main_arg0) = m ((c.tc : Thread Cert.ContextAIdeal.nD Cert.ContextAIdeal.τ).loc Cert.ContextAIdeal.main_arg0)
      ∧ m' ((c.tc : Thread Cert.ContextAReferenceIdeal.nD Cert.ContextAReferenceIdeal.τ).loc Cert.ContextAReferenceIdeal.main_arg1) = m ((c.tc : Thread Cert.ContextAIdeal.nD Cert.ContextAIdeal.τ).loc Cert.ContextAIdeal.main_arg1)) →
    ∃ (v0 : (c : Dev Cert.ContextAIdeal.nD) → Buf (Elt Ideal) ((c.tc : Thread Cert.ContextAIdeal.nD Cert.ContextAIdeal.τ).loc Cert.ContextAIdeal.main_v0_0)) (v1 : (c : Dev Cert.ContextAIdeal.nD) → Buf (Elt Ideal) ((c.tc : Thread Cert.ContextAIdeal.nD Cert.ContextAIdeal.τ).loc Cert.ContextAIdeal.main_v0_1)) (v2 : (c : Dev Cert.ContextAIdeal.nD) → Buf (Elt Ideal) ((c.tc : Thread Cert.ContextAIdeal.nD Cert.ContextAIdeal.τ).loc Cert.ContextAIdeal.main_v0_2)),
      θ_run (Cert.ContextAIdeal.defs (F := Ideal)) (onTc (τ := Cert.ContextAIdeal.τ) (Cert.ContextAIdeal.main (F := Ideal))) ⟨m, fun _ => 0, g⟩ (fun r => ∀ c : Dev Cert.ContextAIdeal.nD,
          (∀ i : (⟨2, ![12288, 2048]⟩ : Shape).Idx, (Cert.On_context_rows_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).1 i = 1#1 → r.2.mem ((c.tc : Thread Cert.ContextAIdeal.nD Cert.ContextAIdeal.τ).loc Cert.ContextAIdeal.main_v0_0) i = v0 c i)
          ∧ (∀ i : (⟨4, ![16, 256, 4, 128]⟩ : Shape).Idx, (Cert.On_context_rows_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).2.1 i = 1#1 → r.2.mem ((c.tc : Thread Cert.ContextAIdeal.nD Cert.ContextAIdeal.τ).loc Cert.ContextAIdeal.main_v0_1) i = v1 c i)
          ∧ (∀ i : (⟨4, ![16, 256, 4, 128]⟩ : Shape).Idx, (Cert.On_context_rows_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).2.2 i = 1#1 → r.2.mem ((c.tc : Thread Cert.ContextAIdeal.nD Cert.ContextAIdeal.τ).loc Cert.ContextAIdeal.main_v0_2) i = v2 c i)
          ∧ r.2.mem ((c.tc : Thread Cert.ContextAIdeal.nD Cert.ContextAIdeal.τ).loc Cert.ContextAIdeal.main_arg0) = m ((c.tc : Thread Cert.ContextAIdeal.nD Cert.ContextAIdeal.τ).loc Cert.ContextAIdeal.main_arg0)
          ∧ r.2.mem ((c.tc : Thread Cert.ContextAIdeal.nD Cert.ContextAIdeal.τ).loc Cert.ContextAIdeal.main_arg1) = m ((c.tc : Thread Cert.ContextAIdeal.nD Cert.ContextAIdeal.τ).loc Cert.ContextAIdeal.main_arg1))
      ∧ θ_run (Cert.ContextAReferenceIdeal.defs (F := Ideal)) (onTc (τ := Cert.ContextAReferenceIdeal.τ) (Cert.ContextAReferenceIdeal.main (F := Ideal))) ⟨m', fun _ => 0, g'⟩ (fun r => ∀ c : Dev Cert.ContextAReferenceIdeal.nD,
          (∀ i : (⟨2, ![12288, 2048]⟩ : Shape).Idx, (Cert.On_context_rows_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).1 i = 1#1 → r.2.mem ((c.tc : Thread Cert.ContextAReferenceIdeal.nD Cert.ContextAReferenceIdeal.τ).loc Cert.ContextAReferenceIdeal.main_v32) i = v0 c i)
          ∧ (∀ i : (⟨4, ![16, 256, 4, 128]⟩ : Shape).Idx, (Cert.On_context_rows_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).2.1 i = 1#1 → r.2.mem ((c.tc : Thread Cert.ContextAReferenceIdeal.nD Cert.ContextAReferenceIdeal.τ).loc Cert.ContextAReferenceIdeal.main_v5) i = v1 c i)
          ∧ (∀ i : (⟨4, ![16, 256, 4, 128]⟩ : Shape).Idx, (Cert.On_context_rows_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1))).2.2 i = 1#1 → r.2.mem ((c.tc : Thread Cert.ContextAReferenceIdeal.nD Cert.ContextAReferenceIdeal.τ).loc Cert.ContextAReferenceIdeal.main_v7) i = v2 c i)
          ∧ r.2.mem ((c.tc : Thread Cert.ContextAReferenceIdeal.nD Cert.ContextAReferenceIdeal.τ).loc Cert.ContextAReferenceIdeal.main_arg0) = m' ((c.tc : Thread Cert.ContextAReferenceIdeal.nD Cert.ContextAReferenceIdeal.τ).loc Cert.ContextAReferenceIdeal.main_arg0)
          ∧ r.2.mem ((c.tc : Thread Cert.ContextAReferenceIdeal.nD Cert.ContextAReferenceIdeal.τ).loc Cert.ContextAReferenceIdeal.main_arg1) = m' ((c.tc : Thread Cert.ContextAReferenceIdeal.nD Cert.ContextAReferenceIdeal.τ).loc Cert.ContextAReferenceIdeal.main_arg1))

def preserves_ContextB_ContextBIdeal : Prop :=
  True

def algebraic_ContextBIdeal_ContextBReferenceIdeal_on_context_rows_b_pre_finite_b [hContextBIdeal : Cert.ContextBIdeal.Facts] [hContextBReferenceIdeal : Cert.ContextBReferenceIdeal.Facts] [hPre_finite_b : Cert.Pre_finite_b.Facts] [hOn_context_rows_b : Cert.On_context_rows_b.Facts] : Prop :=
  ∀ (m : (ℓ : Loc Cert.ContextBIdeal.nD Cert.ContextBIdeal.τ Cert.ContextBIdeal.sig) → Buf (Elt Ideal) ℓ) (g : Dev Cert.ContextBIdeal.nD → PrngReg)
    (m' : (ℓ : Loc Cert.ContextBReferenceIdeal.nD Cert.ContextBReferenceIdeal.τ Cert.ContextBReferenceIdeal.sig) → Buf (Elt Ideal) ℓ) (g' : Dev Cert.ContextBReferenceIdeal.nD → PrngReg), Pre_ContextBIdeal_finite_b m →
    (∀ c : Dev Cert.ContextBIdeal.nD,
      m' ((c.tc : Thread Cert.ContextBReferenceIdeal.nD Cert.ContextBReferenceIdeal.τ).loc Cert.ContextBReferenceIdeal.main_arg0) = m ((c.tc : Thread Cert.ContextBIdeal.nD Cert.ContextBIdeal.τ).loc Cert.ContextBIdeal.main_arg0)) →
    ∃ (v0 : (c : Dev Cert.ContextBIdeal.nD) → Buf (Elt Ideal) ((c.tc : Thread Cert.ContextBIdeal.nD Cert.ContextBIdeal.τ).loc Cert.ContextBIdeal.main_v1_0)) (v1 : (c : Dev Cert.ContextBIdeal.nD) → Buf (Elt Ideal) ((c.tc : Thread Cert.ContextBIdeal.nD Cert.ContextBIdeal.τ).loc Cert.ContextBIdeal.main_v1_1)) (v2 : (c : Dev Cert.ContextBIdeal.nD) → Buf (Elt Ideal) ((c.tc : Thread Cert.ContextBIdeal.nD Cert.ContextBIdeal.τ).loc Cert.ContextBIdeal.main_v1_2)),
      θ_run (Cert.ContextBIdeal.defs (F := Ideal)) (onTc (τ := Cert.ContextBIdeal.τ) (Cert.ContextBIdeal.main (F := Ideal))) ⟨m, fun _ => 0, g⟩ (fun r => ∀ c : Dev Cert.ContextBIdeal.nD,
          (∀ i : (⟨2, ![12288, 2048]⟩ : Shape).Idx, (Cert.On_context_rows_b.fn (F := Ideal) (m ((c.tc : Thread Cert.ContextBIdeal.nD Cert.ContextBIdeal.τ).loc Cert.ContextBIdeal.main_arg0))).1 i = 1#1 → r.2.mem ((c.tc : Thread Cert.ContextBIdeal.nD Cert.ContextBIdeal.τ).loc Cert.ContextBIdeal.main_v1_0) i = v0 c i)
          ∧ (∀ i : (⟨4, ![16, 256, 16, 128]⟩ : Shape).Idx, (Cert.On_context_rows_b.fn (F := Ideal) (m ((c.tc : Thread Cert.ContextBIdeal.nD Cert.ContextBIdeal.τ).loc Cert.ContextBIdeal.main_arg0))).2.1 i = 1#1 → r.2.mem ((c.tc : Thread Cert.ContextBIdeal.nD Cert.ContextBIdeal.τ).loc Cert.ContextBIdeal.main_v1_1) i = v1 c i)
          ∧ (∀ i : (⟨4, ![16, 256, 16, 128]⟩ : Shape).Idx, (Cert.On_context_rows_b.fn (F := Ideal) (m ((c.tc : Thread Cert.ContextBIdeal.nD Cert.ContextBIdeal.τ).loc Cert.ContextBIdeal.main_arg0))).2.2 i = 1#1 → r.2.mem ((c.tc : Thread Cert.ContextBIdeal.nD Cert.ContextBIdeal.τ).loc Cert.ContextBIdeal.main_v1_2) i = v2 c i)
          ∧ r.2.mem ((c.tc : Thread Cert.ContextBIdeal.nD Cert.ContextBIdeal.τ).loc Cert.ContextBIdeal.main_arg0) = m ((c.tc : Thread Cert.ContextBIdeal.nD Cert.ContextBIdeal.τ).loc Cert.ContextBIdeal.main_arg0))
      ∧ θ_run (Cert.ContextBReferenceIdeal.defs (F := Ideal)) (onTc (τ := Cert.ContextBReferenceIdeal.τ) (Cert.ContextBReferenceIdeal.main (F := Ideal))) ⟨m', fun _ => 0, g'⟩ (fun r => ∀ c : Dev Cert.ContextBReferenceIdeal.nD,
          (∀ i : (⟨2, ![12288, 2048]⟩ : Shape).Idx, (Cert.On_context_rows_b.fn (F := Ideal) (m ((c.tc : Thread Cert.ContextBIdeal.nD Cert.ContextBIdeal.τ).loc Cert.ContextBIdeal.main_arg0))).1 i = 1#1 → r.2.mem ((c.tc : Thread Cert.ContextBReferenceIdeal.nD Cert.ContextBReferenceIdeal.τ).loc Cert.ContextBReferenceIdeal.main_v26) i = v0 c i)
          ∧ (∀ i : (⟨4, ![16, 256, 16, 128]⟩ : Shape).Idx, (Cert.On_context_rows_b.fn (F := Ideal) (m ((c.tc : Thread Cert.ContextBIdeal.nD Cert.ContextBIdeal.τ).loc Cert.ContextBIdeal.main_arg0))).2.1 i = 1#1 → r.2.mem ((c.tc : Thread Cert.ContextBReferenceIdeal.nD Cert.ContextBReferenceIdeal.τ).loc Cert.ContextBReferenceIdeal.main_v5) i = v1 c i)
          ∧ (∀ i : (⟨4, ![16, 256, 16, 128]⟩ : Shape).Idx, (Cert.On_context_rows_b.fn (F := Ideal) (m ((c.tc : Thread Cert.ContextBIdeal.nD Cert.ContextBIdeal.τ).loc Cert.ContextBIdeal.main_arg0))).2.2 i = 1#1 → r.2.mem ((c.tc : Thread Cert.ContextBReferenceIdeal.nD Cert.ContextBReferenceIdeal.τ).loc Cert.ContextBReferenceIdeal.main_v7) i = v2 c i)
          ∧ r.2.mem ((c.tc : Thread Cert.ContextBReferenceIdeal.nD Cert.ContextBReferenceIdeal.τ).loc Cert.ContextBReferenceIdeal.main_arg0) = m' ((c.tc : Thread Cert.ContextBReferenceIdeal.nD Cert.ContextBReferenceIdeal.τ).loc Cert.ContextBReferenceIdeal.main_arg0))

def preserves_CombinePrompt_CombinePromptIdeal : Prop :=
  True

def algebraic_CombinePromptIdeal_CombinePromptReferenceIdeal [hCombinePromptIdeal : Cert.CombinePromptIdeal.Facts] [hCombinePromptReferenceIdeal : Cert.CombinePromptReferenceIdeal.Facts] : Prop :=
  ∀ (m : (ℓ : Loc Cert.CombinePromptIdeal.nD Cert.CombinePromptIdeal.τ Cert.CombinePromptIdeal.sig) → Buf (Elt Ideal) ℓ) (g : Dev Cert.CombinePromptIdeal.nD → PrngReg)
    (m' : (ℓ : Loc Cert.CombinePromptReferenceIdeal.nD Cert.CombinePromptReferenceIdeal.τ Cert.CombinePromptReferenceIdeal.sig) → Buf (Elt Ideal) ℓ) (g' : Dev Cert.CombinePromptReferenceIdeal.nD → PrngReg), Pre_CombinePromptIdeal m →
    (∀ c : Dev Cert.CombinePromptIdeal.nD,
      m' ((c.tc : Thread Cert.CombinePromptReferenceIdeal.nD Cert.CombinePromptReferenceIdeal.τ).loc Cert.CombinePromptReferenceIdeal.main_arg0) = m ((c.tc : Thread Cert.CombinePromptIdeal.nD Cert.CombinePromptIdeal.τ).loc Cert.CombinePromptIdeal.main_arg0)
      ∧ m' ((c.tc : Thread Cert.CombinePromptReferenceIdeal.nD Cert.CombinePromptReferenceIdeal.τ).loc Cert.CombinePromptReferenceIdeal.main_arg1) = m ((c.tc : Thread Cert.CombinePromptIdeal.nD Cert.CombinePromptIdeal.τ).loc Cert.CombinePromptIdeal.main_arg1)
      ∧ m' ((c.tc : Thread Cert.CombinePromptReferenceIdeal.nD Cert.CombinePromptReferenceIdeal.τ).loc Cert.CombinePromptReferenceIdeal.main_arg2) = m ((c.tc : Thread Cert.CombinePromptIdeal.nD Cert.CombinePromptIdeal.τ).loc Cert.CombinePromptIdeal.main_arg2)
      ∧ m' ((c.tc : Thread Cert.CombinePromptReferenceIdeal.nD Cert.CombinePromptReferenceIdeal.τ).loc Cert.CombinePromptReferenceIdeal.main_arg3) = m ((c.tc : Thread Cert.CombinePromptIdeal.nD Cert.CombinePromptIdeal.τ).loc Cert.CombinePromptIdeal.main_arg3)
      ∧ m' ((c.tc : Thread Cert.CombinePromptReferenceIdeal.nD Cert.CombinePromptReferenceIdeal.τ).loc Cert.CombinePromptReferenceIdeal.main_arg4) = m ((c.tc : Thread Cert.CombinePromptIdeal.nD Cert.CombinePromptIdeal.τ).loc Cert.CombinePromptIdeal.main_arg4)) →
    ∃ (v0 : (c : Dev Cert.CombinePromptIdeal.nD) → Buf (Elt Ideal) ((c.tc : Thread Cert.CombinePromptIdeal.nD Cert.CombinePromptIdeal.τ).loc Cert.CombinePromptIdeal.main_v1)),
      θ_run (Cert.CombinePromptIdeal.defs (F := Ideal)) (onTc (τ := Cert.CombinePromptIdeal.τ) (Cert.CombinePromptIdeal.main (F := Ideal))) ⟨m, fun _ => 0, g⟩ (fun r => ∀ c : Dev Cert.CombinePromptIdeal.nD,
          r.2.mem ((c.tc : Thread Cert.CombinePromptIdeal.nD Cert.CombinePromptIdeal.τ).loc Cert.CombinePromptIdeal.main_v1) = v0 c
          ∧ r.2.mem ((c.tc : Thread Cert.CombinePromptIdeal.nD Cert.CombinePromptIdeal.τ).loc Cert.CombinePromptIdeal.main_arg0) = m ((c.tc : Thread Cert.CombinePromptIdeal.nD Cert.CombinePromptIdeal.τ).loc Cert.CombinePromptIdeal.main_arg0)
          ∧ r.2.mem ((c.tc : Thread Cert.CombinePromptIdeal.nD Cert.CombinePromptIdeal.τ).loc Cert.CombinePromptIdeal.main_arg1) = m ((c.tc : Thread Cert.CombinePromptIdeal.nD Cert.CombinePromptIdeal.τ).loc Cert.CombinePromptIdeal.main_arg1)
          ∧ r.2.mem ((c.tc : Thread Cert.CombinePromptIdeal.nD Cert.CombinePromptIdeal.τ).loc Cert.CombinePromptIdeal.main_arg2) = m ((c.tc : Thread Cert.CombinePromptIdeal.nD Cert.CombinePromptIdeal.τ).loc Cert.CombinePromptIdeal.main_arg2)
          ∧ r.2.mem ((c.tc : Thread Cert.CombinePromptIdeal.nD Cert.CombinePromptIdeal.τ).loc Cert.CombinePromptIdeal.main_arg3) = m ((c.tc : Thread Cert.CombinePromptIdeal.nD Cert.CombinePromptIdeal.τ).loc Cert.CombinePromptIdeal.main_arg3)
          ∧ r.2.mem ((c.tc : Thread Cert.CombinePromptIdeal.nD Cert.CombinePromptIdeal.τ).loc Cert.CombinePromptIdeal.main_arg4) = m ((c.tc : Thread Cert.CombinePromptIdeal.nD Cert.CombinePromptIdeal.τ).loc Cert.CombinePromptIdeal.main_arg4))
      ∧ θ_run (Cert.CombinePromptReferenceIdeal.defs (F := Ideal)) (onTc (τ := Cert.CombinePromptReferenceIdeal.τ) (Cert.CombinePromptReferenceIdeal.main (F := Ideal))) ⟨m', fun _ => 0, g'⟩ (fun r => ∀ c : Dev Cert.CombinePromptReferenceIdeal.nD,
          r.2.mem ((c.tc : Thread Cert.CombinePromptReferenceIdeal.nD Cert.CombinePromptReferenceIdeal.τ).loc Cert.CombinePromptReferenceIdeal.main_v29) = v0 c
          ∧ r.2.mem ((c.tc : Thread Cert.CombinePromptReferenceIdeal.nD Cert.CombinePromptReferenceIdeal.τ).loc Cert.CombinePromptReferenceIdeal.main_arg0) = m' ((c.tc : Thread Cert.CombinePromptReferenceIdeal.nD Cert.CombinePromptReferenceIdeal.τ).loc Cert.CombinePromptReferenceIdeal.main_arg0)
          ∧ r.2.mem ((c.tc : Thread Cert.CombinePromptReferenceIdeal.nD Cert.CombinePromptReferenceIdeal.τ).loc Cert.CombinePromptReferenceIdeal.main_arg1) = m' ((c.tc : Thread Cert.CombinePromptReferenceIdeal.nD Cert.CombinePromptReferenceIdeal.τ).loc Cert.CombinePromptReferenceIdeal.main_arg1)
          ∧ r.2.mem ((c.tc : Thread Cert.CombinePromptReferenceIdeal.nD Cert.CombinePromptReferenceIdeal.τ).loc Cert.CombinePromptReferenceIdeal.main_arg2) = m' ((c.tc : Thread Cert.CombinePromptReferenceIdeal.nD Cert.CombinePromptReferenceIdeal.τ).loc Cert.CombinePromptReferenceIdeal.main_arg2)
          ∧ r.2.mem ((c.tc : Thread Cert.CombinePromptReferenceIdeal.nD Cert.CombinePromptReferenceIdeal.τ).loc Cert.CombinePromptReferenceIdeal.main_arg3) = m' ((c.tc : Thread Cert.CombinePromptReferenceIdeal.nD Cert.CombinePromptReferenceIdeal.τ).loc Cert.CombinePromptReferenceIdeal.main_arg3)
          ∧ r.2.mem ((c.tc : Thread Cert.CombinePromptReferenceIdeal.nD Cert.CombinePromptReferenceIdeal.τ).loc Cert.CombinePromptReferenceIdeal.main_arg4) = m' ((c.tc : Thread Cert.CombinePromptReferenceIdeal.nD Cert.CombinePromptReferenceIdeal.τ).loc Cert.CombinePromptReferenceIdeal.main_arg4))

def preserves_CombineSample_CombineSampleIdeal : Prop :=
  True

def algebraic_CombineSampleIdeal_CombineSampleReferenceIdeal [hCombineSampleIdeal : Cert.CombineSampleIdeal.Facts] [hCombineSampleReferenceIdeal : Cert.CombineSampleReferenceIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg)
    (m' : (ℓ : Loc Cert.CombineSampleReferenceIdeal.nD Cert.CombineSampleReferenceIdeal.τ Cert.CombineSampleReferenceIdeal.sig) → Buf (Elt Ideal) ℓ) (g' : Dev Cert.CombineSampleReferenceIdeal.nD → PrngReg), Pre_CombineSampleIdeal m →
    (∀ c : Dev Cert.CombineSampleIdeal.nD,
      m' ((c.tc : Thread Cert.CombineSampleReferenceIdeal.nD Cert.CombineSampleReferenceIdeal.τ).loc Cert.CombineSampleReferenceIdeal.main_arg0) = m ((c.tc : Thread Cert.CombineSampleIdeal.nD Cert.CombineSampleIdeal.τ).loc Cert.CombineSampleIdeal.main_arg0)
      ∧ m' ((c.tc : Thread Cert.CombineSampleReferenceIdeal.nD Cert.CombineSampleReferenceIdeal.τ).loc Cert.CombineSampleReferenceIdeal.main_arg1) = m ((c.tc : Thread Cert.CombineSampleIdeal.nD Cert.CombineSampleIdeal.τ).loc Cert.CombineSampleIdeal.main_arg1)
      ∧ m' ((c.tc : Thread Cert.CombineSampleReferenceIdeal.nD Cert.CombineSampleReferenceIdeal.τ).loc Cert.CombineSampleReferenceIdeal.main_arg2) = m ((c.tc : Thread Cert.CombineSampleIdeal.nD Cert.CombineSampleIdeal.τ).loc Cert.CombineSampleIdeal.main_arg2)
      ∧ m' ((c.tc : Thread Cert.CombineSampleReferenceIdeal.nD Cert.CombineSampleReferenceIdeal.τ).loc Cert.CombineSampleReferenceIdeal.main_arg3) = m ((c.tc : Thread Cert.CombineSampleIdeal.nD Cert.CombineSampleIdeal.τ).loc Cert.CombineSampleIdeal.main_arg3)
      ∧ m' ((c.tc : Thread Cert.CombineSampleReferenceIdeal.nD Cert.CombineSampleReferenceIdeal.τ).loc Cert.CombineSampleReferenceIdeal.main_arg4) = m ((c.tc : Thread Cert.CombineSampleIdeal.nD Cert.CombineSampleIdeal.τ).loc Cert.CombineSampleIdeal.main_arg4)) →
    ∃ (v0 : (c : Dev Cert.CombineSampleIdeal.nD) → Buf (Elt Ideal) ((c.tc : Thread Cert.CombineSampleIdeal.nD Cert.CombineSampleIdeal.τ).loc Cert.CombineSampleIdeal.main_v1)),
      θ_run (Cert.CombineSampleIdeal.defs (F := Ideal)) (onTc (τ := Cert.CombineSampleIdeal.τ) (Cert.CombineSampleIdeal.main (F := Ideal))) ⟨m, fun _ => 0, g⟩ (fun r => ∀ c : Dev Cert.CombineSampleIdeal.nD,
          r.2.mem ((c.tc : Thread Cert.CombineSampleIdeal.nD Cert.CombineSampleIdeal.τ).loc Cert.CombineSampleIdeal.main_v1) = v0 c
          ∧ r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
          ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
          ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2)
          ∧ r.2.mem ((c.tc : Thread Cert.CombineSampleIdeal.nD Cert.CombineSampleIdeal.τ).loc Cert.CombineSampleIdeal.main_arg3) = m ((c.tc : Thread Cert.CombineSampleIdeal.nD Cert.CombineSampleIdeal.τ).loc Cert.CombineSampleIdeal.main_arg3)
          ∧ r.2.mem ((c.tc : Thread Cert.CombineSampleIdeal.nD Cert.CombineSampleIdeal.τ).loc Cert.CombineSampleIdeal.main_arg4) = m ((c.tc : Thread Cert.CombineSampleIdeal.nD Cert.CombineSampleIdeal.τ).loc Cert.CombineSampleIdeal.main_arg4))
      ∧ θ_run (Cert.CombineSampleReferenceIdeal.defs (F := Ideal)) (onTc (τ := Cert.CombineSampleReferenceIdeal.τ) (Cert.CombineSampleReferenceIdeal.main (F := Ideal))) ⟨m', fun _ => 0, g'⟩ (fun r => ∀ c : Dev Cert.CombineSampleReferenceIdeal.nD,
          r.2.mem ((c.tc : Thread Cert.CombineSampleReferenceIdeal.nD Cert.CombineSampleReferenceIdeal.τ).loc Cert.CombineSampleReferenceIdeal.main_v29) = v0 c
          ∧ r.2.mem ((c.tc : Thread Cert.CombineSampleReferenceIdeal.nD Cert.CombineSampleReferenceIdeal.τ).loc Cert.CombineSampleReferenceIdeal.main_arg0) = m' ((c.tc : Thread Cert.CombineSampleReferenceIdeal.nD Cert.CombineSampleReferenceIdeal.τ).loc Cert.CombineSampleReferenceIdeal.main_arg0)
          ∧ r.2.mem ((c.tc : Thread Cert.CombineSampleReferenceIdeal.nD Cert.CombineSampleReferenceIdeal.τ).loc Cert.CombineSampleReferenceIdeal.main_arg1) = m' ((c.tc : Thread Cert.CombineSampleReferenceIdeal.nD Cert.CombineSampleReferenceIdeal.τ).loc Cert.CombineSampleReferenceIdeal.main_arg1)
          ∧ r.2.mem ((c.tc : Thread Cert.CombineSampleReferenceIdeal.nD Cert.CombineSampleReferenceIdeal.τ).loc Cert.CombineSampleReferenceIdeal.main_arg2) = m' ((c.tc : Thread Cert.CombineSampleReferenceIdeal.nD Cert.CombineSampleReferenceIdeal.τ).loc Cert.CombineSampleReferenceIdeal.main_arg2)
          ∧ r.2.mem ((c.tc : Thread Cert.CombineSampleReferenceIdeal.nD Cert.CombineSampleReferenceIdeal.τ).loc Cert.CombineSampleReferenceIdeal.main_arg3) = m' ((c.tc : Thread Cert.CombineSampleReferenceIdeal.nD Cert.CombineSampleReferenceIdeal.τ).loc Cert.CombineSampleReferenceIdeal.main_arg3)
          ∧ r.2.mem ((c.tc : Thread Cert.CombineSampleReferenceIdeal.nD Cert.CombineSampleReferenceIdeal.τ).loc Cert.CombineSampleReferenceIdeal.main_arg4) = m' ((c.tc : Thread Cert.CombineSampleReferenceIdeal.nD Cert.CombineSampleReferenceIdeal.τ).loc Cert.CombineSampleReferenceIdeal.main_arg4))

def preserves_MixFirst_MixFirstIdeal : Prop :=
  True

def algebraic_MixFirstIdeal_MixFirstReferenceIdeal [hMixFirstIdeal : Cert.MixFirstIdeal.Facts] [hMixFirstReferenceIdeal : Cert.MixFirstReferenceIdeal.Facts] : Prop :=
  ∀ (m : (ℓ : Loc Cert.MixFirstIdeal.nD Cert.MixFirstIdeal.τ Cert.MixFirstIdeal.sig) → Buf (Elt Ideal) ℓ) (g : Dev Cert.MixFirstIdeal.nD → PrngReg)
    (m' : (ℓ : Loc Cert.MixFirstReferenceIdeal.nD Cert.MixFirstReferenceIdeal.τ Cert.MixFirstReferenceIdeal.sig) → Buf (Elt Ideal) ℓ) (g' : Dev Cert.MixFirstReferenceIdeal.nD → PrngReg), Pre_MixFirstIdeal m →
    (∀ c : Dev Cert.MixFirstIdeal.nD,
      m' ((c.tc : Thread Cert.MixFirstReferenceIdeal.nD Cert.MixFirstReferenceIdeal.τ).loc Cert.MixFirstReferenceIdeal.main_arg0) = m ((c.tc : Thread Cert.MixFirstIdeal.nD Cert.MixFirstIdeal.τ).loc Cert.MixFirstIdeal.main_arg0)
      ∧ m' ((c.tc : Thread Cert.MixFirstReferenceIdeal.nD Cert.MixFirstReferenceIdeal.τ).loc Cert.MixFirstReferenceIdeal.main_arg1) = m ((c.tc : Thread Cert.MixFirstIdeal.nD Cert.MixFirstIdeal.τ).loc Cert.MixFirstIdeal.main_arg1)
      ∧ m' ((c.tc : Thread Cert.MixFirstReferenceIdeal.nD Cert.MixFirstReferenceIdeal.τ).loc Cert.MixFirstReferenceIdeal.main_arg2) = m ((c.tc : Thread Cert.MixFirstIdeal.nD Cert.MixFirstIdeal.τ).loc Cert.MixFirstIdeal.main_arg2)
      ∧ m' ((c.tc : Thread Cert.MixFirstReferenceIdeal.nD Cert.MixFirstReferenceIdeal.τ).loc Cert.MixFirstReferenceIdeal.main_arg3) = m ((c.tc : Thread Cert.MixFirstIdeal.nD Cert.MixFirstIdeal.τ).loc Cert.MixFirstIdeal.main_arg3)
      ∧ m' ((c.tc : Thread Cert.MixFirstReferenceIdeal.nD Cert.MixFirstReferenceIdeal.τ).loc Cert.MixFirstReferenceIdeal.main_arg4) = m ((c.tc : Thread Cert.MixFirstIdeal.nD Cert.MixFirstIdeal.τ).loc Cert.MixFirstIdeal.main_arg4)
      ∧ m' ((c.tc : Thread Cert.MixFirstReferenceIdeal.nD Cert.MixFirstReferenceIdeal.τ).loc Cert.MixFirstReferenceIdeal.main_arg5) = m ((c.tc : Thread Cert.MixFirstIdeal.nD Cert.MixFirstIdeal.τ).loc Cert.MixFirstIdeal.main_arg5)) →
    ∃ (v0 : (c : Dev Cert.MixFirstIdeal.nD) → Buf (Elt Ideal) ((c.tc : Thread Cert.MixFirstIdeal.nD Cert.MixFirstIdeal.τ).loc Cert.MixFirstIdeal.main_v6_0)) (v1 : (c : Dev Cert.MixFirstIdeal.nD) → Buf (Elt Ideal) ((c.tc : Thread Cert.MixFirstIdeal.nD Cert.MixFirstIdeal.τ).loc Cert.MixFirstIdeal.main_v6_1)),
      θ_run (Cert.MixFirstIdeal.defs (F := Ideal)) (onTc (τ := Cert.MixFirstIdeal.τ) (Cert.MixFirstIdeal.main (F := Ideal))) ⟨m, fun _ => 0, g⟩ (fun r => ∀ c : Dev Cert.MixFirstIdeal.nD,
          r.2.mem ((c.tc : Thread Cert.MixFirstIdeal.nD Cert.MixFirstIdeal.τ).loc Cert.MixFirstIdeal.main_v6_0) = v0 c
          ∧ r.2.mem ((c.tc : Thread Cert.MixFirstIdeal.nD Cert.MixFirstIdeal.τ).loc Cert.MixFirstIdeal.main_v6_1) = v1 c
          ∧ r.2.mem ((c.tc : Thread Cert.MixFirstIdeal.nD Cert.MixFirstIdeal.τ).loc Cert.MixFirstIdeal.main_arg0) = m ((c.tc : Thread Cert.MixFirstIdeal.nD Cert.MixFirstIdeal.τ).loc Cert.MixFirstIdeal.main_arg0)
          ∧ r.2.mem ((c.tc : Thread Cert.MixFirstIdeal.nD Cert.MixFirstIdeal.τ).loc Cert.MixFirstIdeal.main_arg1) = m ((c.tc : Thread Cert.MixFirstIdeal.nD Cert.MixFirstIdeal.τ).loc Cert.MixFirstIdeal.main_arg1)
          ∧ r.2.mem ((c.tc : Thread Cert.MixFirstIdeal.nD Cert.MixFirstIdeal.τ).loc Cert.MixFirstIdeal.main_arg2) = m ((c.tc : Thread Cert.MixFirstIdeal.nD Cert.MixFirstIdeal.τ).loc Cert.MixFirstIdeal.main_arg2)
          ∧ r.2.mem ((c.tc : Thread Cert.MixFirstIdeal.nD Cert.MixFirstIdeal.τ).loc Cert.MixFirstIdeal.main_arg3) = m ((c.tc : Thread Cert.MixFirstIdeal.nD Cert.MixFirstIdeal.τ).loc Cert.MixFirstIdeal.main_arg3)
          ∧ r.2.mem ((c.tc : Thread Cert.MixFirstIdeal.nD Cert.MixFirstIdeal.τ).loc Cert.MixFirstIdeal.main_arg4) = m ((c.tc : Thread Cert.MixFirstIdeal.nD Cert.MixFirstIdeal.τ).loc Cert.MixFirstIdeal.main_arg4)
          ∧ r.2.mem ((c.tc : Thread Cert.MixFirstIdeal.nD Cert.MixFirstIdeal.τ).loc Cert.MixFirstIdeal.main_arg5) = m ((c.tc : Thread Cert.MixFirstIdeal.nD Cert.MixFirstIdeal.τ).loc Cert.MixFirstIdeal.main_arg5))
      ∧ θ_run (Cert.MixFirstReferenceIdeal.defs (F := Ideal)) (onTc (τ := Cert.MixFirstReferenceIdeal.τ) (Cert.MixFirstReferenceIdeal.main (F := Ideal))) ⟨m', fun _ => 0, g'⟩ (fun r => ∀ c : Dev Cert.MixFirstReferenceIdeal.nD,
          r.2.mem ((c.tc : Thread Cert.MixFirstReferenceIdeal.nD Cert.MixFirstReferenceIdeal.τ).loc Cert.MixFirstReferenceIdeal.main_v21) = v0 c
          ∧ r.2.mem ((c.tc : Thread Cert.MixFirstReferenceIdeal.nD Cert.MixFirstReferenceIdeal.τ).loc Cert.MixFirstReferenceIdeal.main_v61) = v1 c
          ∧ r.2.mem ((c.tc : Thread Cert.MixFirstReferenceIdeal.nD Cert.MixFirstReferenceIdeal.τ).loc Cert.MixFirstReferenceIdeal.main_arg0) = m' ((c.tc : Thread Cert.MixFirstReferenceIdeal.nD Cert.MixFirstReferenceIdeal.τ).loc Cert.MixFirstReferenceIdeal.main_arg0)
          ∧ r.2.mem ((c.tc : Thread Cert.MixFirstReferenceIdeal.nD Cert.MixFirstReferenceIdeal.τ).loc Cert.MixFirstReferenceIdeal.main_arg1) = m' ((c.tc : Thread Cert.MixFirstReferenceIdeal.nD Cert.MixFirstReferenceIdeal.τ).loc Cert.MixFirstReferenceIdeal.main_arg1)
          ∧ r.2.mem ((c.tc : Thread Cert.MixFirstReferenceIdeal.nD Cert.MixFirstReferenceIdeal.τ).loc Cert.MixFirstReferenceIdeal.main_arg2) = m' ((c.tc : Thread Cert.MixFirstReferenceIdeal.nD Cert.MixFirstReferenceIdeal.τ).loc Cert.MixFirstReferenceIdeal.main_arg2)
          ∧ r.2.mem ((c.tc : Thread Cert.MixFirstReferenceIdeal.nD Cert.MixFirstReferenceIdeal.τ).loc Cert.MixFirstReferenceIdeal.main_arg3) = m' ((c.tc : Thread Cert.MixFirstReferenceIdeal.nD Cert.MixFirstReferenceIdeal.τ).loc Cert.MixFirstReferenceIdeal.main_arg3)
          ∧ r.2.mem ((c.tc : Thread Cert.MixFirstReferenceIdeal.nD Cert.MixFirstReferenceIdeal.τ).loc Cert.MixFirstReferenceIdeal.main_arg4) = m' ((c.tc : Thread Cert.MixFirstReferenceIdeal.nD Cert.MixFirstReferenceIdeal.τ).loc Cert.MixFirstReferenceIdeal.main_arg4)
          ∧ r.2.mem ((c.tc : Thread Cert.MixFirstReferenceIdeal.nD Cert.MixFirstReferenceIdeal.τ).loc Cert.MixFirstReferenceIdeal.main_arg5) = m' ((c.tc : Thread Cert.MixFirstReferenceIdeal.nD Cert.MixFirstReferenceIdeal.τ).loc Cert.MixFirstReferenceIdeal.main_arg5))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)) →
    ∃ (v0 : (c : Dev Cert.GatingIdeal.nD) → Buf (Elt Ideal) ((c.tc : Thread Cert.GatingIdeal.nD Cert.GatingIdeal.τ).loc Cert.GatingIdeal.main_v5)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v5) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v29) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v8) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_NextSample_NextSampleIdeal : Prop :=
  True

def algebraic_NextSampleIdeal_NextSampleReferenceIdeal [hNextSampleIdeal : Cert.NextSampleIdeal.Facts] [hNextSampleReferenceIdeal : Cert.NextSampleReferenceIdeal.Facts] : Prop :=
  ∀ (m : (ℓ : Loc Cert.NextSampleIdeal.nD Cert.NextSampleIdeal.τ Cert.NextSampleIdeal.sig) → Buf (Elt Ideal) ℓ) (g : Dev Cert.NextSampleIdeal.nD → PrngReg)
    (m' : (ℓ : Loc Cert.NextSampleReferenceIdeal.nD Cert.NextSampleReferenceIdeal.τ Cert.NextSampleReferenceIdeal.sig) → Buf (Elt Ideal) ℓ) (g' : Dev Cert.NextSampleReferenceIdeal.nD → PrngReg), Pre_NextSampleIdeal m →
    (∀ c : Dev Cert.NextSampleIdeal.nD,
      m' ((c.tc : Thread Cert.NextSampleReferenceIdeal.nD Cert.NextSampleReferenceIdeal.τ).loc Cert.NextSampleReferenceIdeal.main_arg0) = m ((c.tc : Thread Cert.NextSampleIdeal.nD Cert.NextSampleIdeal.τ).loc Cert.NextSampleIdeal.main_arg0)
      ∧ m' ((c.tc : Thread Cert.NextSampleReferenceIdeal.nD Cert.NextSampleReferenceIdeal.τ).loc Cert.NextSampleReferenceIdeal.main_arg1) = m ((c.tc : Thread Cert.NextSampleIdeal.nD Cert.NextSampleIdeal.τ).loc Cert.NextSampleIdeal.main_arg1)
      ∧ m' ((c.tc : Thread Cert.NextSampleReferenceIdeal.nD Cert.NextSampleReferenceIdeal.τ).loc Cert.NextSampleReferenceIdeal.main_arg2) = m ((c.tc : Thread Cert.NextSampleIdeal.nD Cert.NextSampleIdeal.τ).loc Cert.NextSampleIdeal.main_arg2)
      ∧ m' ((c.tc : Thread Cert.NextSampleReferenceIdeal.nD Cert.NextSampleReferenceIdeal.τ).loc Cert.NextSampleReferenceIdeal.main_arg3) = m ((c.tc : Thread Cert.NextSampleIdeal.nD Cert.NextSampleIdeal.τ).loc Cert.NextSampleIdeal.main_arg3)
      ∧ m' ((c.tc : Thread Cert.NextSampleReferenceIdeal.nD Cert.NextSampleReferenceIdeal.τ).loc Cert.NextSampleReferenceIdeal.main_arg4) = m ((c.tc : Thread Cert.NextSampleIdeal.nD Cert.NextSampleIdeal.τ).loc Cert.NextSampleIdeal.main_arg4)
      ∧ m' ((c.tc : Thread Cert.NextSampleReferenceIdeal.nD Cert.NextSampleReferenceIdeal.τ).loc Cert.NextSampleReferenceIdeal.main_arg5) = m ((c.tc : Thread Cert.NextSampleIdeal.nD Cert.NextSampleIdeal.τ).loc Cert.NextSampleIdeal.main_arg5)) →
    ∃ (v0 : (c : Dev Cert.NextSampleIdeal.nD) → Buf (Elt Ideal) ((c.tc : Thread Cert.NextSampleIdeal.nD Cert.NextSampleIdeal.τ).loc Cert.NextSampleIdeal.main_v1_0)) (v1 : (c : Dev Cert.NextSampleIdeal.nD) → Buf (Elt Ideal) ((c.tc : Thread Cert.NextSampleIdeal.nD Cert.NextSampleIdeal.τ).loc Cert.NextSampleIdeal.main_v1_1)),
      θ_run (Cert.NextSampleIdeal.defs (F := Ideal)) (onTc (τ := Cert.NextSampleIdeal.τ) (Cert.NextSampleIdeal.main (F := Ideal))) ⟨m, fun _ => 0, g⟩ (fun r => ∀ c : Dev Cert.NextSampleIdeal.nD,
          r.2.mem ((c.tc : Thread Cert.NextSampleIdeal.nD Cert.NextSampleIdeal.τ).loc Cert.NextSampleIdeal.main_v1_0) = v0 c
          ∧ r.2.mem ((c.tc : Thread Cert.NextSampleIdeal.nD Cert.NextSampleIdeal.τ).loc Cert.NextSampleIdeal.main_v1_1) = v1 c
          ∧ r.2.mem ((c.tc : Thread Cert.NextSampleIdeal.nD Cert.NextSampleIdeal.τ).loc Cert.NextSampleIdeal.main_arg0) = m ((c.tc : Thread Cert.NextSampleIdeal.nD Cert.NextSampleIdeal.τ).loc Cert.NextSampleIdeal.main_arg0)
          ∧ r.2.mem ((c.tc : Thread Cert.NextSampleIdeal.nD Cert.NextSampleIdeal.τ).loc Cert.NextSampleIdeal.main_arg1) = m ((c.tc : Thread Cert.NextSampleIdeal.nD Cert.NextSampleIdeal.τ).loc Cert.NextSampleIdeal.main_arg1)
          ∧ r.2.mem ((c.tc : Thread Cert.NextSampleIdeal.nD Cert.NextSampleIdeal.τ).loc Cert.NextSampleIdeal.main_arg2) = m ((c.tc : Thread Cert.NextSampleIdeal.nD Cert.NextSampleIdeal.τ).loc Cert.NextSampleIdeal.main_arg2)
          ∧ r.2.mem ((c.tc : Thread Cert.NextSampleIdeal.nD Cert.NextSampleIdeal.τ).loc Cert.NextSampleIdeal.main_arg3) = m ((c.tc : Thread Cert.NextSampleIdeal.nD Cert.NextSampleIdeal.τ).loc Cert.NextSampleIdeal.main_arg3)
          ∧ r.2.mem ((c.tc : Thread Cert.NextSampleIdeal.nD Cert.NextSampleIdeal.τ).loc Cert.NextSampleIdeal.main_arg4) = m ((c.tc : Thread Cert.NextSampleIdeal.nD Cert.NextSampleIdeal.τ).loc Cert.NextSampleIdeal.main_arg4)
          ∧ r.2.mem ((c.tc : Thread Cert.NextSampleIdeal.nD Cert.NextSampleIdeal.τ).loc Cert.NextSampleIdeal.main_arg5) = m ((c.tc : Thread Cert.NextSampleIdeal.nD Cert.NextSampleIdeal.τ).loc Cert.NextSampleIdeal.main_arg5))
      ∧ θ_run (Cert.NextSampleReferenceIdeal.defs (F := Ideal)) (onTc (τ := Cert.NextSampleReferenceIdeal.τ) (Cert.NextSampleReferenceIdeal.main (F := Ideal))) ⟨m', fun _ => 0, g'⟩ (fun r => ∀ c : Dev Cert.NextSampleReferenceIdeal.nD,
          r.2.mem ((c.tc : Thread Cert.NextSampleReferenceIdeal.nD Cert.NextSampleReferenceIdeal.τ).loc Cert.NextSampleReferenceIdeal.main_v47) = v0 c
          ∧ r.2.mem ((c.tc : Thread Cert.NextSampleReferenceIdeal.nD Cert.NextSampleReferenceIdeal.τ).loc Cert.NextSampleReferenceIdeal.main_v50) = v1 c
          ∧ r.2.mem ((c.tc : Thread Cert.NextSampleReferenceIdeal.nD Cert.NextSampleReferenceIdeal.τ).loc Cert.NextSampleReferenceIdeal.main_arg0) = m' ((c.tc : Thread Cert.NextSampleReferenceIdeal.nD Cert.NextSampleReferenceIdeal.τ).loc Cert.NextSampleReferenceIdeal.main_arg0)
          ∧ r.2.mem ((c.tc : Thread Cert.NextSampleReferenceIdeal.nD Cert.NextSampleReferenceIdeal.τ).loc Cert.NextSampleReferenceIdeal.main_arg1) = m' ((c.tc : Thread Cert.NextSampleReferenceIdeal.nD Cert.NextSampleReferenceIdeal.τ).loc Cert.NextSampleReferenceIdeal.main_arg1)
          ∧ r.2.mem ((c.tc : Thread Cert.NextSampleReferenceIdeal.nD Cert.NextSampleReferenceIdeal.τ).loc Cert.NextSampleReferenceIdeal.main_arg2) = m' ((c.tc : Thread Cert.NextSampleReferenceIdeal.nD Cert.NextSampleReferenceIdeal.τ).loc Cert.NextSampleReferenceIdeal.main_arg2)
          ∧ r.2.mem ((c.tc : Thread Cert.NextSampleReferenceIdeal.nD Cert.NextSampleReferenceIdeal.τ).loc Cert.NextSampleReferenceIdeal.main_arg3) = m' ((c.tc : Thread Cert.NextSampleReferenceIdeal.nD Cert.NextSampleReferenceIdeal.τ).loc Cert.NextSampleReferenceIdeal.main_arg3)
          ∧ r.2.mem ((c.tc : Thread Cert.NextSampleReferenceIdeal.nD Cert.NextSampleReferenceIdeal.τ).loc Cert.NextSampleReferenceIdeal.main_arg4) = m' ((c.tc : Thread Cert.NextSampleReferenceIdeal.nD Cert.NextSampleReferenceIdeal.τ).loc Cert.NextSampleReferenceIdeal.main_arg4)
          ∧ r.2.mem ((c.tc : Thread Cert.NextSampleReferenceIdeal.nD Cert.NextSampleReferenceIdeal.τ).loc Cert.NextSampleReferenceIdeal.main_arg5) = m' ((c.tc : Thread Cert.NextSampleReferenceIdeal.nD Cert.NextSampleReferenceIdeal.τ).loc Cert.NextSampleReferenceIdeal.main_arg5))

def preserves_EnterSample_EnterSampleIdeal : Prop :=
  True

def algebraic_EnterSampleIdeal_EnterSampleReferenceIdeal [hEnterSampleIdeal : Cert.EnterSampleIdeal.Facts] [hEnterSampleReferenceIdeal : Cert.EnterSampleReferenceIdeal.Facts] : Prop :=
  ∀ (m : (ℓ : Loc Cert.EnterSampleIdeal.nD Cert.EnterSampleIdeal.τ Cert.EnterSampleIdeal.sig) → Buf (Elt Ideal) ℓ) (g : Dev Cert.EnterSampleIdeal.nD → PrngReg)
    (m' : (ℓ : Loc Cert.EnterSampleReferenceIdeal.nD Cert.EnterSampleReferenceIdeal.τ Cert.EnterSampleReferenceIdeal.sig) → Buf (Elt Ideal) ℓ) (g' : Dev Cert.EnterSampleReferenceIdeal.nD → PrngReg), Pre_EnterSampleIdeal m →
    (∀ c : Dev Cert.EnterSampleIdeal.nD,
      m' ((c.tc : Thread Cert.EnterSampleReferenceIdeal.nD Cert.EnterSampleReferenceIdeal.τ).loc Cert.EnterSampleReferenceIdeal.main_arg0) = m ((c.tc : Thread Cert.EnterSampleIdeal.nD Cert.EnterSampleIdeal.τ).loc Cert.EnterSampleIdeal.main_arg0)
      ∧ m' ((c.tc : Thread Cert.EnterSampleReferenceIdeal.nD Cert.EnterSampleReferenceIdeal.τ).loc Cert.EnterSampleReferenceIdeal.main_arg1) = m ((c.tc : Thread Cert.EnterSampleIdeal.nD Cert.EnterSampleIdeal.τ).loc Cert.EnterSampleIdeal.main_arg1)
      ∧ m' ((c.tc : Thread Cert.EnterSampleReferenceIdeal.nD Cert.EnterSampleReferenceIdeal.τ).loc Cert.EnterSampleReferenceIdeal.main_arg2) = m ((c.tc : Thread Cert.EnterSampleIdeal.nD Cert.EnterSampleIdeal.τ).loc Cert.EnterSampleIdeal.main_arg2)
      ∧ m' ((c.tc : Thread Cert.EnterSampleReferenceIdeal.nD Cert.EnterSampleReferenceIdeal.τ).loc Cert.EnterSampleReferenceIdeal.main_arg3) = m ((c.tc : Thread Cert.EnterSampleIdeal.nD Cert.EnterSampleIdeal.τ).loc Cert.EnterSampleIdeal.main_arg3)) →
    ∃ (v0 : (c : Dev Cert.EnterSampleIdeal.nD) → Buf (Elt Ideal) ((c.tc : Thread Cert.EnterSampleIdeal.nD Cert.EnterSampleIdeal.τ).loc Cert.EnterSampleIdeal.main_v2)),
      θ_run (Cert.EnterSampleIdeal.defs (F := Ideal)) (onTc (τ := Cert.EnterSampleIdeal.τ) (Cert.EnterSampleIdeal.main (F := Ideal))) ⟨m, fun _ => 0, g⟩ (fun r => ∀ c : Dev Cert.EnterSampleIdeal.nD,
          r.2.mem ((c.tc : Thread Cert.EnterSampleIdeal.nD Cert.EnterSampleIdeal.τ).loc Cert.EnterSampleIdeal.main_v2) = v0 c
          ∧ r.2.mem ((c.tc : Thread Cert.EnterSampleIdeal.nD Cert.EnterSampleIdeal.τ).loc Cert.EnterSampleIdeal.main_arg0) = m ((c.tc : Thread Cert.EnterSampleIdeal.nD Cert.EnterSampleIdeal.τ).loc Cert.EnterSampleIdeal.main_arg0)
          ∧ r.2.mem ((c.tc : Thread Cert.EnterSampleIdeal.nD Cert.EnterSampleIdeal.τ).loc Cert.EnterSampleIdeal.main_arg1) = m ((c.tc : Thread Cert.EnterSampleIdeal.nD Cert.EnterSampleIdeal.τ).loc Cert.EnterSampleIdeal.main_arg1)
          ∧ r.2.mem ((c.tc : Thread Cert.EnterSampleIdeal.nD Cert.EnterSampleIdeal.τ).loc Cert.EnterSampleIdeal.main_arg2) = m ((c.tc : Thread Cert.EnterSampleIdeal.nD Cert.EnterSampleIdeal.τ).loc Cert.EnterSampleIdeal.main_arg2)
          ∧ r.2.mem ((c.tc : Thread Cert.EnterSampleIdeal.nD Cert.EnterSampleIdeal.τ).loc Cert.EnterSampleIdeal.main_arg3) = m ((c.tc : Thread Cert.EnterSampleIdeal.nD Cert.EnterSampleIdeal.τ).loc Cert.EnterSampleIdeal.main_arg3))
      ∧ θ_run (Cert.EnterSampleReferenceIdeal.defs (F := Ideal)) (onTc (τ := Cert.EnterSampleReferenceIdeal.τ) (Cert.EnterSampleReferenceIdeal.main (F := Ideal))) ⟨m', fun _ => 0, g'⟩ (fun r => ∀ c : Dev Cert.EnterSampleReferenceIdeal.nD,
          r.2.mem ((c.tc : Thread Cert.EnterSampleReferenceIdeal.nD Cert.EnterSampleReferenceIdeal.τ).loc Cert.EnterSampleReferenceIdeal.main_v33) = v0 c
          ∧ r.2.mem ((c.tc : Thread Cert.EnterSampleReferenceIdeal.nD Cert.EnterSampleReferenceIdeal.τ).loc Cert.EnterSampleReferenceIdeal.main_arg0) = m' ((c.tc : Thread Cert.EnterSampleReferenceIdeal.nD Cert.EnterSampleReferenceIdeal.τ).loc Cert.EnterSampleReferenceIdeal.main_arg0)
          ∧ r.2.mem ((c.tc : Thread Cert.EnterSampleReferenceIdeal.nD Cert.EnterSampleReferenceIdeal.τ).loc Cert.EnterSampleReferenceIdeal.main_arg1) = m' ((c.tc : Thread Cert.EnterSampleReferenceIdeal.nD Cert.EnterSampleReferenceIdeal.τ).loc Cert.EnterSampleReferenceIdeal.main_arg1)
          ∧ r.2.mem ((c.tc : Thread Cert.EnterSampleReferenceIdeal.nD Cert.EnterSampleReferenceIdeal.τ).loc Cert.EnterSampleReferenceIdeal.main_arg2) = m' ((c.tc : Thread Cert.EnterSampleReferenceIdeal.nD Cert.EnterSampleReferenceIdeal.τ).loc Cert.EnterSampleReferenceIdeal.main_arg2)
          ∧ r.2.mem ((c.tc : Thread Cert.EnterSampleReferenceIdeal.nD Cert.EnterSampleReferenceIdeal.τ).loc Cert.EnterSampleReferenceIdeal.main_arg3) = m' ((c.tc : Thread Cert.EnterSampleReferenceIdeal.nD Cert.EnterSampleReferenceIdeal.τ).loc Cert.EnterSampleReferenceIdeal.main_arg3))

def Claim : Prop :=
  ∃ (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hProjectA : Cert.ProjectA.Facts) (hProjectAIdeal : Cert.ProjectAIdeal.Facts) (hProjectAReferenceIdeal : Cert.ProjectAReferenceIdeal.Facts) (hProjectB : Cert.ProjectB.Facts) (hProjectBIdeal : Cert.ProjectBIdeal.Facts) (hProjectBReferenceIdeal : Cert.ProjectBReferenceIdeal.Facts) (hGatedIn : Cert.GatedIn.Facts) (hGatedInIdeal : Cert.GatedInIdeal.Facts) (hGatedInReferenceIdeal : Cert.GatedInReferenceIdeal.Facts) (hMixOut : Cert.MixOut.Facts) (hMixOutIdeal : Cert.MixOutIdeal.Facts) (hMixOutReferenceIdeal : Cert.MixOutReferenceIdeal.Facts) (hContextA : Cert.ContextA.Facts) (hContextAIdeal : Cert.ContextAIdeal.Facts) (hContextAReferenceIdeal : Cert.ContextAReferenceIdeal.Facts) (hContextB : Cert.ContextB.Facts) (hContextBIdeal : Cert.ContextBIdeal.Facts) (hContextBReferenceIdeal : Cert.ContextBReferenceIdeal.Facts) (hCombinePrompt : Cert.CombinePrompt.Facts) (hCombinePromptIdeal : Cert.CombinePromptIdeal.Facts) (hCombinePromptReferenceIdeal : Cert.CombinePromptReferenceIdeal.Facts) (hCombineSample : Cert.CombineSample.Facts) (hCombineSampleIdeal : Cert.CombineSampleIdeal.Facts) (hCombineSampleReferenceIdeal : Cert.CombineSampleReferenceIdeal.Facts) (hMixFirst : Cert.MixFirst.Facts) (hMixFirstIdeal : Cert.MixFirstIdeal.Facts) (hMixFirstReferenceIdeal : Cert.MixFirstReferenceIdeal.Facts) (hGating : Cert.Gating.Facts) (hGatingIdeal : Cert.GatingIdeal.Facts) (hGatingReferenceIdeal : Cert.GatingReferenceIdeal.Facts) (hModulation : Cert.Modulation.Facts) (hModulationIdeal : Cert.ModulationIdeal.Facts) (hModulationReferenceIdeal : Cert.ModulationReferenceIdeal.Facts) (hNextSample : Cert.NextSample.Facts) (hNextSampleIdeal : Cert.NextSampleIdeal.Facts) (hNextSampleReferenceIdeal : Cert.NextSampleReferenceIdeal.Facts) (hEnterSample : Cert.EnterSample.Facts) (hEnterSampleIdeal : Cert.EnterSampleIdeal.Facts) (hEnterSampleReferenceIdeal : Cert.EnterSampleReferenceIdeal.Facts) (hPre_finite_a : Cert.Pre_finite_a.Facts) (hPre_finite_b : Cert.Pre_finite_b.Facts) (hOn_context_rows_a : Cert.On_context_rows_a.Facts) (hOn_context_rows_b : Cert.On_context_rows_b.Facts),
    quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_ProjectA (hProjectA := hProjectA)
    ∧ quiescent_ProjectAIdeal (hProjectAIdeal := hProjectAIdeal)
    ∧ quiescent_ProjectAReferenceIdeal (hProjectAReferenceIdeal := hProjectAReferenceIdeal)
    ∧ quiescent_ProjectB (hProjectB := hProjectB)
    ∧ quiescent_ProjectBIdeal (hProjectBIdeal := hProjectBIdeal)
    ∧ quiescent_ProjectBReferenceIdeal (hProjectBReferenceIdeal := hProjectBReferenceIdeal)
    ∧ quiescent_GatedIn (hGatedIn := hGatedIn)
    ∧ quiescent_GatedInIdeal (hGatedInIdeal := hGatedInIdeal)
    ∧ quiescent_GatedInReferenceIdeal (hGatedInReferenceIdeal := hGatedInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_ContextA (hContextA := hContextA)
    ∧ quiescent_ContextAIdeal (hContextAIdeal := hContextAIdeal)
    ∧ quiescent_ContextAIdeal_pre_finite_a (hContextAIdeal := hContextAIdeal) (hPre_finite_a := hPre_finite_a)
    ∧ quiescent_ContextAReferenceIdeal (hContextAReferenceIdeal := hContextAReferenceIdeal)
    ∧ quiescent_ContextAReferenceIdeal_pre_finite_a (hContextAReferenceIdeal := hContextAReferenceIdeal) (hPre_finite_a := hPre_finite_a)
    ∧ quiescent_ContextB (hContextB := hContextB)
    ∧ quiescent_ContextBIdeal (hContextBIdeal := hContextBIdeal)
    ∧ quiescent_ContextBIdeal_pre_finite_b (hContextBIdeal := hContextBIdeal) (hPre_finite_b := hPre_finite_b)
    ∧ quiescent_ContextBReferenceIdeal (hContextBReferenceIdeal := hContextBReferenceIdeal)
    ∧ quiescent_ContextBReferenceIdeal_pre_finite_b (hContextBReferenceIdeal := hContextBReferenceIdeal) (hPre_finite_b := hPre_finite_b)
    ∧ quiescent_CombinePrompt (hCombinePrompt := hCombinePrompt)
    ∧ quiescent_CombinePromptIdeal (hCombinePromptIdeal := hCombinePromptIdeal)
    ∧ quiescent_CombinePromptReferenceIdeal (hCombinePromptReferenceIdeal := hCombinePromptReferenceIdeal)
    ∧ quiescent_CombineSample (hCombineSample := hCombineSample)
    ∧ quiescent_CombineSampleIdeal (hCombineSampleIdeal := hCombineSampleIdeal)
    ∧ quiescent_CombineSampleReferenceIdeal (hCombineSampleReferenceIdeal := hCombineSampleReferenceIdeal)
    ∧ quiescent_MixFirst (hMixFirst := hMixFirst)
    ∧ quiescent_MixFirstIdeal (hMixFirstIdeal := hMixFirstIdeal)
    ∧ quiescent_MixFirstReferenceIdeal (hMixFirstReferenceIdeal := hMixFirstReferenceIdeal)
    ∧ quiescent_Gating (hGating := hGating)
    ∧ quiescent_GatingIdeal (hGatingIdeal := hGatingIdeal)
    ∧ quiescent_GatingReferenceIdeal (hGatingReferenceIdeal := hGatingReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_NextSample (hNextSample := hNextSample)
    ∧ quiescent_NextSampleIdeal (hNextSampleIdeal := hNextSampleIdeal)
    ∧ quiescent_NextSampleReferenceIdeal (hNextSampleReferenceIdeal := hNextSampleReferenceIdeal)
    ∧ quiescent_EnterSample (hEnterSample := hEnterSample)
    ∧ quiescent_EnterSampleIdeal (hEnterSampleIdeal := hEnterSampleIdeal)
    ∧ quiescent_EnterSampleReferenceIdeal (hEnterSampleReferenceIdeal := hEnterSampleReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_ProjectA_ProjectAIdeal
    ∧ algebraic_ProjectAIdeal_ProjectAReferenceIdeal (hProjectAIdeal := hProjectAIdeal) (hProjectAReferenceIdeal := hProjectAReferenceIdeal)
    ∧ preserves_ProjectB_ProjectBIdeal
    ∧ algebraic_ProjectBIdeal_ProjectBReferenceIdeal (hProjectBIdeal := hProjectBIdeal) (hProjectBReferenceIdeal := hProjectBReferenceIdeal)
    ∧ preserves_GatedIn_GatedInIdeal
    ∧ algebraic_GatedInIdeal_GatedInReferenceIdeal (hGatedInIdeal := hGatedInIdeal) (hGatedInReferenceIdeal := hGatedInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_ContextA_ContextAIdeal
    ∧ algebraic_ContextAIdeal_ContextAReferenceIdeal_on_context_rows_a_pre_finite_a (hContextAIdeal := hContextAIdeal) (hContextAReferenceIdeal := hContextAReferenceIdeal) (hPre_finite_a := hPre_finite_a) (hOn_context_rows_a := hOn_context_rows_a)
    ∧ preserves_ContextB_ContextBIdeal
    ∧ algebraic_ContextBIdeal_ContextBReferenceIdeal_on_context_rows_b_pre_finite_b (hContextBIdeal := hContextBIdeal) (hContextBReferenceIdeal := hContextBReferenceIdeal) (hPre_finite_b := hPre_finite_b) (hOn_context_rows_b := hOn_context_rows_b)
    ∧ preserves_CombinePrompt_CombinePromptIdeal
    ∧ algebraic_CombinePromptIdeal_CombinePromptReferenceIdeal (hCombinePromptIdeal := hCombinePromptIdeal) (hCombinePromptReferenceIdeal := hCombinePromptReferenceIdeal)
    ∧ preserves_CombineSample_CombineSampleIdeal
    ∧ algebraic_CombineSampleIdeal_CombineSampleReferenceIdeal (hCombineSampleIdeal := hCombineSampleIdeal) (hCombineSampleReferenceIdeal := hCombineSampleReferenceIdeal)
    ∧ preserves_MixFirst_MixFirstIdeal
    ∧ algebraic_MixFirstIdeal_MixFirstReferenceIdeal (hMixFirstIdeal := hMixFirstIdeal) (hMixFirstReferenceIdeal := hMixFirstReferenceIdeal)
    ∧ preserves_Gating_GatingIdeal
    ∧ algebraic_GatingIdeal_GatingReferenceIdeal (hGatingIdeal := hGatingIdeal) (hGatingReferenceIdeal := hGatingReferenceIdeal)
    ∧ preserves_Modulation_ModulationIdeal
    ∧ algebraic_ModulationIdeal_ModulationReferenceIdeal (hModulationIdeal := hModulationIdeal) (hModulationReferenceIdeal := hModulationReferenceIdeal)
    ∧ preserves_NextSample_NextSampleIdeal
    ∧ algebraic_NextSampleIdeal_NextSampleReferenceIdeal (hNextSampleIdeal := hNextSampleIdeal) (hNextSampleReferenceIdeal := hNextSampleReferenceIdeal)
    ∧ preserves_EnterSample_EnterSampleIdeal
    ∧ algebraic_EnterSampleIdeal_EnterSampleReferenceIdeal (hEnterSampleIdeal := hEnterSampleIdeal) (hEnterSampleReferenceIdeal := hEnterSampleReferenceIdeal)
-- ==== On_context_rows_a.lean ====
abbrev S12288x3072 : Shape := ⟨2, ![12288, 3072]⟩
abbrev S16 : Shape := ⟨1, ![16]⟩
abbrev S12288x2048 : Shape := ⟨2, ![12288, 2048]⟩
abbrev S_ : Shape := ⟨0, ![]⟩
abbrev S16x256x4x128 : Shape := ⟨4, ![16, 256, 4, 128]⟩

class Facts : Prop where
  bcast_S_S12288x2048 : S_.BroadcastsInDim S12288x2048 (![] : Fin 0 → Fin S12288x2048.rank)
  bcast_S_S16x256x4x128 : S_.BroadcastsInDim S16x256x4x128 (![] : Fin 0 → Fin S16x256x4x128.rank)

variable [Facts]

def fn {F : FTy → Type} [FloatOps F] (main_arg0 : FVec F S12288x3072 .f32) (main_arg1 : FVec F S16 .f32) : IVec S12288x2048 1 × IVec S16x256x4x128 1 × IVec S16x256x4x128 1 :=
  let main_v0 : IVec S12288x2048 32 := iotaInDim S12288x2048 32 0
  let main_c : IVec S_ 32 := constantI S_ 32 4096#32
  let main_v1 : IVec S12288x2048 32 := broadcastInDim S12288x2048 ![] bcast_S_S12288x2048 main_c
  let main_v2 : IVec S12288x2048 1 := cmpi .slt main_v0 main_v1
  let main_c_0 : IVec S_ 1 := constantI S_ 1 1#1
  let main_v3 : IVec S16x256x4x128 1 := broadcastInDim S16x256x4x128 ![] bcast_S_S16x256x4x128 main_c_0
  let main_c_1 : IVec S_ 1 := constantI S_ 1 1#1
  let main_v4 : IVec S16x256x4x128 1 := broadcastInDim S16x256x4x128 ![] bcast_S_S16x256x4x128 main_c_1
  (main_v2, main_v3, main_v4)
-- ==== On_context_rows_b.lean ====
abbrev S12288x6144 : Shape := ⟨2, ![12288, 6144]⟩
abbrev S12288x2048 : Shape := ⟨2, ![12288, 2048]⟩
abbrev S_ : Shape := ⟨0, ![]⟩
abbrev S16x256x16x128 : Shape := ⟨4, ![16, 256, 16, 128]⟩

class Facts : Prop where
  bcast_S_S12288x2048 : S_.BroadcastsInDim S12288x2048 (![] : Fin 0 → Fin S12288x2048.rank)
  bcast_S_S16x256x16x128 : S_.BroadcastsInDim S16x256x16x128 (![] : Fin 0 → Fin S16x256x16x128.rank)

variable [Facts]

def fn {F : FTy → Type} [FloatOps F] (main_arg0 : FVec F S12288x6144 .f32) : IVec S12288x2048 1 × IVec S16x256x16x128 1 × IVec S16x256x16x128 1 :=
  let main_v0 : IVec S12288x2048 32 := iotaInDim S12288x2048 32 0
  let main_c : IVec S_ 32 := constantI S_ 32 4096#32
  let main_v1 : IVec S12288x2048 32 := broadcastInDim S12288x2048 ![] bcast_S_S12288x2048 main_c
  let main_v2 : IVec S12288x2048 1 := cmpi .slt main_v0 main_v1
  let main_c_0 : IVec S_ 1 := constantI S_ 1 1#1
  let main_v3 : IVec S16x256x16x128 1 := broadcastInDim S16x256x16x128 ![] bcast_S_S16x256x16x128 main_c_0
  let main_c_1 : IVec S_ 1 := constantI S_ 1 1#1
  let main_v4 : IVec S16x256x16x128 1 := broadcastInDim S16x256x16x128 ![] bcast_S_S16x256x16x128 main_c_1
  (main_v2, main_v3, main_v4)
-- ==== Pre_finite_a.lean ====
abbrev S12288x3072 : Shape := ⟨2, ![12288, 3072]⟩
abbrev S16 : Shape := ⟨1, ![16]⟩
abbrev S_ : Shape := ⟨0, ![]⟩

class Facts : Prop where
  bcast_S_S12288x3072 : S_.BroadcastsInDim S12288x3072 (![] : Fin 0 → Fin S12288x3072.rank)
  bcast_S_S16 : S_.BroadcastsInDim S16 (![] : Fin 0 → Fin S16.rank)

variable [Facts]

def fn {F : FTy → Type} [FloatOps F] (main_arg0 : FVec F S12288x3072 .f32) (main_arg1 : FVec F S16 .f32) : IVec S12288x3072 1 × IVec S16 1 :=
  let main_v0 : FVec F S12288x3072 .f32 := Host.absf main_arg0
  let main_cst : FVec F S_ .f32 := constant S_ .f32 0x7F800000#32
  let main_v1 : FVec F S12288x3072 .f32 := broadcastInDim S12288x3072 ![] bcast_S_S12288x3072 main_cst
  let main_v2 : IVec S12288x3072 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== Pre_finite_b.lean ====
abbrev S12288x6144 : Shape := ⟨2, ![12288, 6144]⟩
abbrev S_ : Shape := ⟨0, ![]⟩

class Facts : Prop where
  bcast_S_S12288x6144 : S_.BroadcastsInDim S12288x6144 (![] : Fin 0 → Fin S12288x6144.rank)

variable [Facts]

def fn {F : FTy → Type} [FloatOps F] (main_arg0 : FVec F S12288x6144 .f32) : IVec S12288x6144 1 :=
  let main_v0 : FVec F S12288x6144 .f32 := Host.absf main_arg0
  let main_cst : FVec F S_ .f32 := constant S_ .f32 0x7F800000#32
  let main_v1 : FVec F S12288x6144 .f32 := broadcastInDim S12288x6144 ![] bcast_S_S12288x6144 main_cst
  let main_v2 : IVec S12288x6144 1 := cmpf .olt main_v0 main_v1
  main_v2
-- ==== FfnUp.lean ====
abbrev S16x1536x2048 : Shape := ⟨3, ![16, 1536, 2048]⟩
abbrev S4x16x2048x1024 : Shape := ⟨4, ![4, 16, 2048, 1024]⟩
abbrev S16x1536x1024 : Shape := ⟨3, ![16, 1536, 1024]⟩
abbrev S1x1536x2048 : Shape := ⟨3, ![1, 1536, 2048]⟩
abbrev S1x1x2048x512 : Shape := ⟨4, ![1, 1, 2048, 512]⟩
abbrev S1x1536x512 : Shape := ⟨3, ![1, 1536, 512]⟩
abbrev S2048x512 : Shape := ⟨2, ![2048, 512]⟩
abbrev S1x256x2048 : Shape := ⟨3, ![1, 256, 2048]⟩
abbrev S256x2048 : Shape := ⟨2, ![256, 2048]⟩
abbrev S256x512 : Shape := ⟨2, ![256, 512]⟩
abbrev S1x256x512 : Shape := ⟨3, ![1, 256, 512]⟩

abbrev nBuf : Space → Nat
  | .hbm => 4
  | .vmem => 10
  | .smem => 0
  | _ => 0

abbrev bufTy : (tb : Table) → Fin (tcTables nBuf tb) → BufTy
  | .hbm, ⟨0, _⟩ => ⟨S16x1536x2048, .bf16⟩
  | .hbm, ⟨1, _⟩ => ⟨S4x16x2048x1024, .f32⟩
  | .hbm, ⟨2, _⟩ => ⟨S4x16x2048x1024, .f32⟩
  | .hbm, ⟨3, _⟩ => ⟨S16x1536x1024, .bf16⟩
  | .local _ .vmem, ⟨0, _⟩ => ⟨S1x1536x2048, .bf16⟩
  | .local _ .vmem, ⟨1, _⟩ => ⟨S1x1536x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1536x512, .bf16⟩
  | .local _ .vmem, ⟨7, _⟩ => ⟨S1x1536x512, .bf16⟩
  | .local _ .vmem, ⟨8, _⟩ => ⟨S2048x512, .bf16⟩
  | .local _ .vmem, ⟨9, _⟩ => ⟨S2048x512, .bf16⟩
  | _, _ => ⟨S16x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpReferenceIdeal.lean ====
abbrev S16x1536x2048 : Shape := ⟨3, ![16, 1536, 2048]⟩
abbrev S4x16x2048x1024 : Shape := ⟨4, ![4, 16, 2048, 1024]⟩
abbrev S1x16x2048x1024 : Shape := ⟨4, ![1, 16, 2048, 1024]⟩
abbrev S16x2048x1024 : Shape := ⟨3, ![16, 2048, 1024]⟩
abbrev S16x1536x1024 : Shape := ⟨3, ![16, 1536, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S4x16x2048x1024, .f32⟩
  | .hbm, ⟨2, _⟩ => ⟨S4x16x2048x1024, .f32⟩
  | .hbm, ⟨3, _⟩ => ⟨S16x1536x2048, .f32⟩
  | .hbm, ⟨4, _⟩ => ⟨S1x16x2048x1024, .f32⟩
  | .hbm, ⟨5, _⟩ => ⟨S16x2048x1024, .f32⟩
  | .hbm, ⟨6, _⟩ => ⟨S16x1536x1024, .f32⟩
  | .hbm, ⟨7, _⟩ => ⟨S1x16x2048x1024, .f32⟩
  | .hbm, ⟨8, _⟩ => ⟨S16x2048x1024, .f32⟩
  | .hbm, ⟨9, _⟩ => ⟨S16x1536x1024, .f32⟩
  | .hbm, ⟨10, _⟩ => ⟨S16x1536x1024, .f32⟩
  | .hbm, ⟨11, _⟩ => ⟨S16x1536x1024, .f32⟩
  | .hbm, ⟨12, _⟩ => ⟨S_, .f32⟩
  | .hbm, ⟨13, _⟩ => ⟨S16x1536x1024, .f32⟩
  | .hbm, ⟨14, _⟩ => ⟨S16x1536x1024, .f32⟩
  | .hbm, ⟨15, _⟩ => ⟨S_, .f32⟩
  | .hbm, ⟨16, _⟩ => ⟨S16x1536x1024, .f32⟩
  | .hbm, ⟨17, _⟩ => ⟨S16x1536x1024, .f32⟩
  | .hbm, ⟨18, _⟩ => ⟨S16x1536x1024, .f32⟩
  | .hbm, ⟨19, _⟩ => ⟨S16x1536x1024, .f32⟩
  | .hbm, ⟨20, _⟩ => ⟨S16x1536x1024, .bf16⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S16x1536x1024 : Shape := ⟨3, ![16, 1536, 1024]⟩
abbrev S4x16x1024x2048 : Shape := ⟨4, ![4, 16, 1024, 2048]⟩
abbrev S16x1536x1 : Shape := ⟨3, ![16, 1536, 1]⟩
abbrev S16x1536x2048 : Shape := ⟨3, ![16, 1536, 2048]⟩
abbrev S1x1536x1024 : Shape := ⟨3, ![1, 1536, 1024]⟩
abbrev S1x1x1024x2048 : Shape := ⟨4, ![1, 1, 1024, 2048]⟩
abbrev S1x1536x1 : Shape := ⟨3, ![1, 1536, 1]⟩
abbrev S1x1536x2048 : Shape := ⟨3, ![1, 1536, 2048]⟩
abbrev S1024x2048 : Shape := ⟨2, ![1024, 2048]⟩
abbrev S1x256x1024 : Shape := ⟨3, ![1, 256, 1024]⟩
abbrev S256x1024 : Shape := ⟨2, ![256, 1024]⟩
abbrev S256x2048 : Shape := ⟨2, ![256, 2048]⟩
abbrev S1x256x1 : Shape := ⟨3, ![1, 256, 1]⟩
abbrev S256x1 : Shape := ⟨2, ![256, 1]⟩
abbrev S1x256x2048 : Shape := ⟨3, ![1, 256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S16x1536x1024, .bf16⟩
  | .hbm, ⟨1, _⟩ => ⟨S4x16x1024x2048, .f32⟩
  | .hbm, ⟨2, _⟩ => ⟨S16x1536x1, .f32⟩
  | .hbm, ⟨3, _⟩ => ⟨S16x1536x2048, .bf16⟩
  | .local _ .vmem, ⟨0, _⟩ => ⟨S1x1536x1024, .bf16⟩
  | .local _ .vmem, ⟨1, _⟩ => ⟨S1x1536x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1536x1, .f32⟩
  | .local _ .vmem, ⟨5, _⟩ => ⟨S1x1536x1, .f32⟩
  | .local _ .vmem, ⟨6, _⟩ => ⟨S1x1536x2048, .bf16⟩
  | .local _ .vmem, ⟨7, _⟩ => ⟨S1x1536x2048, .bf16⟩
  | .local _ .vmem, ⟨8, _⟩ => ⟨S1024x2048, .bf16⟩
  | _, _ => ⟨S16x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S16x1536x1024 : Shape := ⟨3, ![16, 1536, 1024]⟩
abbrev S4x16x1024x2048 : Shape := ⟨4, ![4, 16, 1024, 2048]⟩
abbrev S16x1536x1 : Shape := ⟨3, ![16, 1536, 1]⟩
abbrev S1x16x1024x2048 : Shape := ⟨4, ![1, 16, 1024, 2048]⟩
abbrev S16x1024x2048 : Shape := ⟨3, ![16, 1024, 2048]⟩
abbrev S16x1536x2048 : Shape := ⟨3, ![16, 1536, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x1536x1024, .bf16⟩
  | .hbm, ⟨1, _⟩ => ⟨S4x16x1024x2048, .f32⟩
  | .hbm, ⟨2, _⟩ => ⟨S16x1536x1, .f32⟩
  | .hbm, ⟨3, _⟩ => ⟨S16x1536x1024, .f32⟩
  | .hbm, ⟨4, _⟩ => ⟨S1x16x1024x2048, .f32⟩
  | .hbm, ⟨5, _⟩ => ⟨S16x1024x2048, .f32⟩
  | .hbm, ⟨6, _⟩ => ⟨S16x1536x2048, .f32⟩
  | .hbm, ⟨7, _⟩ => ⟨S16x1536x2048, .f32⟩
  | .hbm, ⟨8, _⟩ => ⟨S16x1536x2048, .f32⟩
  | .hbm, ⟨9, _⟩ => ⟨S16x1536x2048, .bf16⟩
  | _, _ => ⟨S16x1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjectA.lean ====
abbrev S12288x2048 : Shape := ⟨2, ![12288, 2048]⟩
abbrev S2x2048x3072 : Shape := ⟨3, ![2, 2048, 3072]⟩
abbrev S12288x3072 : Shape := ⟨2, ![12288, 3072]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S2x2048x3072, .f32⟩
  | .hbm, ⟨2, _⟩ => ⟨S12288x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectAReferenceIdeal.lean ====
abbrev S12288x2048 : Shape := ⟨2, ![12288, 2048]⟩
abbrev S2x2048x3072 : Shape := ⟨3, ![2, 2048, 3072]⟩
abbrev S1x2048x3072 : Shape := ⟨3, ![1, 2048, 3072]⟩
abbrev S2048x3072 : Shape := ⟨2, ![2048, 3072]⟩
abbrev S12288x3072 : Shape := ⟨2, ![12288, 3072]⟩

abbrev nBuf : Space → Nat
  | .hbm => 6
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2x2048x3072, .f32⟩
  | .hbm, ⟨2, _⟩ => ⟨S12288x2048, .f32⟩
  | .hbm, ⟨3, _⟩ => ⟨S1x2048x3072, .f32⟩
  | .hbm, ⟨4, _⟩ => ⟨S2048x3072, .f32⟩
  | .hbm, ⟨5, _⟩ => ⟨S12288x3072, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjectB.lean ====
abbrev S12288x2048 : Shape := ⟨2, ![12288, 2048]⟩
abbrev S1x2048x6144 : Shape := ⟨3, ![1, 2048, 6144]⟩
abbrev S12288x6144 : Shape := ⟨2, ![12288, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S1x2048x6144, .f32⟩
  | .hbm, ⟨2, _⟩ => ⟨S12288x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectBReferenceIdeal.lean ====
abbrev S12288x2048 : Shape := ⟨2, ![12288, 2048]⟩
abbrev S1x2048x6144 : Shape := ⟨3, ![1, 2048, 6144]⟩
abbrev S2048x6144 : Shape := ⟨2, ![2048, 6144]⟩
abbrev S12288x6144 : Shape := ⟨2, ![12288, 6144]⟩

abbrev nBuf : Space → Nat
  | .hbm => 5
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x6144, .f32⟩
  | .hbm, ⟨2, _⟩ => ⟨S12288x2048, .f32⟩
  | .hbm, ⟨3, _⟩ => ⟨S2048x6144, .f32⟩
  | .hbm, ⟨4, _⟩ => ⟨S12288x6144, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GatedIn.lean ====
abbrev S12288x2048 : Shape := ⟨2, ![12288, 2048]⟩
abbrev S1x2048x4096 : Shape := ⟨3, ![1, 2048, 4096]⟩
abbrev S12288x4096 : Shape := ⟨2, ![12288, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S1x2048x4096, .f32⟩
  | .hbm, ⟨2, _⟩ => ⟨S12288x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatedInReferenceIdeal.lean ====
abbrev S12288x2048 : Shape := ⟨2, ![12288, 2048]⟩
abbrev S1x2048x4096 : Shape := ⟨3, ![1, 2048, 4096]⟩
abbrev S2048x4096 : Shape := ⟨2, ![2048, 4096]⟩
abbrev S12288x4096 : Shape := ⟨2, ![12288, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x4096, .f32⟩
  | .hbm, ⟨2, _⟩ => ⟨S12288x2048, .f32⟩
  | .hbm, ⟨3, _⟩ => ⟨S2048x4096, .f32⟩
  | .hbm, ⟨4, _⟩ => ⟨S12288x4096, .f32⟩
  | .hbm, ⟨5, _⟩ => ⟨S12288x4096, .f32⟩
  | .hbm, ⟨6, _⟩ => ⟨S12288x4096, .f32⟩
  | .hbm, ⟨7, _⟩ => ⟨S_, .f32⟩
  | .hbm, ⟨8, _⟩ => ⟨S12288x4096, .f32⟩
  | .hbm, ⟨9, _⟩ => ⟨S12288x4096, .f32⟩
  | .hbm, ⟨10, _⟩ => ⟨S12288x4096, .f32⟩
  | .hbm, ⟨11, _⟩ => ⟨S_, .f32⟩
  | .hbm, ⟨12, _⟩ => ⟨S12288x4096, .f32⟩
  | .hbm, ⟨13, _⟩ => ⟨S12288x4096, .f32⟩
  | .hbm, ⟨14, _⟩ => ⟨S12288x4096, .f32⟩
  | .hbm, ⟨15, _⟩ => ⟨S_, .f32⟩
  | .hbm, ⟨16, _⟩ => ⟨S12288x4096, .f32⟩
  | .hbm, ⟨17, _⟩ => ⟨S12288x4096, .f32⟩
  | .hbm, ⟨18, _⟩ => ⟨S_, .f32⟩
  | .hbm, ⟨19, _⟩ => ⟨S12288x4096, .f32⟩
  | .hbm, ⟨20, _⟩ => ⟨S12288x4096, .f32⟩
  | .hbm, ⟨21, _⟩ => ⟨S12288x4096, .f32⟩
  | .hbm, ⟨22, _⟩ => ⟨S12288x4096, .bf16⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MixOut.lean ====
abbrev S12288x2048 : Shape := ⟨2, ![12288, 2048]⟩
abbrev S1x2048x2048 : Shape := ⟨3, ![1, 2048, 2048]⟩
abbrev S384x1x2048 : Shape := ⟨3, ![384, 1, 2048]⟩
abbrev S4x2048 : Shape := ⟨2, ![4, 2048]⟩
abbrev S2048x2048 : Shape := ⟨2, ![2048, 2048]⟩
abbrev S4x1x2048 : Shape := ⟨3, ![4, 1, 2048]⟩
abbrev S512x2048 : Shape := ⟨2, ![512, 2048]⟩
abbrev S1x1x2048 : Shape := ⟨3, ![1, 1, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S12288x2048, .bf16⟩
  | .hbm, ⟨1, _⟩ => ⟨S1x2048x2048, .f32⟩
  | .hbm, ⟨2, _⟩ => ⟨S12288x2048, .f32⟩
  | .hbm, ⟨3, _⟩ => ⟨S384x1x2048, .f32⟩
  | .hbm, ⟨4, _⟩ => ⟨S4x2048, .f32⟩
  | .hbm, ⟨5, _⟩ => ⟨S2048x2048, .f32⟩
  | .hbm, ⟨6, _⟩ => ⟨S2048x2048, .bf16⟩
  | .hbm, ⟨7, _⟩ => ⟨S4x1x2048, .f32⟩
  | .hbm, ⟨8, _⟩ => ⟨S12288x2048, .f32⟩
  | .hbm, ⟨9, _⟩ => ⟨S12288x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c16_i32 : BitVec 32 := 16#32
  let v21 : BitVec 32 := Scalar.addi c16_i32 v20
  let c6_i32 : BitVec 32 := 6#32
  let v22 : BitVec 32 := Scalar.muli v21 c6_i32
  let c2_i32_7 : BitVec 32 := 2#32
  let v23 : BitVec 32 := Scalar.addi v22 c2_i32_7
  let c0_i32_8 : BitVec 32 := 0#32
  let c0_i32_9 : BitVec 32 := 0#32
  let c0_i32_10 : BitVec 32 := 0#32
  ![v23.toNat, c0_i32_8.toNat, c0_i32_9.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c16_i32 : BitVec 32 := 16#32
  let v21 : BitVec 32 := Scalar.addi c16_i32 v20
  let c6_i32 : BitVec 32 := 6#32
  let v22 : BitVec 32 := Scalar.muli v21 c6_i32
  let c3_i32 : BitVec 32 := 3#32
  let v23 : BitVec 32 := Scalar.addi v22 c3_i32
  let c0_i32_7 : BitVec 32 := 0#32
  let c0_i32_8 : BitVec 32 := 0#32
  let c0_i32_9 : BitVec 32 := 0#32
  ![v23.toNat, c0_i32_7.toNat, c0_i32_8.toNat]

def cc0_transform_6 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c16_i32 : BitVec 32 := 16#32
  let v21 : BitVec 32 := Scalar.addi c16_i32 v20
  let c6_i32 : BitVec 32 := 6#32
  let v22 : BitVec 32 := Scalar.muli v21 c6_i32
  let c4_i32 : BitVec 32 := 4#32
  let v23 : BitVec 32 := Scalar.addi v22 c4_i32
  let c0_i32_7 : BitVec 32 := 0#32
  let c0_i32_8 : BitVec 32 := 0#32
  let c0_i32_9 : BitVec 32 := 0#32
  ![v23.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutReferenceIdeal.lean ====
abbrev S12288x2048 : Shape := ⟨2, ![12288, 2048]⟩
abbrev S1x2048x2048 : Shape := ⟨3, ![1, 2048, 2048]⟩
abbrev S384x1x2048 : Shape := ⟨3, ![384, 1, 2048]⟩
abbrev S4x2048 : Shape := ⟨2, ![4, 2048]⟩
abbrev S4x16x6x2048 : Shape := ⟨4, ![4, 16, 6, 2048]⟩
abbrev S1x16x6x2048 : Shape := ⟨4, ![1, 16, 6, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x2048 : Shape := ⟨2, ![1, 2048]⟩
abbrev S2048 : Shape := ⟨1, ![2048]⟩
abbrev S4096x2048 : Shape := ⟨2, ![4096, 2048]⟩
abbrev S8x2048 : Shape := ⟨2, ![8, 2048]⟩
abbrev S8x1x2048 : Shape := ⟨3, ![8, 1, 2048]⟩
abbrev S8x1024x2048 : Shape := ⟨3, ![8, 1024, 2048]⟩
abbrev S8192x2048 : Shape := ⟨2, ![8192, 2048]⟩
abbrev S2048x2048 : Shape := ⟨2, ![2048, 2048]⟩
abbrev S_ : Shape := ⟨0, ![]⟩
abbrev S12288 : Shape := ⟨1, ![12288]⟩
abbrev S12288x1 : Shape := ⟨2, ![12288, 1]⟩

abbrev nBuf : Space → Nat
  | .hbm => 67
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x2048, .f32⟩
  | .hbm, ⟨2, _⟩ => ⟨S12288x2048, .f32⟩
  | .hbm, ⟨3, _⟩ => ⟨S384x1x2048, .f32⟩
  | .hbm, ⟨4, _⟩ => ⟨S4x2048, .f32⟩
  | .hbm, ⟨5, _⟩ => ⟨S4x16x6x2048, .f32⟩
  | .hbm, ⟨6, _⟩ => ⟨S1x16x6x2048, .f32⟩
  | .hbm, ⟨7, _⟩ => ⟨S16x6x2048, .f32⟩
  | .hbm, ⟨8, _⟩ => ⟨S16x1x2048, .f32⟩
  | .hbm, ⟨9, _⟩ => ⟨S16x2048, .f32⟩
  | .hbm, ⟨10, _⟩ => ⟨S1x2048, .f32⟩
  | .hbm, ⟨11, _⟩ => ⟨S2048, .f32⟩
  | .hbm, ⟨12, _⟩ => ⟨S4096x2048, .f32⟩
  | .hbm, ⟨13, _⟩ => ⟨S8x2048, .f32⟩
  | .hbm, ⟨14, _⟩ => ⟨S8x1x2048, .f32⟩
  | .hbm, ⟨15, _⟩ => ⟨S8x1024x2048, .f32⟩
  | .hbm, ⟨16, _⟩ => ⟨S8192x2048, .f32⟩
  | .hbm, ⟨17, _⟩ => ⟨S12288x2048, .f32⟩
  | .hbm, ⟨18, _⟩ => ⟨S12288x2048, .f32⟩
  | .hbm, ⟨19, _⟩ => ⟨S2048x2048, .f32⟩
  | .hbm, ⟨20, _⟩ => ⟨S12288x2048, .f32⟩
  | .hbm, ⟨21, _⟩ => ⟨S12288x2048, .f32⟩
  | .hbm, ⟨22, _⟩ => ⟨S12288x2048, .f32⟩
  | .hbm, ⟨23, _⟩ => ⟨S12288x2048, .f32⟩
  | .hbm, ⟨24, _⟩ => ⟨S_, .f32⟩
  | .hbm, ⟨25, _⟩ => ⟨S12288, .f32⟩
  | .hbm, ⟨26, _⟩ => ⟨S12288x1, .f32⟩
  | .hbm, ⟨27, _⟩ => ⟨S_, .f32⟩
  | .hbm, ⟨28, _⟩ => ⟨S12288x1, .f32⟩
  | .hbm, ⟨29, _⟩ => ⟨S12288x1, .f32⟩
  | .hbm, ⟨30, _⟩ => ⟨S_, .f32⟩
  | .hbm, ⟨31, _⟩ => ⟨S12288x1, .f32⟩
  | .hbm, ⟨32, _⟩ => ⟨S12288x1, .f32⟩
  | .hbm, ⟨33, _⟩ => ⟨S12288x1, .f32⟩
  | .hbm, ⟨34, _⟩ => ⟨S12288x2048, .f32⟩
  | .hbm, ⟨35, _⟩ => ⟨S12288x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S12288x2048, .f32⟩
  | .hbm, ⟨40, _⟩ => ⟨S12288x2048, .f32⟩
  | .hbm, ⟨41, _⟩ => ⟨S16x1x2048, .f32⟩
  | .hbm, ⟨42, _⟩ => ⟨S16x2048, .f32⟩
  | .hbm, ⟨43, _⟩ => ⟨S1x2048, .f32⟩
  | .hbm, ⟨44, _⟩ => ⟨S2048, .f32⟩
  | .hbm, ⟨45, _⟩ => ⟨S4096x2048, .f32⟩
  | .hbm, ⟨46, _⟩ => ⟨S8x2048, .f32⟩
  | .hbm, ⟨47, _⟩ => ⟨S8x1x2048, .f32⟩
  | .hbm, ⟨48, _⟩ => ⟨S8x1024x2048, .f32⟩
  | .hbm, ⟨49, _⟩ => ⟨S8192x2048, .f32⟩
  | .hbm, ⟨50, _⟩ => ⟨S12288x2048, .f32⟩
  | .hbm, ⟨51, _⟩ => ⟨S_, .f32⟩
  | .hbm, ⟨52, _⟩ => ⟨S12288x2048, .f32⟩
  | .hbm, ⟨53, _⟩ => ⟨S12288x2048, .f32⟩
  | .hbm, ⟨54, _⟩ => ⟨S12288x2048, .f32⟩
  | .hbm, ⟨55, _⟩ => ⟨S16x1x2048, .f32⟩
  | .hbm, ⟨56, _⟩ => ⟨S16x2048, .f32⟩
  | .hbm, ⟨57, _⟩ => ⟨S1x2048, .f32⟩
  | .hbm, ⟨58, _⟩ => ⟨S2048, .f32⟩
  | .hbm, ⟨59, _⟩ => ⟨S4096x2048, .f32⟩
  | .hbm, ⟨60, _⟩ => ⟨S8x2048, .f32⟩
  | .hbm, ⟨61, _⟩ => ⟨S8x1x2048, .f32⟩
  | .hbm, ⟨62, _⟩ => ⟨S8x1024x2048, .f32⟩
  | .hbm, ⟨63, _⟩ => ⟨S8192x2048, .f32⟩
  | .hbm, ⟨64, _⟩ => ⟨S12288x2048, .f32⟩
  | .hbm, ⟨65, _⟩ => ⟨S12288x2048, .f32⟩
  | .hbm, ⟨66, _⟩ => ⟨S12288x2048, .bf16⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩

abbrev nD : Nat := 1
abbrev τ : Topo := Topo.v7x

variable {F : FTy → Type} [FloatOps F]
-- ==== ContextA.lean ====
abbrev S12288x3072 : Shape := ⟨2, ![12288, 3072]⟩
abbrev S16 : Shape := ⟨1, ![16]⟩
abbrev S12288x2048 : Shape := ⟨2, ![12288, 2048]⟩
abbrev S16x256x4x128 : Shape := ⟨4, ![16, 256, 4, 128]⟩
abbrev S256x2048 : Shape := ⟨2, ![256, 2048]⟩
abbrev S256x512 : Shape := ⟨2, ![256, 512]⟩
abbrev S1x256x4x128 : Shape := ⟨4, ![1, 256, 4, 128]⟩
abbrev S256x128 : Shape := ⟨2, ![256, 128]⟩
abbrev S1x256x1x128 : Shape := ⟨4, ![1, 256, 1, 128]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 5
  | .vmem => 12
  | .smem => 1
  | _ => 0

abbrev bufTy : (tb : Table) → Fin (tcTables nBuf tb) → BufTy
  | .hbm, ⟨0, _⟩ => ⟨S12288x3072, .f32⟩
  | .hbm, ⟨1, _⟩ => ⟨S16, .f32⟩
  | .hbm, ⟨2, _⟩ => ⟨S12288x2048, .bf16⟩
  | .hbm, ⟨3, _⟩ => ⟨S16x256x4x128, .f32⟩
  | .hbm, ⟨4, _⟩ => ⟨S16x256x4x128, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x2048, .bf16⟩
  | .local _ .vmem, ⟨7, _⟩ => ⟨S256x2048, .bf16⟩
  | .local _ .vmem, ⟨8, _⟩ => ⟨S1x256x4x128, .f32⟩
  | .local _ .vmem, ⟨9, _⟩ => ⟨S1x256x4x128, .f32⟩
  | .local _ .vmem, ⟨10, _⟩ => ⟨S1x256x4x128, .f32⟩
  | .local _ .vmem, ⟨11, _⟩ => ⟨S1x256x4x128, .f32⟩
  | .local _ .smem, ⟨0, _⟩ => ⟨S16, .f32⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ContextAReferenceIdeal.lean ====
abbrev S12288x3072 : Shape := ⟨2, ![12288, 3072]⟩
abbrev S16 : Shape := ⟨1, ![16]⟩
abbrev S4096x3072 : Shape := ⟨2, ![4096, 3072]⟩
abbrev S16x256x3072 : Shape := ⟨3, ![16, 256, 3072]⟩
abbrev S16x256x2048 : Shape := ⟨3, ![16, 256, 2048]⟩
abbrev S16x256x4x4x128 : Shape := ⟨5, ![16, 256, 4, 4, 128]⟩
abbrev S16x256x512 : Shape := ⟨3, ![16, 256, 512]⟩
abbrev S16x256x4x128 : Shape := ⟨4, ![16, 256, 4, 128]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S4x4 : Shape := ⟨2, ![4, 4]⟩
abbrev S1x4x4x1x1 : Shape := ⟨5, ![1, 4, 4, 1, 1]⟩
abbrev S16x4x4x256x1 : Shape := ⟨5, ![16, 4, 4, 256, 1]⟩
abbrev S16x4x4x256x257 : Shape := ⟨5, ![16, 4, 4, 256, 257]⟩
abbrev S16x4x4x256 : Shape := ⟨4, ![16, 4, 4, 256]⟩
abbrev S16x4x128x4x256 : Shape := ⟨5, ![16, 4, 128, 4, 256]⟩
abbrev S4096x2048 : Shape := ⟨2, ![4096, 2048]⟩
abbrev S12288x2048 : Shape := ⟨2, ![12288, 2048]⟩

abbrev nBuf : Space → Nat
  | .hbm => 41
  | .vmem => 0
  | .smem => 0
  | _ => 0

abbrev bufTy : (tb : Table) → Fin (tcTables nBuf tb) → BufTy
  | .hbm, ⟨0, _⟩ => ⟨S12288x3072, .f32⟩
  | .hbm, ⟨1, _⟩ => ⟨S16, .f32⟩
  | .hbm, ⟨2, _⟩ => ⟨S4096x3072, .f32⟩
  | .hbm, ⟨3, _⟩ => ⟨S16x256x3072, .f32⟩
  | .hbm, ⟨4, _⟩ => ⟨S16x256x2048, .f32⟩
  | .hbm, ⟨5, _⟩ => ⟨S16x256x4x4x128, .f32⟩
  | .hbm, ⟨6, _⟩ => ⟨S16x256x512, .f32⟩
  | .hbm, ⟨7, _⟩ => ⟨S16x256x4x128, .f32⟩
  | .hbm, ⟨8, _⟩ => ⟨S16x256x512, .f32⟩
  | .hbm, ⟨9, _⟩ => ⟨S16x256x4x128, .f32⟩
  | .hbm, ⟨10, _⟩ => ⟨S16x4x256x256x4, .f32⟩
  | .hbm, ⟨11, _⟩ => ⟨S16x4x4x256x256, .f32⟩
  | .hbm, ⟨12, _⟩ => ⟨S_, .f32⟩
  | .hbm, ⟨13, _⟩ => ⟨S16x4x4x256x256, .f32⟩
  | .hbm, ⟨14, _⟩ => ⟨S16x4x4x256x256, .f32⟩
  | .hbm, ⟨15, _⟩ => ⟨S4x4, .f32⟩
  | .hbm, ⟨16, _⟩ => ⟨S1x4x4x1x1, .f32⟩
  | .hbm, ⟨17, _⟩ => ⟨S16x4x4x256x1, .f32⟩
  | .hbm, ⟨18, _⟩ => ⟨S16x4x4x256x257, .f32⟩
  | .hbm, ⟨19, _⟩ => ⟨S_, .f32⟩
  | .hbm, ⟨20, _⟩ => ⟨S16x4x4x256, .f32⟩
  | .hbm, ⟨21, _⟩ => ⟨S_, .f32⟩
  | .hbm, ⟨22, _⟩ => ⟨S16x4x4x256, .f32⟩
  | .hbm, ⟨23, _⟩ => ⟨S16x4x4x256, .f32⟩
  | .hbm, ⟨24, _⟩ => ⟨S16x4x4x256x1, .f32⟩
  | .hbm, ⟨25, _⟩ => ⟨S16x4x4x256x257, .f32⟩
  | .hbm, ⟨26, _⟩ => ⟨S16x4x4x256x257, .f32⟩
  | .hbm, ⟨27, _⟩ => ⟨S16x4x4x256x257, .f32⟩
  | .hbm, ⟨28, _⟩ => ⟨S_, .f32⟩
  | .hbm, ⟨29, _⟩ => ⟨S16x4x4x256, .f32⟩
  | .hbm, ⟨30, _⟩ => ⟨S16x4x4x256x1, .f32⟩
  | .hbm, ⟨31, _⟩ => ⟨S16x4x4x256x257, .f32⟩
  | .hbm, ⟨32, _⟩ => ⟨S16x4x4x256x257, .f32⟩
  | .hbm, ⟨33, _⟩ => ⟨S16x4x4x256x256, .f32⟩
  | .hbm, ⟨34, _⟩ => ⟨S16x4x128x4x256, .f32⟩
  | .hbm, ⟨35, _⟩ => ⟨S16x256x4x4x128, .f32⟩
  | .hbm, ⟨36, _⟩ => ⟨S4096x2048, .f32⟩
  | .hbm, ⟨37, _⟩ => ⟨S4096x2048, .bf16⟩
  | .hbm, ⟨38, _⟩ => ⟨S_, .i32⟩
  | .hbm, ⟨39, _⟩ => ⟨S_, .bf16⟩
  | .hbm, ⟨40, _⟩ => ⟨S12288x2048, .bf16⟩
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== ContextB.lean ====
abbrev S12288x6144 : Shape := ⟨2, ![12288, 6144]⟩
abbrev S_ : Shape := ⟨0, ![]⟩
abbrev S16 : Shape := ⟨1, ![16]⟩
abbrev S12288x2048 : Shape := ⟨2, ![12288, 2048]⟩
abbrev S16x256x16x128 : Shape := ⟨4, ![16, 256, 16, 128]⟩
abbrev S256x2048 : Shape := ⟨2, ![256, 2048]⟩
abbrev S1x256x16x128 : Shape := ⟨4, ![1, 256, 16, 128]⟩
abbrev S256x128 : Shape := ⟨2, ![256, 128]⟩
abbrev S1x256x1x128 : Shape := ⟨4, ![1, 256, 1, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 1
  | _ => 0

abbrev bufTy : (tb : Table) → Fin (tcTables nBuf tb) → BufTy
  | .hbm, ⟨0, _⟩ => ⟨S12288x6144, .f32⟩
  | .hbm, ⟨1, _⟩ => ⟨S_, .f32⟩
  | .hbm, ⟨2, _⟩ => ⟨S16, .f32⟩
  | .hbm, ⟨3, _⟩ => ⟨S12288x2048, .bf16⟩
  | .hbm, ⟨4, _⟩ => ⟨S16x256x16x128, .f32⟩
  | .hbm, ⟨5, _⟩ => ⟨S16x256x16x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x256x16x128, .f32⟩
  | .local _ .vmem, ⟨9, _⟩ => ⟨S1x256x16x128, .f32⟩
  | .local _ .vmem, ⟨10, _⟩ => ⟨S1x256x16x128, .f32⟩
  | .local _ .vmem, ⟨11, _⟩ => ⟨S1x256x16x128, .f32⟩
  | .local _ .smem, ⟨0, _⟩ => ⟨S16, .f32⟩
  | _, _ => ⟨S12288x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ContextBReferenceIdeal.lean ====
abbrev S12288x6144 : Shape := ⟨2, ![12288, 6144]⟩
abbrev S4096x6144 : Shape := ⟨2, ![4096, 6144]⟩
abbrev S16x256x3x16x128 : Shape := ⟨5, ![16, 256, 3, 16, 128]⟩
abbrev S16x256x1x16x128 : Shape := ⟨5, ![16, 256, 1, 16, 128]⟩
abbrev S16x256x16x128 : Shape := ⟨4, ![16, 256, 16, 128]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x128x256 : Shape := ⟨4, ![16, 16, 128, 256]⟩
abbrev S4096x2048 : Shape := ⟨2, ![4096, 2048]⟩
abbrev S12288x2048 : Shape := ⟨2, ![12288, 2048]⟩

abbrev nBuf : Space → Nat
  | .hbm => 34
  | .vmem => 0
  | .smem => 0
  | _ => 0

abbrev bufTy : (tb : Table) → Fin (tcTables nBuf tb) → BufTy
  | .hbm, ⟨0, _⟩ => ⟨S12288x6144, .f32⟩
  | .hbm, ⟨1, _⟩ => ⟨S4096x6144, .f32⟩
  | .hbm, ⟨2, _⟩ => ⟨S16x256x3x16x128, .f32⟩
  | .hbm, ⟨3, _⟩ => ⟨S16x256x1x16x128, .f32⟩
  | .hbm, ⟨4, _⟩ => ⟨S16x256x16x128, .f32⟩
  | .hbm, ⟨5, _⟩ => ⟨S16x256x1x16x128, .f32⟩
  | .hbm, ⟨6, _⟩ => ⟨S16x256x16x128, .f32⟩
  | .hbm, ⟨7, _⟩ => ⟨S16x256x1x16x128, .f32⟩
  | .hbm, ⟨8, _⟩ => ⟨S16x256x16x128, .f32⟩
  | .hbm, ⟨9, _⟩ => ⟨S16x16x256x256, .f32⟩
  | .hbm, ⟨10, _⟩ => ⟨S_, .f32⟩
  | .hbm, ⟨11, _⟩ => ⟨S16x16x256x256, .f32⟩
  | .hbm, ⟨12, _⟩ => ⟨S16x16x256x256, .f32⟩
  | .hbm, ⟨13, _⟩ => ⟨S_, .f32⟩
  | .hbm, ⟨14, _⟩ => ⟨S16x16x256, .f32⟩
  | .hbm, ⟨15, _⟩ => ⟨S_, .f32⟩
  | .hbm, ⟨16, _⟩ => ⟨S16x16x256, .f32⟩
  | .hbm, ⟨17, _⟩ => ⟨S16x16x256, .f32⟩
  | .hbm, ⟨18, _⟩ => ⟨S16x16x256x1, .f32⟩
  | .hbm, ⟨19, _⟩ => ⟨S16x16x256x256, .f32⟩
  | .hbm, ⟨20, _⟩ => ⟨S16x16x256x256, .f32⟩
  | .hbm, ⟨21, _⟩ => ⟨S16x16x256x256, .f32⟩
  | .hbm, ⟨22, _⟩ => ⟨S_, .f32⟩
  | .hbm, ⟨23, _⟩ => ⟨S16x16x256, .f32⟩
  | .hbm, ⟨24, _⟩ => ⟨S16x16x256x1, .f32⟩
  | .hbm, ⟨25, _⟩ => ⟨S16x16x256x256, .f32⟩
  | .hbm, ⟨26, _⟩ => ⟨S16x16x256x256, .f32⟩
  | .hbm, ⟨27, _⟩ => ⟨S16x16x128x256, .f32⟩
  | .hbm, ⟨28, _⟩ => ⟨S16x256x16x128, .f32⟩
  | .hbm, ⟨29, _⟩ => ⟨S4096x2048, .f32⟩
  | .hbm, ⟨30, _⟩ => ⟨S4096x2048, .bf16⟩
  | .hbm, ⟨31, _⟩ => ⟨S_, .i32⟩
  | .hbm, ⟨32, _⟩ => ⟨S_, .bf16⟩
  | .hbm, ⟨33, _⟩ => ⟨S12288x2048, .bf16⟩
  | _, _ => ⟨S12288x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_call0_v0 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== CombinePrompt.lean ====
abbrev S16x256x512 : Shape := ⟨3, ![16, 256, 512]⟩
abbrev S16x1536x2048 : Shape := ⟨3, ![16, 1536, 2048]⟩
abbrev S12288x2048 : Shape := ⟨2, ![12288, 2048]⟩
abbrev S384x1x2048 : Shape := ⟨3, ![384, 1, 2048]⟩
abbrev S2048 : Shape := ⟨1, ![2048]⟩
abbrev S1x2048 : Shape := ⟨2, ![1, 2048]⟩
abbrev S4096x2048 : Shape := ⟨2, ![4096, 2048]⟩
abbrev S1x256x512 : Shape := ⟨3, ![1, 256, 512]⟩
abbrev S16x32x2048 : Shape := ⟨3, ![16, 32, 2048]⟩
abbrev S256x2048 : Shape := ⟨2, ![256, 2048]⟩
abbrev S1x1x2048 : Shape := ⟨3, ![1, 1, 2048]⟩
abbrev S256x512 : Shape := ⟨2, ![256, 512]⟩
abbrev S512x2048 : Shape := ⟨2, ![512, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S16x256x512, .bf16⟩
  | .hbm, ⟨1, _⟩ => ⟨S16x1536x2048, .bf16⟩
  | .hbm, ⟨2, _⟩ => ⟨S12288x2048, .f32⟩
  | .hbm, ⟨3, _⟩ => ⟨S384x1x2048, .f32⟩
  | .hbm, ⟨4, _⟩ => ⟨S2048, .f32⟩
  | .hbm, ⟨5, _⟩ => ⟨S1x2048, .f32⟩
  | .hbm, ⟨6, _⟩ => ⟨S4096x2048, .f32⟩
  | .local _ .vmem, ⟨0, _⟩ => ⟨S1x256x512, .bf16⟩
  | .local _ .vmem, ⟨1, _⟩ => ⟨S1x256x512, .bf16⟩
  | .local _ .vmem, ⟨2, _⟩ => ⟨S16x32x2048, .bf16⟩
  | .local _ .vmem, ⟨3, _⟩ => ⟨S16x32x2048, .bf16⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S16x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c16_i32 : BitVec 32 := 16#32
  let v3 : BitVec 1 := Scalar.cmpi .slt v2 c16_i32
  let c16_i32_0 : BitVec 32 := 16#32
  let v4 : BitVec 32 := Scalar.subi v2 c16_i32_0
  let c4_i32 : BitVec 32 := 4#32
  let v5 : BitVec 32 := Scalar.divsi v4 c4_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c4_i32 c0_i32_3
  let v12 : BitVec 32 := Scalar.extui v11
  let c0_i32_4 : BitVec 32 := 0#32
  let v13 : BitVec 1 := Scalar.cmpi .slt c4_i32 c0_i32_4
  let v14 : BitVec 32 := Scalar.extui v13
  let v15 : BitVec 32 := Scalar.subi v12 v14
  let v16 : BitVec 1 := Scalar.cmpi .ne v10 v15
  let v17 : BitVec 32 := Scalar.remsi v4 c4_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v3 c0_i32_8 v22
  let c48_i32 : BitVec 32 := 48#32
  let v24 : BitVec 32 := Scalar.addi c48_i32 v23
  let c6_i32 : BitVec 32 := 6#32
  let v25 : BitVec 32 := Scalar.muli v24 c6_i32
  let c5_i32 : BitVec 32 := 5#32
  let v26 : BitVec 32 := Scalar.addi v25 c5_i32
  let c0_i32_9 : BitVec 32 := 0#32
  let c0_i32_10 : BitVec 32 := 0#32
  let c0_i32_11 : BitVec 32 := 0#32
  ![v26.toNat, c0_i32_9.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombinePromptReferenceIdeal.lean ====
abbrev S16x256x512 : Shape := ⟨3, ![16, 256, 512]⟩
abbrev S16x1536x2048 : Shape := ⟨3, ![16, 1536, 2048]⟩
abbrev S12288x2048 : Shape := ⟨2, ![12288, 2048]⟩
abbrev S384x1x2048 : Shape := ⟨3, ![384, 1, 2048]⟩
abbrev S2048 : Shape := ⟨1, ![2048]⟩
abbrev S4x16x6x2048 : Shape := ⟨4, ![4, 16, 6, 2048]⟩
abbrev S1x1x1x2048 : Shape := ⟨4, ![1, 1, 1, 2048]⟩
abbrev S1x2048 : Shape := ⟨2, ![1, 2048]⟩
abbrev S16x512x2048 : Shape := ⟨3, ![16, 512, 2048]⟩
abbrev S16x16x32x2048 : Shape := ⟨4, ![16, 16, 32, 2048]⟩
abbrev S4096x2048 : Shape := ⟨2, ![4096, 2048]⟩
abbrev S16x256x2048 : Shape := ⟨3, ![16, 256, 2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x256x512, .bf16⟩
  | .hbm, ⟨1, _⟩ => ⟨S16x1536x2048, .bf16⟩
  | .hbm, ⟨2, _⟩ => ⟨S12288x2048, .f32⟩
  | .hbm, ⟨3, _⟩ => ⟨S384x1x2048, .f32⟩
  | .hbm, ⟨4, _⟩ => ⟨S2048, .f32⟩
  | .hbm, ⟨5, _⟩ => ⟨S4x16x6x2048, .f32⟩
  | .hbm, ⟨6, _⟩ => ⟨S1x1x1x2048, .f32⟩
  | .hbm, ⟨7, _⟩ => ⟨S1x2048, .f32⟩
  | .hbm, ⟨8, _⟩ => ⟨S16x512x2048, .bf16⟩
  | .hbm, ⟨9, _⟩ => ⟨S16x16x32x2048, .bf16⟩
  | .hbm, ⟨10, _⟩ => ⟨S4096x2048, .f32⟩
  | .hbm, ⟨11, _⟩ => ⟨S16x16x32x2048, .f32⟩
  | .hbm, ⟨12, _⟩ => ⟨S16x16x32x2048, .f32⟩
  | .hbm, ⟨13, _⟩ => ⟨S16x512x2048, .f32⟩
  | .hbm, ⟨14, _⟩ => ⟨S16x256x2048, .f32⟩
  | .hbm, ⟨15, _⟩ => ⟨S1x1x2048, .f32⟩
  | .hbm, ⟨16, _⟩ => ⟨S16x256x512, .f32⟩
  | .hbm, ⟨17, _⟩ => ⟨S16x256x2048, .f32⟩
  | .hbm, ⟨18, _⟩ => ⟨S16x256x2048, .f32⟩
  | .hbm, ⟨19, _⟩ => ⟨S16x256x2048, .f32⟩
  | .hbm, ⟨20, _⟩ => ⟨S16x256x2048, .f32⟩
  | .hbm, ⟨21, _⟩ => ⟨S16x256x2048, .f32⟩
  | .hbm, ⟨22, _⟩ => ⟨S_, .f32⟩
  | .hbm, ⟨23, _⟩ => ⟨S16x256, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S16x256x1, .f32⟩
  | .hbm, ⟨32, _⟩ => ⟨S16x256x2048, .f32⟩
  | .hbm, ⟨33, _⟩ => ⟨S16x256x2048, .f32⟩
  | .hbm, ⟨34, _⟩ => ⟨S1x1x2048, .f32⟩
  | .hbm, ⟨35, _⟩ => ⟨S16x256x2048, .f32⟩
  | .hbm, ⟨36, _⟩ => ⟨S16x256x2048, .f32⟩
  | .hbm, ⟨37, _⟩ => ⟨S4096x2048, .f32⟩
  | _, _ => ⟨S16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== CombineSample.lean ====
abbrev S8x1024x2048 : Shape := ⟨3, ![8, 1024, 2048]⟩
abbrev S16x1536x2048 : Shape := ⟨3, ![16, 1536, 2048]⟩
abbrev S12288x2048 : Shape := ⟨2, ![12288, 2048]⟩
abbrev S384x1x2048 : Shape := ⟨3, ![384, 1, 2048]⟩
abbrev S2048 : Shape := ⟨1, ![2048]⟩
abbrev S1x2048 : Shape := ⟨2, ![1, 2048]⟩
abbrev S8192x2048 : Shape := ⟨2, ![8192, 2048]⟩
abbrev S1x512x2048 : Shape := ⟨3, ![1, 512, 2048]⟩
abbrev S16x128x2048 : Shape := ⟨3, ![16, 128, 2048]⟩
abbrev S512x2048 : Shape := ⟨2, ![512, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x1024x2048, .bf16⟩
  | .hbm, ⟨1, _⟩ => ⟨S16x1536x2048, .bf16⟩
  | .hbm, ⟨2, _⟩ => ⟨S12288x2048, .f32⟩
  | .hbm, ⟨3, _⟩ => ⟨S384x1x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S16x128x2048, .bf16⟩
  | .local _ .vmem, ⟨3, _⟩ => ⟨S16x128x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c8_i32_0 : BitVec 32 := 8#32
  let v3 : BitVec 1 := Scalar.cmpi .slt v2 c8_i32_0
  let c8_i32_1 : BitVec 32 := 8#32
  let v4 : BitVec 32 := Scalar.subi v2 c8_i32_1
  let c2_i32_2 : BitVec 32 := 2#32
  let v5 : BitVec 32 := Scalar.divsi v4 c2_i32_2
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c2_i32_2 c0_i32_4
  let v12 : BitVec 32 := Scalar.extui v11
  let c0_i32_5 : BitVec 32 := 0#32
  let v13 : BitVec 1 := Scalar.cmpi .slt c2_i32_2 c0_i32_5
  let v14 : BitVec 32 := Scalar.extui v13
  let v15 : BitVec 32 := Scalar.subi v12 v14
  let v16 : BitVec 1 := Scalar.cmpi .ne v10 v15
  let v17 : BitVec 32 := Scalar.remsi v4 c2_i32_2
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v3 c0_i32_8 v22
  let c48_i32 : BitVec 32 := 48#32
  let v24 : BitVec 32 := Scalar.addi c48_i32 v23
  let c6_i32 : BitVec 32 := 6#32
  let v25 : BitVec 32 := Scalar.muli v24 c6_i32
  let c5_i32 : BitVec 32 := 5#32
  let v26 : BitVec 32 := Scalar.addi v25 c5_i32
  let c0_i32_9 : BitVec 32 := 0#32
  let c0_i32_10 : BitVec 32 := 0#32
  let c0_i32_11 : BitVec 32 := 0#32
  ![v26.toNat, c0_i32_9.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineSampleReferenceIdeal.lean ====
abbrev S8x1024x2048 : Shape := ⟨3, ![8, 1024, 2048]⟩
abbrev S16x1536x2048 : Shape := ⟨3, ![16, 1536, 2048]⟩
abbrev S12288x2048 : Shape := ⟨2, ![12288, 2048]⟩
abbrev S384x1x2048 : Shape := ⟨3, ![384, 1, 2048]⟩
abbrev S2048 : Shape := ⟨1, ![2048]⟩
abbrev S4x16x6x2048 : Shape := ⟨4, ![4, 16, 6, 2048]⟩
abbrev S1x8x1x2048 : Shape := ⟨4, ![1, 8, 1, 2048]⟩
abbrev S8x2048 : Shape := ⟨2, ![8, 2048]⟩
abbrev S16x1024x2048 : Shape := ⟨3, ![16, 1024, 2048]⟩
abbrev S16x8x128x2048 : Shape := ⟨4, ![16, 8, 128, 2048]⟩
abbrev S8192x2048 : Shape := ⟨2, ![8192, 2048]⟩
abbrev S8x16x128x2048 : Shape := ⟨4, ![8, 16, 128, 2048]⟩
abbrev S8x2048x2048 : Shape := ⟨3, ![8, 2048, 2048]⟩
abbrev S8x1x2048 : Shape := ⟨3, ![8, 1, 2048]⟩
abbrev S_ : Shape := ⟨0, ![]⟩
abbrev S8x1024 : Shape := ⟨2, ![8, 1024]⟩
abbrev S8x1024x1 : Shape := ⟨3, ![8, 1024, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S16x1536x2048, .bf16⟩
  | .hbm, ⟨2, _⟩ => ⟨S12288x2048, .f32⟩
  | .hbm, ⟨3, _⟩ => ⟨S384x1x2048, .f32⟩
  | .hbm, ⟨4, _⟩ => ⟨S2048, .f32⟩
  | .hbm, ⟨5, _⟩ => ⟨S4x16x6x2048, .f32⟩
  | .hbm, ⟨6, _⟩ => ⟨S1x8x1x2048, .f32⟩
  | .hbm, ⟨7, _⟩ => ⟨S8x2048, .f32⟩
  | .hbm, ⟨8, _⟩ => ⟨S16x1024x2048, .bf16⟩
  | .hbm, ⟨9, _⟩ => ⟨S16x8x128x2048, .bf16⟩
  | .hbm, ⟨10, _⟩ => ⟨S8192x2048, .f32⟩
  | .hbm, ⟨11, _⟩ => ⟨S16x8x128x2048, .f32⟩
  | .hbm, ⟨12, _⟩ => ⟨S8x16x128x2048, .f32⟩
  | .hbm, ⟨13, _⟩ => ⟨S8x2048x2048, .f32⟩
  | .hbm, ⟨14, _⟩ => ⟨S8x1024x2048, .f32⟩
  | .hbm, ⟨15, _⟩ => ⟨S8x1x2048, .f32⟩
  | .hbm, ⟨16, _⟩ => ⟨S8x1024x2048, .f32⟩
  | .hbm, ⟨17, _⟩ => ⟨S8x1024x2048, .f32⟩
  | .hbm, ⟨18, _⟩ => ⟨S8x1024x2048, .f32⟩
  | .hbm, ⟨19, _⟩ => ⟨S8x1024x2048, .f32⟩
  | .hbm, ⟨20, _⟩ => ⟨S8x1024x2048, .f32⟩
  | .hbm, ⟨21, _⟩ => ⟨S8x1024x2048, .f32⟩
  | .hbm, ⟨22, _⟩ => ⟨S_, .f32⟩
  | .hbm, ⟨23, _⟩ => ⟨S8x1024, .f32⟩
  | .hbm, ⟨24, _⟩ => ⟨S8x1024x1, .f32⟩
  | .hbm, ⟨25, _⟩ => ⟨S_, .f32⟩
  | .hbm, ⟨26, _⟩ => ⟨S8x1024x1, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x1, .f32⟩
  | .hbm, ⟨32, _⟩ => ⟨S8x1024x2048, .f32⟩
  | .hbm, ⟨33, _⟩ => ⟨S8x1024x2048, .f32⟩
  | .hbm, ⟨34, _⟩ => ⟨S1x1x2048, .f32⟩
  | .hbm, ⟨35, _⟩ => ⟨S8x1024x2048, .f32⟩
  | .hbm, ⟨36, _⟩ => ⟨S8x1024x2048, .f32⟩
  | .hbm, ⟨37, _⟩ => ⟨S8192x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== MixFirst.lean ====
abbrev S12288x2048 : Shape := ⟨2, ![12288, 2048]⟩
abbrev S2x2048x2048 : Shape := ⟨3, ![2, 2048, 2048]⟩
abbrev S16x256x2048 : Shape := ⟨3, ![16, 256, 2048]⟩
abbrev S8x1024x2048 : Shape := ⟨3, ![8, 1024, 2048]⟩
abbrev S384x1x2048 : Shape := ⟨3, ![384, 1, 2048]⟩
abbrev S4x2048 : Shape := ⟨2, ![4, 2048]⟩
abbrev S4096x2048 : Shape := ⟨2, ![4096, 2048]⟩
abbrev S8192x2048 : Shape := ⟨2, ![8192, 2048]⟩
abbrev S1x2048x2048 : Shape := ⟨3, ![1, 2048, 2048]⟩
abbrev S2048x2048 : Shape := ⟨2, ![2048, 2048]⟩
abbrev S4x1x2048 : Shape := ⟨3, ![4, 1, 2048]⟩
abbrev S512x2048 : Shape := ⟨2, ![512, 2048]⟩
abbrev S1x1x2048 : Shape := ⟨3, ![1, 1, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S12288x2048, .bf16⟩
  | .hbm, ⟨1, _⟩ => ⟨S2x2048x2048, .f32⟩
  | .hbm, ⟨2, _⟩ => ⟨S16x256x2048, .f32⟩
  | .hbm, ⟨3, _⟩ => ⟨S8x1024x2048, .f32⟩
  | .hbm, ⟨4, _⟩ => ⟨S384x1x2048, .f32⟩
  | .hbm, ⟨5, _⟩ => ⟨S4x2048, .f32⟩
  | .hbm, ⟨6, _⟩ => ⟨S4096x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S4x1x2048, .f32⟩
  | .hbm, ⟨12, _⟩ => ⟨S12288x2048, .f32⟩
  | .hbm, ⟨13, _⟩ => ⟨S12288x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c2_i32_8 : BitVec 32 := 2#32
  let v23 : BitVec 32 := Scalar.addi v22 c2_i32_8
  let c0_i32_9 : BitVec 32 := 0#32
  let c0_i32_10 : BitVec 32 := 0#32
  let c0_i32_11 : BitVec 32 := 0#32
  ![v23.toNat, c0_i32_9.toNat, c0_i32_10.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c3_i32 : BitVec 32 := 3#32
  let v23 : BitVec 32 := Scalar.addi v22 c3_i32
  let c0_i32_8 : BitVec 32 := 0#32
  let c0_i32_9 : BitVec 32 := 0#32
  let c0_i32_10 : BitVec 32 := 0#32
  ![v23.toNat, c0_i32_8.toNat, c0_i32_9.toNat]

def cc0_transform_7 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c4_i32 : BitVec 32 := 4#32
  let v23 : BitVec 32 := Scalar.addi v22 c4_i32
  let c0_i32_8 : BitVec 32 := 0#32
  let c0_i32_9 : BitVec 32 := 0#32
  let c0_i32_10 : BitVec 32 := 0#32
  ![v23.toNat, c0_i32_8.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixFirstReferenceIdeal.lean ====
abbrev S12288x2048 : Shape := ⟨2, ![12288, 2048]⟩
abbrev S2x2048x2048 : Shape := ⟨3, ![2, 2048, 2048]⟩
abbrev S16x256x2048 : Shape := ⟨3, ![16, 256, 2048]⟩
abbrev S8x1024x2048 : Shape := ⟨3, ![8, 1024, 2048]⟩
abbrev S384x1x2048 : Shape := ⟨3, ![384, 1, 2048]⟩
abbrev S4x2048 : Shape := ⟨2, ![4, 2048]⟩
abbrev S4x16x6x2048 : Shape := ⟨4, ![4, 16, 6, 2048]⟩
abbrev S1x16x6x2048 : Shape := ⟨4, ![1, 16, 6, 2048]⟩
abbrev S16x6x2048 : Shape := ⟨3, ![16, 6, 2048]⟩
abbrev S4096x2048 : Shape := ⟨2, ![4096, 2048]⟩
abbrev S8192x2048 : Shape := ⟨2, ![8192, 2048]⟩
abbrev S16x1x2048 : Shape := ⟨3, ![16, 1, 2048]⟩
abbrev S16x2048 : Shape := ⟨2, ![16, 2048]⟩
abbrev S1x2048 : Shape := ⟨2, ![1, 2048]⟩
abbrev S2048 : Shape := ⟨1, ![2048]⟩
abbrev S8x2048 : Shape := ⟨2, ![8, 2048]⟩
abbrev S8x1x2048 : Shape := ⟨3, ![8, 1, 2048]⟩
abbrev S1x2048x2048 : Shape := ⟨3, ![1, 2048, 2048]⟩
abbrev S2048x2048 : Shape := ⟨2, ![2048, 2048]⟩
abbrev S_ : Shape := ⟨0, ![]⟩
abbrev S12288 : Shape := ⟨1, ![12288]⟩
abbrev S12288x1 : Shape := ⟨2, ![12288, 1]⟩

abbrev nBuf : Space → Nat
  | .hbm => 72
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2x2048x2048, .f32⟩
  | .hbm, ⟨2, _⟩ => ⟨S16x256x2048, .f32⟩
  | .hbm, ⟨3, _⟩ => ⟨S8x1024x2048, .f32⟩
  | .hbm, ⟨4, _⟩ => ⟨S384x1x2048, .f32⟩
  | .hbm, ⟨5, _⟩ => ⟨S4x2048, .f32⟩
  | .hbm, ⟨6, _⟩ => ⟨S4x16x6x2048, .f32⟩
  | .hbm, ⟨7, _⟩ => ⟨S1x16x6x2048, .f32⟩
  | .hbm, ⟨8, _⟩ => ⟨S16x6x2048, .f32⟩
  | .hbm, ⟨9, _⟩ => ⟨S4096x2048, .f32⟩
  | .hbm, ⟨10, _⟩ => ⟨S8192x2048, .f32⟩
  | .hbm, ⟨11, _⟩ => ⟨S12288x2048, .f32⟩
  | .hbm, ⟨12, _⟩ => ⟨S16x1x2048, .f32⟩
  | .hbm, ⟨13, _⟩ => ⟨S16x2048, .f32⟩
  | .hbm, ⟨14, _⟩ => ⟨S1x2048, .f32⟩
  | .hbm, ⟨15, _⟩ => ⟨S2048, .f32⟩
  | .hbm, ⟨16, _⟩ => ⟨S4096x2048, .f32⟩
  | .hbm, ⟨17, _⟩ => ⟨S8x2048, .f32⟩
  | .hbm, ⟨18, _⟩ => ⟨S8x1x2048, .f32⟩
  | .hbm, ⟨19, _⟩ => ⟨S8x1024x2048, .f32⟩
  | .hbm, ⟨20, _⟩ => ⟨S8192x2048, .f32⟩
  | .hbm, ⟨21, _⟩ => ⟨S12288x2048, .f32⟩
  | .hbm, ⟨22, _⟩ => ⟨S12288x2048, .f32⟩
  | .hbm, ⟨23, _⟩ => ⟨S1x2048x2048, .f32⟩
  | .hbm, ⟨24, _⟩ => ⟨S2048x2048, .f32⟩
  | .hbm, ⟨25, _⟩ => ⟨S12288x2048, .f32⟩
  | .hbm, ⟨26, _⟩ => ⟨S12288x2048, .f32⟩
  | .hbm, ⟨27, _⟩ => ⟨S12288x2048, .f32⟩
  | .hbm, ⟨28, _⟩ => ⟨S12288x2048, .f32⟩
  | .hbm, ⟨29, _⟩ => ⟨S_, .f32⟩
  | .hbm, ⟨30, _⟩ => ⟨S12288, .f32⟩
  | .hbm, ⟨31, _⟩ => ⟨S12288x1, .f32⟩
  | .hbm, ⟨32, _⟩ => ⟨S_, .f32⟩
  | .hbm, ⟨33, _⟩ => ⟨S12288x1, .f32⟩
  | .hbm, ⟨34, _⟩ => ⟨S12288x1, .f32⟩
  | .hbm, ⟨35, _⟩ => ⟨S_, .f32⟩
  | .hbm, ⟨36, _⟩ => ⟨S12288x1, .f32⟩
  | .hbm, ⟨37, _⟩ => ⟨S12288x1, .f32⟩
  | .hbm, ⟨38, _⟩ => ⟨S12288x1, .f32⟩
  | .hbm, ⟨39, _⟩ => ⟨S12288x2048, .f32⟩
  | .hbm, ⟨40, _⟩ => ⟨S12288x2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S12288x2048, .f32⟩
  | .hbm, ⟨45, _⟩ => ⟨S12288x2048, .f32⟩
  | .hbm, ⟨46, _⟩ => ⟨S16x1x2048, .f32⟩
  | .hbm, ⟨47, _⟩ => ⟨S16x2048, .f32⟩
  | .hbm, ⟨48, _⟩ => ⟨S1x2048, .f32⟩
  | .hbm, ⟨49, _⟩ => ⟨S2048, .f32⟩
  | .hbm, ⟨50, _⟩ => ⟨S4096x2048, .f32⟩
  | .hbm, ⟨51, _⟩ => ⟨S8x2048, .f32⟩
  | .hbm, ⟨52, _⟩ => ⟨S8x1x2048, .f32⟩
  | .hbm, ⟨53, _⟩ => ⟨S8x1024x2048, .f32⟩
  | .hbm, ⟨54, _⟩ => ⟨S8192x2048, .f32⟩
  | .hbm, ⟨55, _⟩ => ⟨S12288x2048, .f32⟩
  | .hbm, ⟨56, _⟩ => ⟨S_, .f32⟩
  | .hbm, ⟨57, _⟩ => ⟨S12288x2048, .f32⟩
  | .hbm, ⟨58, _⟩ => ⟨S12288x2048, .f32⟩
  | .hbm, ⟨59, _⟩ => ⟨S12288x2048, .f32⟩
  | .hbm, ⟨60, _⟩ => ⟨S16x1x2048, .f32⟩
  | .hbm, ⟨61, _⟩ => ⟨S16x2048, .f32⟩
  | .hbm, ⟨62, _⟩ => ⟨S1x2048, .f32⟩
  | .hbm, ⟨63, _⟩ => ⟨S2048, .f32⟩
  | .hbm, ⟨64, _⟩ => ⟨S4096x2048, .f32⟩
  | .hbm, ⟨65, _⟩ => ⟨S8x2048, .f32⟩
  | .hbm, ⟨66, _⟩ => ⟨S8x1x2048, .f32⟩
  | .hbm, ⟨67, _⟩ => ⟨S8x1024x2048, .f32⟩
  | .hbm, ⟨68, _⟩ => ⟨S8192x2048, .f32⟩
  | .hbm, ⟨69, _⟩ => ⟨S12288x2048, .f32⟩
  | .hbm, ⟨70, _⟩ => ⟨S12288x2048, .f32⟩
  | .hbm, ⟨71, _⟩ => ⟨S12288x2048, .bf16⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩

abbrev nD : Nat := 1
abbrev τ : Topo := Topo.v7x

variable {F : FTy → Type} [FloatOps F]
-- ==== Gating.lean ====
abbrev S12288x4096 : Shape := ⟨2, ![12288, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S12288x2048 : Shape := ⟨2, ![12288, 2048]⟩
abbrev S256x4096 : Shape := ⟨2, ![256, 4096]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 10
  | .vmem => 7
  | .smem => 0
  | _ => 0

abbrev bufTy : (tb : Table) → Fin (tcTables nBuf tb) → BufTy
  | .hbm, ⟨0, _⟩ => ⟨S12288x4096, .bf16⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S1x2048, .f32⟩
  | .hbm, ⟨8, _⟩ => ⟨S128x16, .f32⟩
  | .hbm, ⟨9, _⟩ => ⟨S12288x2048, .bf16⟩
  | .local _ .vmem, ⟨0, _⟩ => ⟨S256x4096, .bf16⟩
  | .local _ .vmem, ⟨1, _⟩ => ⟨S256x4096, .bf16⟩
  | .local _ .vmem, ⟨2, _⟩ => ⟨S1x2048, .f32⟩
  | .local _ .vmem, ⟨3, _⟩ => ⟨S16x128x128, .f32⟩
  | .local _ .vmem, ⟨4, _⟩ => ⟨S128x16, .f32⟩
  | .local _ .vmem, ⟨5, _⟩ => ⟨S256x2048, .bf16⟩
  | .local _ .vmem, ⟨6, _⟩ => ⟨S256x2048, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatingReferenceIdeal.lean ====
abbrev S12288x4096 : Shape := ⟨2, ![12288, 4096]⟩
abbrev S1x2048 : Shape := ⟨2, ![1, 2048]⟩
abbrev S1x16x128x128 : Shape := ⟨4, ![1, 16, 128, 128]⟩
abbrev S1x16x128 : Shape := ⟨3, ![1, 16, 128]⟩
abbrev S12288x2048 : Shape := ⟨2, ![12288, 2048]⟩
abbrev S_ : Shape := ⟨0, ![]⟩
abbrev S12288 : Shape := ⟨1, ![12288]⟩
abbrev S12288x1 : Shape := ⟨2, ![12288, 1]⟩
abbrev S2048 : Shape := ⟨1, ![2048]⟩
abbrev S16x128x128 : Shape := ⟨3, ![16, 128, 128]⟩
abbrev S96x128x16x128 : Shape := ⟨4, ![96, 128, 16, 128]⟩
abbrev S16x96x128x128 : Shape := ⟨4, ![16, 96, 128, 128]⟩
abbrev S16x128 : Shape := ⟨2, ![16, 128]⟩
abbrev S128x16 : Shape := ⟨2, ![128, 16]⟩
abbrev S1x128x16x1 : Shape := ⟨4, ![1, 128, 16, 1]⟩

abbrev nBuf : Space → Nat
  | .hbm => 37
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S12288x2048, .bf16⟩
  | .hbm, ⟨5, _⟩ => ⟨S12288x2048, .f32⟩
  | .hbm, ⟨6, _⟩ => ⟨S12288x2048, .bf16⟩
  | .hbm, ⟨7, _⟩ => ⟨S12288x2048, .f32⟩
  | .hbm, ⟨8, _⟩ => ⟨S12288x2048, .f32⟩
  | .hbm, ⟨9, _⟩ => ⟨S_, .f32⟩
  | .hbm, ⟨10, _⟩ => ⟨S12288, .f32⟩
  | .hbm, ⟨11, _⟩ => ⟨S12288x1, .f32⟩
  | .hbm, ⟨12, _⟩ => ⟨S_, .f32⟩
  | .hbm, ⟨13, _⟩ => ⟨S12288x1, .f32⟩
  | .hbm, ⟨14, _⟩ => ⟨S12288x1, .f32⟩
  | .hbm, ⟨15, _⟩ => ⟨S_, .f32⟩
  | .hbm, ⟨16, _⟩ => ⟨S12288x1, .f32⟩
  | .hbm, ⟨17, _⟩ => ⟨S12288x1, .f32⟩
  | .hbm, ⟨18, _⟩ => ⟨S12288x1, .f32⟩
  | .hbm, ⟨19, _⟩ => ⟨S12288x2048, .f32⟩
  | .hbm, ⟨20, _⟩ => ⟨S12288x2048, .f32⟩
  | .hbm, ⟨21, _⟩ => ⟨S2048, .f32⟩
  | .hbm, ⟨22, _⟩ => ⟨S1x2048, .f32⟩
  | .hbm, ⟨23, _⟩ => ⟨S12288x2048, .f32⟩
  | .hbm, ⟨24, _⟩ => ⟨S12288x2048, .f32⟩
  | .hbm, ⟨25, _⟩ => ⟨S16x128x128, .f32⟩
  | .hbm, ⟨26, _⟩ => ⟨S96x128x16x128, .f32⟩
  | .hbm, ⟨27, _⟩ => ⟨S16x96x128x128, .f32⟩
  | .hbm, ⟨28, _⟩ => ⟨S96x128x16x128, .f32⟩
  | .hbm, ⟨29, _⟩ => ⟨S16x128, .f32⟩
  | .hbm, ⟨30, _⟩ => ⟨S128x16, .f32⟩
  | .hbm, ⟨31, _⟩ => ⟨S1x128x16x1, .f32⟩
  | .hbm, ⟨32, _⟩ => ⟨S96x128x16x128, .f32⟩
  | .hbm, ⟨33, _⟩ => ⟨S96x128x16x128, .f32⟩
  | .hbm, ⟨34, _⟩ => ⟨S12288x2048, .f32⟩
  | .hbm, ⟨35, _⟩ => ⟨S12288x2048, .f32⟩
  | .hbm, ⟨36, _⟩ => ⟨S12288x2048, .bf16⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Modulation.lean ====
abbrev S8x2048 : Shape := ⟨2, ![8, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S4x1x12288, .f32⟩
  | .hbm, ⟨9, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x2048 : Shape := ⟨2, ![8, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S4x12288x16, .f32⟩
  | .hbm, ⟨18, _⟩ => ⟨S4x16x12288, .f32⟩
  | .hbm, ⟨19, _⟩ => ⟨S4x1x12288, .f32⟩
  | .hbm, ⟨20, _⟩ => ⟨S4x16x12288, .f32⟩
  | .hbm, ⟨21, _⟩ => ⟨S4x16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== NextSample.lean ====
abbrev S8x1024x2048 : Shape := ⟨3, ![8, 1024, 2048]⟩
abbrev S16x1536x2048 : Shape := ⟨3, ![16, 1536, 2048]⟩
abbrev S12288x2048 : Shape := ⟨2, ![12288, 2048]⟩
abbrev S384x1x2048 : Shape := ⟨3, ![384, 1, 2048]⟩
abbrev S4x2048 : Shape := ⟨2, ![4, 2048]⟩
abbrev S4x1x2048 : Shape := ⟨3, ![4, 1, 2048]⟩
abbrev S1x512x2048 : Shape := ⟨3, ![1, 512, 2048]⟩
abbrev S16x128x2048 : Shape := ⟨3, ![16, 128, 2048]⟩
abbrev S512x2048 : Shape := ⟨2, ![512, 2048]⟩
abbrev S1x1x2048 : Shape := ⟨3, ![1, 1, 2048]⟩
abbrev S1x2048 : Shape := ⟨2, ![1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S8x1024x2048, .bf16⟩
  | .hbm, ⟨1, _⟩ => ⟨S16x1536x2048, .bf16⟩
  | .hbm, ⟨2, _⟩ => ⟨S12288x2048, .f32⟩
  | .hbm, ⟨3, _⟩ => ⟨S384x1x2048, .f32⟩
  | .hbm, ⟨4, _⟩ => ⟨S4x2048, .f32⟩
  | .hbm, ⟨5, _⟩ => ⟨S12288x2048, .bf16⟩
  | .hbm, ⟨6, _⟩ => ⟨S4x1x2048, .f32⟩
  | .hbm, ⟨7, _⟩ => ⟨S12288x2048, .f32⟩
  | .hbm, ⟨8, _⟩ => ⟨S12288x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S16x128x2048, .bf16⟩
  | .local _ .vmem, ⟨3, _⟩ => ⟨S16x128x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c8_i32_0 : BitVec 32 := 8#32
  let v3 : BitVec 1 := Scalar.cmpi .slt v2 c8_i32_0
  let c8_i32_1 : BitVec 32 := 8#32
  let v4 : BitVec 32 := Scalar.subi v2 c8_i32_1
  let c2_i32_2 : BitVec 32 := 2#32
  let v5 : BitVec 32 := Scalar.divsi v4 c2_i32_2
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c2_i32_2 c0_i32_4
  let v12 : BitVec 32 := Scalar.extui v11
  let c0_i32_5 : BitVec 32 := 0#32
  let v13 : BitVec 1 := Scalar.cmpi .slt c2_i32_2 c0_i32_5
  let v14 : BitVec 32 := Scalar.extui v13
  let v15 : BitVec 32 := Scalar.subi v12 v14
  let v16 : BitVec 1 := Scalar.cmpi .ne v10 v15
  let v17 : BitVec 32 := Scalar.remsi v4 c2_i32_2
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v3 c0_i32_8 v22
  let c0_i32_9 : BitVec 32 := 0#32
  let v24 : BitVec 32 := Scalar.addi c0_i32_9 v23
  let c6_i32 : BitVec 32 := 6#32
  let v25 : BitVec 32 := Scalar.muli v24 c6_i32
  let c5_i32 : BitVec 32 := 5#32
  let v26 : BitVec 32 := Scalar.addi v25 c5_i32
  let c0_i32_10 : BitVec 32 := 0#32
  let c0_i32_11 : BitVec 32 := 0#32
  let c0_i32_12 : BitVec 32 := 0#32
  ![v26.toNat, c0_i32_10.toNat, c0_i32_11.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c8_i32_0 : BitVec 32 := 8#32
  let v3 : BitVec 1 := Scalar.cmpi .slt v2 c8_i32_0
  let c8_i32_1 : BitVec 32 := 8#32
  let v4 : BitVec 32 := Scalar.subi v2 c8_i32_1
  let c2_i32_2 : BitVec 32 := 2#32
  let v5 : BitVec 32 := Scalar.divsi v4 c2_i32_2
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c2_i32_2 c0_i32_4
  let v12 : BitVec 32 := Scalar.extui v11
  let c0_i32_5 : BitVec 32 := 0#32
  let v13 : BitVec 1 := Scalar.cmpi .slt c2_i32_2 c0_i32_5
  let v14 : BitVec 32 := Scalar.extui v13
  let v15 : BitVec 32 := Scalar.subi v12 v14
  let v16 : BitVec 1 := Scalar.cmpi .ne v10 v15
  let v17 : BitVec 32 := Scalar.remsi v4 c2_i32_2
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v3 c0_i32_8 v22
  let c16_i32 : BitVec 32 := 16#32
  let v24 : BitVec 32 := Scalar.addi c16_i32 v23
  let c6_i32 : BitVec 32 := 6#32
  let v25 : BitVec 32 := Scalar.muli v24 c6_i32
  let c0_i32_9 : BitVec 32 := 0#32
  let v26 : BitVec 32 := Scalar.addi v25 c0_i32_9
  let c0_i32_10 : BitVec 32 := 0#32
  let c0_i32_11 : BitVec 32 := 0#32
  let c0_i32_12 : BitVec 32 := 0#32
  ![v26.toNat, c0_i32_10.toNat, c0_i32_11.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c8_i32_0 : BitVec 32 := 8#32
  let v3 : BitVec 1 := Scalar.cmpi .slt v2 c8_i32_0
  let c8_i32_1 : BitVec 32 := 8#32
  let v4 : BitVec 32 := Scalar.subi v2 c8_i32_1
  let c2_i32_2 : BitVec 32 := 2#32
  let v5 : BitVec 32 := Scalar.divsi v4 c2_i32_2
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c2_i32_2 c0_i32_4
  let v12 : BitVec 32 := Scalar.extui v11
  let c0_i32_5 : BitVec 32 := 0#32
  let v13 : BitVec 1 := Scalar.cmpi .slt c2_i32_2 c0_i32_5
  let v14 : BitVec 32 := Scalar.extui v13
  let v15 : BitVec 32 := Scalar.subi v12 v14
  let v16 : BitVec 1 := Scalar.cmpi .ne v10 v15
  let v17 : BitVec 32 := Scalar.remsi v4 c2_i32_2
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v3 c0_i32_8 v22
  let c16_i32 : BitVec 32 := 16#32
  let v24 : BitVec 32 := Scalar.addi c16_i32 v23
  let c6_i32 : BitVec 32 := 6#32
  let v25 : BitVec 32 := Scalar.muli v24 c6_i32
  let c1_i32_9 : BitVec 32 := 1#32
  let v26 : BitVec 32 := Scalar.addi v25 c1_i32_9
  let c0_i32_10 : BitVec 32 := 0#32
  let c0_i32_11 : BitVec 32 := 0#32
  let c0_i32_12 : BitVec 32 := 0#32
  ![v26.toNat, c0_i32_10.toNat, c0_i32_11.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NextSampleReferenceIdeal.lean ====
abbrev S8x1024x2048 : Shape := ⟨3, ![8, 1024, 2048]⟩
abbrev S16x1536x2048 : Shape := ⟨3, ![16, 1536, 2048]⟩
abbrev S12288x2048 : Shape := ⟨2, ![12288, 2048]⟩
abbrev S384x1x2048 : Shape := ⟨3, ![384, 1, 2048]⟩
abbrev S4x2048 : Shape := ⟨2, ![4, 2048]⟩
abbrev S4x16x6x2048 : Shape := ⟨4, ![4, 16, 6, 2048]⟩
abbrev S4x8x6x2048 : Shape := ⟨4, ![4, 8, 6, 2048]⟩
abbrev S16x1024x2048 : Shape := ⟨3, ![16, 1024, 2048]⟩
abbrev S16x8x128x2048 : Shape := ⟨4, ![16, 8, 128, 2048]⟩
abbrev S8192x2048 : Shape := ⟨2, ![8192, 2048]⟩
abbrev S1x8x1x2048 : Shape := ⟨4, ![1, 8, 1, 2048]⟩
abbrev S8x2048 : Shape := ⟨2, ![8, 2048]⟩
abbrev S8x16x128x2048 : Shape := ⟨4, ![8, 16, 128, 2048]⟩
abbrev S8x2048x2048 : Shape := ⟨3, ![8, 2048, 2048]⟩
abbrev S8x1x2048 : Shape := ⟨3, ![8, 1, 2048]⟩
abbrev S1x2048 : Shape := ⟨2, ![1, 2048]⟩
abbrev S2048 : Shape := ⟨1, ![2048]⟩
abbrev S_ : Shape := ⟨0, ![]⟩
abbrev S8x1024 : Shape := ⟨2, ![8, 1024]⟩
abbrev S8x1024x1 : Shape := ⟨3, ![8, 1024, 1]⟩
abbrev S1x1x2048 : Shape := ⟨3, ![1, 1, 2048]⟩
abbrev S4096x2048 : Shape := ⟨2, ![4096, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S16x1536x2048, .bf16⟩
  | .hbm, ⟨2, _⟩ => ⟨S12288x2048, .f32⟩
  | .hbm, ⟨3, _⟩ => ⟨S384x1x2048, .f32⟩
  | .hbm, ⟨4, _⟩ => ⟨S4x2048, .f32⟩
  | .hbm, ⟨5, _⟩ => ⟨S12288x2048, .bf16⟩
  | .hbm, ⟨6, _⟩ => ⟨S4x16x6x2048, .f32⟩
  | .hbm, ⟨7, _⟩ => ⟨S4x8x6x2048, .f32⟩
  | .hbm, ⟨8, _⟩ => ⟨S16x1024x2048, .bf16⟩
  | .hbm, ⟨9, _⟩ => ⟨S16x8x128x2048, .bf16⟩
  | .hbm, ⟨10, _⟩ => ⟨S8192x2048, .f32⟩
  | .hbm, ⟨11, _⟩ => ⟨S1x8x1x2048, .f32⟩
  | .hbm, ⟨12, _⟩ => ⟨S8x2048, .f32⟩
  | .hbm, ⟨13, _⟩ => ⟨S16x8x128x2048, .f32⟩
  | .hbm, ⟨14, _⟩ => ⟨S8x16x128x2048, .f32⟩
  | .hbm, ⟨15, _⟩ => ⟨S8x2048x2048, .f32⟩
  | .hbm, ⟨16, _⟩ => ⟨S8x1024x2048, .f32⟩
  | .hbm, ⟨17, _⟩ => ⟨S8x1x2048, .f32⟩
  | .hbm, ⟨18, _⟩ => ⟨S8x1024x2048, .f32⟩
  | .hbm, ⟨19, _⟩ => ⟨S8x1024x2048, .f32⟩
  | .hbm, ⟨20, _⟩ => ⟨S8x1024x2048, .f32⟩
  | .hbm, ⟨21, _⟩ => ⟨S8x1024x2048, .f32⟩
  | .hbm, ⟨22, _⟩ => ⟨S8x1024x2048, .f32⟩
  | .hbm, ⟨23, _⟩ => ⟨S1x2048, .f32⟩
  | .hbm, ⟨24, _⟩ => ⟨S2048, .f32⟩
  | .hbm, ⟨25, _⟩ => ⟨S1x8x1x2048, .f32⟩
  | .hbm, ⟨26, _⟩ => ⟨S8x2048, .f32⟩
  | .hbm, ⟨27, _⟩ => ⟨S1x8x1x2048, .f32⟩
  | .hbm, ⟨28, _⟩ => ⟨S8x2048, .f32⟩
  | .hbm, ⟨29, _⟩ => ⟨S8x1024x2048, .f32⟩
  | .hbm, ⟨30, _⟩ => ⟨S_, .f32⟩
  | .hbm, ⟨31, _⟩ => ⟨S8x1024, .f32⟩
  | .hbm, ⟨32, _⟩ => ⟨S8x1024x1, .f32⟩
  | .hbm, ⟨33, _⟩ => ⟨S_, .f32⟩
  | .hbm, ⟨34, _⟩ => ⟨S8x1024x1, .f32⟩
  | .hbm, ⟨35, _⟩ => ⟨S8x1024x1, .f32⟩
  | .hbm, ⟨36, _⟩ => ⟨S_, .f32⟩
  | .hbm, ⟨37, _⟩ => ⟨S8x1024x1, .f32⟩
  | .hbm, ⟨38, _⟩ => ⟨S8x1024x1, .f32⟩
  | .hbm, ⟨39, _⟩ => ⟨S8x1024x1, .f32⟩
  | .hbm, ⟨40, _⟩ => ⟨S8x1024x2048, .f32⟩
  | .hbm, ⟨41, _⟩ => ⟨S8x1024x2048, .f32⟩
  | .hbm, ⟨42, _⟩ => ⟨S1x1x2048, .f32⟩
  | .hbm, ⟨43, _⟩ => ⟨S8x1024x2048, .f32⟩
  | .hbm, ⟨44, _⟩ => ⟨S8x1024x2048, .f32⟩
  | .hbm, ⟨45, _⟩ => ⟨S8x1x2048, .f32⟩
  | .hbm, ⟨46, _⟩ => ⟨S_, .f32⟩
  | .hbm, ⟨47, _⟩ => ⟨S8x1x2048, .f32⟩
  | .hbm, ⟨48, _⟩ => ⟨S8x1x2048, .f32⟩
  | .hbm, ⟨49, _⟩ => ⟨S8x1024x2048, .f32⟩
  | .hbm, ⟨50, _⟩ => ⟨S8x1024x2048, .f32⟩
  | .hbm, ⟨51, _⟩ => ⟨S8x1x2048, .f32⟩
  | .hbm, ⟨52, _⟩ => ⟨S8x1024x2048, .f32⟩
  | .hbm, ⟨53, _⟩ => ⟨S8x1024x2048, .f32⟩
  | .hbm, ⟨54, _⟩ => ⟨S8x1024x2048, .bf16⟩
  | .hbm, ⟨55, _⟩ => ⟨S4096x2048, .f32⟩
  | .hbm, ⟨56, _⟩ => ⟨S8192x2048, .f32⟩
  | .hbm, ⟨57, _⟩ => ⟨S12288x2048, .f32⟩
  | .hbm, ⟨58, _⟩ => ⟨S4096x2048, .bf16⟩
  | .hbm, ⟨59, _⟩ => ⟨S8192x2048, .bf16⟩
  | .hbm, ⟨60, _⟩ => ⟨S12288x2048, .bf16⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== EnterSample.lean ====
abbrev S8x1024x2048 : Shape := ⟨3, ![8, 1024, 2048]⟩
abbrev S4x2048 : Shape := ⟨2, ![4, 2048]⟩
abbrev S384x1x2048 : Shape := ⟨3, ![384, 1, 2048]⟩
abbrev S12288x2048 : Shape := ⟨2, ![12288, 2048]⟩
abbrev S8192x2048 : Shape := ⟨2, ![8192, 2048]⟩
abbrev S4x1x2048 : Shape := ⟨3, ![4, 1, 2048]⟩
abbrev S512x2048 : Shape := ⟨2, ![512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x1024x2048, .f32⟩
  | .hbm, ⟨1, _⟩ => ⟨S4x2048, .f32⟩
  | .hbm, ⟨2, _⟩ => ⟨S384x1x2048, .f32⟩
  | .hbm, ⟨3, _⟩ => ⟨S12288x2048, .bf16⟩
  | .hbm, ⟨4, _⟩ => ⟨S8192x2048, .f32⟩
  | .hbm, ⟨5, _⟩ => ⟨S4x1x2048, .f32⟩
  | .hbm, ⟨6, _⟩ => ⟨S12288x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c8_i32_0 : BitVec 32 := 8#32
  let v1 : BitVec 1 := Scalar.cmpi .slt v0 c8_i32_0
  let c8_i32_1 : BitVec 32 := 8#32
  let v2 : BitVec 32 := Scalar.subi v0 c8_i32_1
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c6_i32 : BitVec 32 := 6#32
  let v22 : BitVec 32 := Scalar.muli v21 c6_i32
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c8_i32 : BitVec 32 := 8#32
  let v0 : BitVec 32 := Scalar.addi c8_i32 arg0
  let c8_i32_0 : BitVec 32 := 8#32
  let v1 : BitVec 1 := Scalar.cmpi .slt v0 c8_i32_0
  let c8_i32_1 : BitVec 32 := 8#32
  let v2 : BitVec 32 := Scalar.subi v0 c8_i32_1
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c6_i32 : BitVec 32 := 6#32
  let v22 : BitVec 32 := Scalar.muli v21 c6_i32
  let c1_i32_8 : BitVec 32 := 1#32
  let v23 : BitVec 32 := Scalar.addi v22 c1_i32_8
  let c0_i32_9 : BitVec 32 := 0#32
  let c0_i32_10 : BitVec 32 := 0#32
  let c0_i32_11 : BitVec 32 := 0#32
  ![v23.toNat, c0_i32_9.toNat, c0_i32_10.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EnterSampleReferenceIdeal.lean ====
abbrev S8x1024x2048 : Shape := ⟨3, ![8, 1024, 2048]⟩
abbrev S4x2048 : Shape := ⟨2, ![4, 2048]⟩
abbrev S384x1x2048 : Shape := ⟨3, ![384, 1, 2048]⟩
abbrev S12288x2048 : Shape := ⟨2, ![12288, 2048]⟩
abbrev S4x16x6x2048 : Shape := ⟨4, ![4, 16, 6, 2048]⟩
abbrev S1x8x6x2048 : Shape := ⟨4, ![1, 8, 6, 2048]⟩
abbrev S8x6x2048 : Shape := ⟨3, ![8, 6, 2048]⟩
abbrev S1x2048 : Shape := ⟨2, ![1, 2048]⟩
abbrev S2048 : Shape := ⟨1, ![2048]⟩
abbrev S8x1x2048 : Shape := ⟨3, ![8, 1, 2048]⟩
abbrev S8x2048 : Shape := ⟨2, ![8, 2048]⟩
abbrev S_ : Shape := ⟨0, ![]⟩
abbrev S8x1024 : Shape := ⟨2, ![8, 1024]⟩
abbrev S8x1024x1 : Shape := ⟨3, ![8, 1024, 1]⟩
abbrev S1x1x2048 : Shape := ⟨3, ![1, 1, 2048]⟩
abbrev S4096x2048 : Shape := ⟨2, ![4096, 2048]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S4x2048, .f32⟩
  | .hbm, ⟨2, _⟩ => ⟨S384x1x2048, .f32⟩
  | .hbm, ⟨3, _⟩ => ⟨S12288x2048, .bf16⟩
  | .hbm, ⟨4, _⟩ => ⟨S4x16x6x2048, .f32⟩
  | .hbm, ⟨5, _⟩ => ⟨S1x8x6x2048, .f32⟩
  | .hbm, ⟨6, _⟩ => ⟨S8x6x2048, .f32⟩
  | .hbm, ⟨7, _⟩ => ⟨S1x2048, .f32⟩
  | .hbm, ⟨8, _⟩ => ⟨S2048, .f32⟩
  | .hbm, ⟨9, _⟩ => ⟨S8x1x2048, .f32⟩
  | .hbm, ⟨10, _⟩ => ⟨S8x2048, .f32⟩
  | .hbm, ⟨11, _⟩ => ⟨S8x1x2048, .f32⟩
  | .hbm, ⟨12, _⟩ => ⟨S8x2048, .f32⟩
  | .hbm, ⟨13, _⟩ => ⟨S8x1024x2048, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S_, .f32⟩
  | .hbm, ⟨21, _⟩ => ⟨S8x1024x1, .f32⟩
  | .hbm, ⟨22, _⟩ => ⟨S8x1024x1, .f32⟩
  | .hbm, ⟨23, _⟩ => ⟨S8x1024x1, .f32⟩
  | .hbm, ⟨24, _⟩ => ⟨S8x1024x2048, .f32⟩
  | .hbm, ⟨25, _⟩ => ⟨S8x1024x2048, .f32⟩
  | .hbm, ⟨26, _⟩ => ⟨S1x1x2048, .f32⟩
  | .hbm, ⟨27, _⟩ => ⟨S8x1024x2048, .f32⟩
  | .hbm, ⟨28, _⟩ => ⟨S8x1024x2048, .f32⟩
  | .hbm, ⟨29, _⟩ => ⟨S8x1x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x1024x2048, .f32⟩
  | .hbm, ⟨34, _⟩ => ⟨S8x1024x2048, .f32⟩
  | .hbm, ⟨35, _⟩ => ⟨S8x1x2048, .f32⟩
  | .hbm, ⟨36, _⟩ => ⟨S8x1024x2048, .f32⟩
  | .hbm, ⟨37, _⟩ => ⟨S8x1024x2048, .f32⟩
  | .hbm, ⟨38, _⟩ => ⟨S8x1024x2048, .bf16⟩
  | .hbm, ⟨39, _⟩ => ⟨S4096x2048, .bf16⟩
  | .hbm, ⟨40, _⟩ => ⟨S8192x2048, .bf16⟩
  | .hbm, ⟨41, _⟩ => ⟨S12288x2048, .bf16⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.FfnUp.lean ====
module

public import proofs.«01_k».proof.Proof.Gen.FfnUpIdeal.Value
public import proofs.«01_k».proof.Proof.Gen.FfnUpReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUpIdeal.Values

open Cert.FfnUpIdeal Cert.FfnUpIdeal.Gen

variable (m : (ℓ : Loc nD τ sig) → Buf (Elt Ideal) ℓ)

/-- One more than an exponential is not zero. -/
theorem one_add_exp_ne (a : EReal) : (1 : EReal) + Ideal.exp a ≠ 0 := by
  have h0 : (0 : EReal) ≤ Ideal.exp a := by
    induction a using EReal.rec with
    | bot => exact le_refl _
    | coe r => exact EReal.coe_nonneg.2 (Real.exp_pos r).le
    | top => exact le_top
  exact (lt_of_lt_of_le zero_lt_one (le_add_of_nonneg_right h0)).ne'

/-- The two spellings of the gate's activation: a quotient, and a product with the logistic. -/
theorem silu_eq (a : EReal) : Ideal.div a (1 + Ideal.exp (0 - a)) = a * Ideal.div 1 (1 + Ideal.exp (-a)) := by
  rw [zero_sub, Ideal.div, Ideal.div, if_neg (one_add_exp_ne _), if_neg (one_add_exp_ne _), one_mul]

/-- The reference's result as a function of its three arguments. -/
def REF (X : FVec Ideal S16x1536x2048 .bf16) (Wg Wu : FVec Ideal S4x16x2048x1024 .f32) :
    FVec Ideal S16x1536x1024 .bf16 := fun j =>
  (∑ k : Fin 2048, X (ix3 (j 0) (j 1) k) * Wg (ix4 0 (j 0) k (j 2)))
    * Ideal.div 1 (1 + Ideal.exp (-∑ k : Fin 2048, X (ix3 (j 0) (j 1) k) * Wg (ix4 0 (j 0) k (j 2))))
    * ∑ k : Fin 2048, X (ix3 (j 0) (j 1) k) * Wu (ix4 0 (j 0) k (j 2))

theorem idx : ∀ t : Fin cfg0.N, win0_0.index t = ![t.val / 2, 0, 0] ∧ win0_1.index t = ![0, t.val / 2, 0, t.val % 2]
    ∧ win0_2.index t = ![0, t.val / 2, 0, t.val % 2] ∧ win0_3.index t = ![t.val / 2, 0, t.val % 2] :=
  (by decide +kernel : ∀ t : Fin grid0.N, _)

set_option maxHeartbeats 1600000 in
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  canon_tiles x h
  all_goals (open_payloads; pointwise [REF, silu_eq]; blk_point [iblk, V, idx t])

end Cert.FfnUpIdeal.Values

namespace Cert.FfnUpReferenceIdeal.Values

open Cert.FfnUpReferenceIdeal Cert.FfnUpReferenceIdeal.Gen

/-- What the reference's host operations compose to is `REF`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.FfnUpIdeal.Values.REF (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    funext j
    pointwise [Cert.FfnUpIdeal.Values.REF]), (h c).2⟩) (Value.run m ρ)

end Cert.FfnUpReferenceIdeal.Values

end
-- ==== Proof.FfnDown.lean ====
module

public import proofs.«01_k».proof.Proof.Gen.FfnDownIdeal.Value
public import proofs.«01_k».proof.Proof.Gen.FfnDownReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownIdeal.Values

open Cert.FfnDownIdeal Cert.FfnDownIdeal.Gen

variable (m : (ℓ : Loc nD τ sig) → Buf (Elt Ideal) ℓ)

/-- The reference's result as a function of its three arguments. -/
def REF (X : FVec Ideal S16x1536x1024 .bf16) (Wd : FVec Ideal S4x16x1024x2048 .f32) (G : FVec Ideal S16x1536x1 .f32) :
    FVec Ideal S16x1536x2048 .bf16 := fun j =>
  (∑ k : Fin 1024, X (ix3 (j 0) (j 1) k) * Wd (ix4 0 (j 0) k (j 2))) * G (ix3 (j 0) (j 1) 0)

theorem idx : ∀ t : Fin cfg0.N, win0_0.index t = ![t.val, 0, 0] ∧ win0_1.index t = ![0, t.val, 0, 0] ∧ win0_2.index t = ![t.val, 0, 0]
    ∧ win0_3.index t = ![t.val, 0, 0] :=
  (by decide +kernel : ∀ t : Fin grid0.N, _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  canon_tiles x h
  all_goals (open_payloads; pointwise [REF]; blk_point [iblk, V, idx t])

end Cert.FfnDownIdeal.Values

namespace Cert.FfnDownReferenceIdeal.Values

open Cert.FfnDownReferenceIdeal Cert.FfnDownReferenceIdeal.Gen

/-- What the reference's host operations compose to is `REF`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.FfnDownIdeal.Values.REF (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    funext j
    pointwise [Cert.FfnDownIdeal.Values.REF]), (h c).2⟩) (Value.run m ρ)

end Cert.FfnDownReferenceIdeal.Values

end
-- ==== Proof.ProjectA.lean ====
module

public import proofs.«01_k».proof.Proof.Gen.ProjectAIdeal.Value
public import proofs.«01_k».proof.Proof.Gen.ProjectAReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjectAIdeal.Values

open Cert.ProjectAIdeal Cert.ProjectAIdeal.Gen

variable (m : (ℓ : Loc nD τ sig) → Buf (Elt Ideal) ℓ)

/-- The product of the rows `X` with the layer's matrix, element by element. -/
def REF (X : FVec Ideal S12288x2048 .bf16) (W : FVec Ideal S2x2048x3072 .f32) : FVec Ideal S12288x3072 .f32 := fun j =>
  ∑ k : Fin 2048, X (ix2 (j 0) k) * W (ix3 0 k (j 1))

theorem idx : ∀ t : Fin cfg0.N, win0_0.index t = ![t.val % 12, 0] ∧ win0_1.index t = ![0, 0, t.val / 12]
    ∧ win0_2.index t = ![t.val % 12, t.val / 12] :=
  (by decide +kernel : ∀ t : Fin grid0.N, _)

/-- At the first point of a column of tiles the kept copy becomes the column's block of the matrix. -/
theorem keep_first (c : Dev nD) (t : Fin cfg0.N) (h : t.val % 12 = 0) (y : S2048x1024.Idx) :
    (outsAt0 m c t.val t.isLt).2 y = iblk m c 1 t (ix3 0 (y 0) (y 1)) := by
  rw [outsAt0_A m c t h]
  frame_out
  pointwise [k0_pay1]

/-- The kept copy is the block of the matrix of the current column of tiles, after every point. -/
theorem kept (c : Dev nD) : ∀ (n : ℕ) (hn : n < cfg0.N) (y : S2048x1024.Idx),
    (outsAt0 m c n hn).2 y = iblk m c 1 ⟨n, hn⟩ (ix3 0 (y 0) (y 1)) := by
  intro n
  induction n with
  | zero => exact fun hn y => keep_first m c ⟨0, hn⟩ rfl y
  | succ n ih =>
    intro hn y
    by_cases h : (n + 1) % 12 = 0
    · exact keep_first m c ⟨n + 1, hn⟩ h y
    · have e := congrArg Prod.snd (outsAt0_B m c ⟨n + 1, hn⟩ h)
      refine (congrFun e y).trans ((ih (Nat.lt_of_succ_lt hn) y).trans ?_)
      blk_ext [iblk, V, idx ⟨n, Nat.lt_of_succ_lt hn⟩, idx ⟨n + 1, hn⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 12 = 0
  · rw [outsAt0_A m c t h0]
    frame_out
    canon_tiles x h
    all_goals (open_payloads; pointwise [REF]; blk_point [iblk, V, idx t])
  · have hk := kept m c (t.val - 1) (Nat.lt_of_le_of_lt (Nat.sub_le _ _) t.isLt)
    rw [outsAt0_B m c t h0]
    generalize (outsAt0 m c (t.val - 1) (Nat.lt_of_le_of_lt (Nat.sub_le _ _) t.isLt)).2 = S at hk ⊢
    frame_out
    canon_tiles x h
    all_goals (open_payloads; simp only [read_unread_whole]; pointwise [REF, hk]; blk_point [iblk, V, idx t, idx ⟨t.val - 1, Nat.lt_of_le_of_lt (Nat.sub_le _ _) t.isLt⟩])

end Cert.ProjectAIdeal.Values

namespace Cert.ProjectAReferenceIdeal.Values

open Cert.ProjectAReferenceIdeal Cert.ProjectAReferenceIdeal.Gen

/-- What the reference's host operations compose to is `REF`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.ProjectAIdeal.Values.REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext j
    pointwise [Cert.ProjectAIdeal.Values.REF]), (h c).2⟩) (Value.run m ρ)

end Cert.ProjectAReferenceIdeal.Values

end
-- ==== Proof.ProjectB.lean ====
module

public import proofs.«01_k».proof.Proof.Gen.ProjectBIdeal.Value
public import proofs.«01_k».proof.Proof.Gen.ProjectBReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjectBIdeal.Values

open Cert.ProjectBIdeal Cert.ProjectBIdeal.Gen

variable (m : (ℓ : Loc nD τ sig) → Buf (Elt Ideal) ℓ)

/-- The product of the rows `X` with the layer's matrix, element by element. -/
def REF (X : FVec Ideal S12288x2048 .bf16) (W : FVec Ideal S1x2048x6144 .f32) : FVec Ideal S12288x6144 .f32 := fun j =>
  ∑ k : Fin 2048, X (ix2 (j 0) k) * W (ix3 0 k (j 1))

theorem idx : ∀ t : Fin cfg0.N, win0_0.index t = ![t.val % 12, 0] ∧ win0_1.index t = ![0, 0, t.val / 12]
    ∧ win0_2.index t = ![t.val % 12, t.val / 12] :=
  (by decide +kernel : ∀ t : Fin grid0.N, _)

/-- At the first point of a column of tiles the kept copy becomes the column's block of the matrix. -/
theorem keep_first (c : Dev nD) (t : Fin cfg0.N) (h : t.val % 12 = 0) (y : S2048x1024.Idx) :
    (outsAt0 m c t.val t.isLt).2 y = iblk m c 1 t (ix3 0 (y 0) (y 1)) := by
  rw [outsAt0_A m c t h]
  frame_out
  pointwise [k0_pay1]

/-- The kept copy is the block of the matrix of the current column of tiles, after every point. -/
theorem kept (c : Dev nD) : ∀ (n : ℕ) (hn : n < cfg0.N) (y : S2048x1024.Idx),
    (outsAt0 m c n hn).2 y = iblk m c 1 ⟨n, hn⟩ (ix3 0 (y 0) (y 1)) := by
  intro n
  induction n with
  | zero => exact fun hn y => keep_first m c ⟨0, hn⟩ rfl y
  | succ n ih =>
    intro hn y
    by_cases h : (n + 1) % 12 = 0
    · exact keep_first m c ⟨n + 1, hn⟩ h y
    · have e := congrArg Prod.snd (outsAt0_B m c ⟨n + 1, hn⟩ h)
      refine (congrFun e y).trans ((ih (Nat.lt_of_succ_lt hn) y).trans ?_)
      blk_ext [iblk, V, idx ⟨n, Nat.lt_of_succ_lt hn⟩, idx ⟨n + 1, hn⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 12 = 0
  · rw [outsAt0_A m c t h0]
    frame_out
    canon_tiles x h
    all_goals (open_payloads; pointwise [REF]; blk_point [iblk, V, idx t])
  · have hk := kept m c (t.val - 1) (Nat.lt_of_le_of_lt (Nat.sub_le _ _) t.isLt)
    rw [outsAt0_B m c t h0]
    generalize (outsAt0 m c (t.val - 1) (Nat.lt_of_le_of_lt (Nat.sub_le _ _) t.isLt)).2 = S at hk ⊢
    frame_out
    canon_tiles x h
    all_goals (open_payloads; simp only [read_unread_whole]; pointwise [REF, hk]; blk_point [iblk, V, idx t, idx ⟨t.val - 1, Nat.lt_of_le_of_lt (Nat.sub_le _ _) t.isLt⟩])

end Cert.ProjectBIdeal.Values

namespace Cert.ProjectBReferenceIdeal.Values

open Cert.ProjectBReferenceIdeal Cert.ProjectBReferenceIdeal.Gen

/-- The host's product, element by element. -/
theorem dot_at (X : FVec Ideal S12288x2048 .bf16) (W : FVec Ideal S1x2048x6144 .f32) (j : S12288x6144.Idx) :
    Host.dotGeneral (F := Ideal) dot_S12288x2048_S2048x6144_S12288x6144_1_0_0_1_n_n none (extf .f32 X bitsLt_bf16_f32)
      (shapeCast S2048x6144 W shapeCasts_S1x2048x6144_S2048x6144) j = ∑ k : Fin 2048, X (ix2 (j 0) k) * W (ix3 0 k (j 1)) := by
  pointwise

/-- What the reference's host operations compose to is `REF`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.ProjectBIdeal.Values.REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun j => dot_at _ _ j), (h c).2⟩) (Value.run m ρ)

end Cert.ProjectBReferenceIdeal.Values

end
-- ==== Proof.GatedIn.lean ====
module

public import proofs.«01_k».proof.Proof.Gen.GatedInIdeal.Value
public import proofs.«01_k».proof.Proof.Gen.GatedInReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GatedInIdeal.Values

open Cert.GatedInIdeal Cert.GatedInIdeal.Gen

variable (m : (ℓ : Loc nD τ sig) → Buf (Elt Ideal) ℓ)

/-- The hyperbolic-tangent form of the activation. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * a * a)))))

/-- The two orders of a cube. -/
theorem cube (a : EReal) : a * (a * a) = a * a * a := mul_comm _ _

/-- The activation of the product of the rows `X` with the layer's matrix, element by element. -/
def REF (X : FVec Ideal S12288x2048 .bf16) (W : FVec Ideal S1x2048x4096 .f32) : FVec Ideal S12288x4096 .bf16 := fun j =>
  gelu (∑ k : Fin 2048, X (ix2 (j 0) k) * W (ix3 0 k (j 1)))

theorem idx : ∀ t : Fin cfg0.N, win0_0.index t = ![t.val % 12, 0] ∧ win0_1.index t = ![0, 0, t.val / 12]
    ∧ win0_2.index t = ![t.val % 12, t.val / 12] :=
  (by decide +kernel : ∀ t : Fin grid0.N, _)

/-- At the first point of a column of tiles the kept copy becomes the column's block of the matrix. -/
theorem keep_first (c : Dev nD) (t : Fin cfg0.N) (h : t.val % 12 = 0) (y : S2048x1024.Idx) :
    (outsAt0 m c t.val t.isLt).2 y = iblk m c 1 t (ix3 0 (y 0) (y 1)) := by
  rw [outsAt0_A m c t h]
  frame_out
  pointwise [k0_pay2]

/-- The kept copy is the block of the matrix of the current column of tiles, after every point. -/
theorem kept (c : Dev nD) : ∀ (n : ℕ) (hn : n < cfg0.N) (y : S2048x1024.Idx),
    (outsAt0 m c n hn).2 y = iblk m c 1 ⟨n, hn⟩ (ix3 0 (y 0) (y 1)) := by
  intro n
  induction n with
  | zero => exact fun hn y => keep_first m c ⟨0, hn⟩ rfl y
  | succ n ih =>
    intro hn y
    by_cases h : (n + 1) % 12 = 0
    · exact keep_first m c ⟨n + 1, hn⟩ h y
    · have e := congrArg Prod.snd (outsAt0_B m c ⟨n + 1, hn⟩ h)
      refine (congrFun e y).trans ((ih (Nat.lt_of_succ_lt hn) y).trans ?_)
      blk_ext [iblk, V, idx ⟨n, Nat.lt_of_succ_lt hn⟩, idx ⟨n + 1, hn⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 12 = 0
  · rw [outsAt0_A m c t h0]
    frame_out
    canon_tiles x h
    all_goals (open_payloads; pointwise [REF, gelu, cube]; blk_point [iblk, V, idx t])
  · have hk := kept m c (t.val - 1) (Nat.lt_of_le_of_lt (Nat.sub_le _ _) t.isLt)
    rw [outsAt0_B m c t h0]
    generalize (outsAt0 m c (t.val - 1) (Nat.lt_of_le_of_lt (Nat.sub_le _ _) t.isLt)).2 = S at hk ⊢
    frame_out
    canon_tiles x h
    all_goals (open_payloads; simp only [read_unread_whole]; pointwise [REF, gelu, cube, hk]; blk_point [iblk, V, idx t, idx ⟨t.val - 1, Nat.lt_of_le_of_lt (Nat.sub_le _ _) t.isLt⟩])

end Cert.GatedInIdeal.Values

namespace Cert.GatedInReferenceIdeal.Values

open Cert.GatedInReferenceIdeal Cert.GatedInReferenceIdeal.Gen

/-- The host's product, element by element. -/
theorem dot_at (X : FVec Ideal S12288x2048 .bf16) (W : FVec Ideal S1x2048x4096 .f32) (j : S12288x4096.Idx) :
    Host.dotGeneral (F := Ideal) dot_S12288x2048_S2048x4096_S12288x4096_1_0_0_1_n_n none (extf .f32 X bitsLt_bf16_f32)
      (shapeCast S2048x4096 W shapeCasts_S1x2048x4096_S2048x4096) j = ∑ k : Fin 2048, X (ix2 (j 0) k) * W (ix3 0 k (j 1)) := by
  pointwise

/-- The host's activation, element by element. -/
theorem act_at (P : FVec Ideal S12288x4096 .f32) (j : S12288x4096.Idx) :
    truncf .bf16 (mulf P (mulf (broadcastInDim S12288x4096 ![] bcast_S_S12288x4096 (constant (F := Ideal) S_ .f32 0x3F000000#32)) (addf (broadcastInDim S12288x4096 ![] bcast_S_S12288x4096 (constant (F := Ideal) S_ .f32 0x3F800000#32)) (Host.tanh (mulf (broadcastInDim S12288x4096 ![] bcast_S_S12288x4096 (constant (F := Ideal) S_ .f32 0x3F4C422A#32))
      (addf P (mulf (broadcastInDim S12288x4096 ![] bcast_S_S12288x4096 (constant (F := Ideal) S_ .f32 0x3D372713#32)) (mulf (mulf P P) P)))))))) bitsLt_bf16_f32 j = Cert.GatedInIdeal.Values.gelu (P j) := by
  pointwise [Cert.GatedInIdeal.Values.gelu]

/-- What the reference's host operations compose to is `REF`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Cert.GatedInIdeal.Values.REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun j => (act_at _ j).trans (congrArg Cert.GatedInIdeal.Values.gelu (dot_at _ _ j))), (h c).2⟩) (Value.run m ρ)

end Cert.GatedInReferenceIdeal.Values

end
-- ==== Proof.MixOut.lean ====
module

public import proofs.«01_k».proof.Proof.Gen.MixOutIdeal.Value
public import proofs.«01_k».proof.Proof.Gen.MixOutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOutIdeal.Values

open Cert.MixOutIdeal Cert.MixOutIdeal.Gen

variable (m : (ℓ : Loc nD τ sig) → Buf (Elt Ideal) ℓ)

/-- The row of the modulation table that token `r` takes for slot `s`: the second layer's sixteen conditions lie from row 96 on, six slots each;
    the context tokens, the first 4096, take condition 0, and the latent tokens of batch `b` take condition `1 + b`. -/
def slot (r : Fin 12288) (s : Fin 6) : Fin 384 := ⟨96 + (r.val / 1024 - 3) * 6 + s.val, by omega⟩

/-- The residual stream after the mixer's output projection, gated. -/
def XN (O : FVec Ideal S12288x2048 .bf16) (W : FVec Ideal S1x2048x2048 .f32) (X : FVec Ideal S12288x2048 .f32) (M : FVec Ideal S384x1x2048 .f32) :
    FVec Ideal S12288x2048 .f32 := fun j =>
  X j + M (ix3 (slot (j 0) 2) 0 (j 1)) * ∑ k : Fin 2048, O (ix2 (j 0) k) * W (ix3 0 k (j 1))

/-- The rows of `Y` normalised, scaled and modulated. -/
def NM (Y : FVec Ideal S12288x2048 .f32) (M : FVec Ideal S384x1x2048 .f32) (G : FVec Ideal S4x2048 .f32) : FVec Ideal S12288x2048 .bf16 := fun j =>
  Y j * Ideal.rsqrt (Ideal.div (∑ k : Fin 2048, Y (ix2 (j 0) k) * Y (ix2 (j 0) k)) (Ideal.ofBits .f32 0x45000000#32) + Ideal.ofBits .f32 0x358637BD#32)
    * G (ix2 1 (j 1)) * (Ideal.ofBits .f32 0x3F800000#32 + M (ix3 (slot (j 0) 4) 0 (j 1))) + M (ix3 (slot (j 0) 3) 0 (j 1))

theorem idx : ∀ t : Fin cfg0.N, win0_0.index t = ![t.val, 0] ∧ win0_1.index t = ![0, 0] ∧ win0_2.index t = ![t.val, 0]
    ∧ win0_3.index t = ![96 + (t.val / 2 - 3) * 6 + 2, 0, 0] ∧ win0_4.index t = ![1, 0, 0] ∧ win0_5.index t = ![96 + (t.val / 2 - 3) * 6 + 3, 0, 0]
    ∧ win0_6.index t = ![96 + (t.val / 2 - 3) * 6 + 4, 0, 0] ∧ win0_7.index t = ![t.val, 0] ∧ win0_8.index t = ![t.val, 0] :=
  (by decide +kernel : ∀ t : Fin grid0.N, _)

theorem final_x (c : Dev nD) : (dats m 0 c).arrAt 7 (cfgs 0).N
    = XN (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  canon_tiles x h
  all_goals (open_payloads; pointwise [XN, slot]; blk_point [iblk, V, idx t])

set_option maxHeartbeats 1600000 in
theorem final_h (c : Dev nD) : (dats m 0 c).arrAt 8 (cfgs 0).N
    = NM (XN (m ((c : Thread nD τ).loc main_arg0)) (m ((c : Thread nD τ).loc main_arg1)) (m ((c : Thread nD τ).loc main_arg2)) (m ((c : Thread nD τ).loc main_arg3)))
        (m ((c : Thread nD τ).loc main_arg3)) (m ((c : Thread nD τ).loc main_arg4)) := by
  refine (dats m 0 c).arrAt_eq_of_covers 8 _ (by decide +kernel) fun t _ y => ?_
  blk_simp
  rw [after0_8]
  frame_out
  canon_tiles x h
  all_goals (open_payloads; pointwise [NM, XN, slot]; blk_point [iblk, V, idx t])

end Cert.MixOutIdeal.Values

namespace Cert.MixOutReferenceIdeal.Values

open Cert.MixOutReferenceIdeal Cert.MixOutReferenceIdeal.Gen
open Cert.MixOutIdeal.Values (slot XN NM)

/-- The row that each token takes from the table for slot 2. -/
def rows2 (M : FVec Ideal S384x1x2048 .f32) : FVec Ideal S12288x2048 .f32 :=
  concatenate S12288x2048 0 [⟨S4096x2048, (broadcastInDim S4096x2048 ![1] bcast_S2048_S4096x2048_1 (shapeCast _ (extractStridedSlice S1x2048 ![0, 0] (shapeCast _ (extractStridedSlice S16x1x2048 ![0, 2, 0] (shapeCast _ (extractStridedSlice S1x16x6x2048 ![1, 0, 0, 0] (shapeCast _ M shapeCasts_S384x1x2048_S4x16x6x2048) slices_S4x16x6x2048_S1x16x6x2048_1_0_0_0) shapeCasts_S1x16x6x2048_S16x6x2048) slices_S16x6x2048_S16x1x2048_0_2_0) shapeCasts_S16x1x2048_S16x2048) slices_S16x2048_S1x2048_0_0) shapeCasts_S1x2048_S2048))⟩, ⟨S8192x2048, (shapeCast _ (broadcastInDim S8x1024x2048 ![0, 1, 2] bcast_S8x1x2048_S8x1024x2048_0_1_2 (broadcastInDim S8x1x2048 ![0, 2] bcast_S8x2048_S8x1x2048_0_2 (extractStridedSlice S8x2048 ![1, 0] (shapeCast _ (extractStridedSlice S16x1x2048 ![0, 2, 0] (shapeCast _ (extractStridedSlice S1x16x6x2048 ![1, 0, 0, 0] (shapeCast _ M shapeCasts_S384x1x2048_S4x16x6x2048) slices_S4x16x6x2048_S1x16x6x2048_1_0_0_0) shapeCasts_S1x16x6x2048_S16x6x2048) slices_S16x6x2048_S16x1x2048_0_2_0) shapeCasts_S16x1x2048_S16x2048) slices_S16x2048_S8x2048_1_0))) shapeCasts_S8x1024x2048_S8192x2048)⟩] concatenates_S4096x2048_S8192x2048_S12288x2048_d0

theorem rows2_at (M : FVec Ideal S384x1x2048 .f32) (j : S12288x2048.Idx) : rows2 M j = M (ix3 (slot (j 0) 2) 0 (j 1)) := by
  pointwise [rows2, slot]
  blk_point []

/-- The row that each token takes from the table for slot 4. -/
def rows4 (M : FVec Ideal S384x1x2048 .f32) : FVec Ideal S12288x2048 .f32 :=
  concatenate S12288x2048 0 [⟨S4096x2048, (broadcastInDim S4096x2048 ![1] bcast_S2048_S4096x2048_1 (shapeCast _ (extractStridedSlice S1x2048 ![0, 0] (shapeCast _ (extractStridedSlice S16x1x2048 ![0, 4, 0] (shapeCast _ (extractStridedSlice S1x16x6x2048 ![1, 0, 0, 0] (shapeCast _ M shapeCasts_S384x1x2048_S4x16x6x2048) slices_S4x16x6x2048_S1x16x6x2048_1_0_0_0) shapeCasts_S1x16x6x2048_S16x6x2048) slices_S16x6x2048_S16x1x2048_0_4_0) shapeCasts_S16x1x2048_S16x2048) slices_S16x2048_S1x2048_0_0) shapeCasts_S1x2048_S2048))⟩, ⟨S8192x2048, (shapeCast _ (broadcastInDim S8x1024x2048 ![0, 1, 2] bcast_S8x1x2048_S8x1024x2048_0_1_2 (broadcastInDim S8x1x2048 ![0, 2] bcast_S8x2048_S8x1x2048_0_2 (extractStridedSlice S8x2048 ![1, 0] (shapeCast _ (extractStridedSlice S16x1x2048 ![0, 4, 0] (shapeCast _ (extractStridedSlice S1x16x6x2048 ![1, 0, 0, 0] (shapeCast _ M shapeCasts_S384x1x2048_S4x16x6x2048) slices_S4x16x6x2048_S1x16x6x2048_1_0_0_0) shapeCasts_S1x16x6x2048_S16x6x2048) slices_S16x6x2048_S16x1x2048_0_4_0) shapeCasts_S16x1x2048_S16x2048) slices_S16x2048_S8x2048_1_0))) shapeCasts_S8x1024x2048_S8192x2048)⟩] concatenates_S4096x2048_S8192x2048_S12288x2048_d0

theorem rows4_at (M : FVec Ideal S384x1x2048 .f32) (j : S12288x2048.Idx) : rows4 M j = M (ix3 (slot (j 0) 4) 0 (j 1)) := by
  pointwise [rows4, slot]
  blk_point []

/-- The row that each token takes from the table for slot 3. -/
def rows3 (M : FVec Ideal S384x1x2048 .f32) : FVec Ideal S12288x2048 .f32 :=
  concatenate S12288x2048 0 [⟨S4096x2048, (broadcastInDim S4096x2048 ![1] bcast_S2048_S4096x2048_1 (shapeCast _ (extractStridedSlice S1x2048 ![0, 0] (shapeCast _ (extractStridedSlice S16x1x2048 ![0, 3, 0] (shapeCast _ (extractStridedSlice S1x16x6x2048 ![1, 0, 0, 0] (shapeCast _ M shapeCasts_S384x1x2048_S4x16x6x2048) slices_S4x16x6x2048_S1x16x6x2048_1_0_0_0) shapeCasts_S1x16x6x2048_S16x6x2048) slices_S16x6x2048_S16x1x2048_0_3_0) shapeCasts_S16x1x2048_S16x2048) slices_S16x2048_S1x2048_0_0) shapeCasts_S1x2048_S2048))⟩, ⟨S8192x2048, (shapeCast _ (broadcastInDim S8x1024x2048 ![0, 1, 2] bcast_S8x1x2048_S8x1024x2048_0_1_2 (broadcastInDim S8x1x2048 ![0, 2] bcast_S8x2048_S8x1x2048_0_2 (extractStridedSlice S8x2048 ![1, 0] (shapeCast _ (extractStridedSlice S16x1x2048 ![0, 3, 0] (shapeCast _ (extractStridedSlice S1x16x6x2048 ![1, 0, 0, 0] (shapeCast _ M shapeCasts_S384x1x2048_S4x16x6x2048) slices_S4x16x6x2048_S1x16x6x2048_1_0_0_0) shapeCasts_S1x16x6x2048_S16x6x2048) slices_S16x6x2048_S16x1x2048_0_3_0) shapeCasts_S16x1x2048_S16x2048) slices_S16x2048_S8x2048_1_0))) shapeCasts_S8x1024x2048_S8192x2048)⟩] concatenates_S4096x2048_S8192x2048_S12288x2048_d0

theorem rows3_at (M : FVec Ideal S384x1x2048 .f32) (j : S12288x2048.Idx) : rows3 M j = M (ix3 (slot (j 0) 3) 0 (j 1)) := by
  pointwise [rows3, slot]
  blk_point []

/-- The first result of the reference, of its arguments. -/
def stream (O : FVec Ideal S12288x2048 .bf16) (W : FVec Ideal S1x2048x2048 .f32) (X : FVec Ideal S12288x2048 .f32) (M : FVec Ideal S384x1x2048 .f32) :
    FVec Ideal S12288x2048 .f32 :=
  addf X (mulf (rows2 M) (Host.dotGeneral dot_S12288x2048_S2048x2048_S12288x2048_1_0_0_1_n_n none (extf .f32 O bitsLt_bf16_f32) (shapeCast _ W shapeCasts_S1x2048x2048_S2048x2048)))

/-- The second result of the reference, of the first and the arguments. -/
def normed (Y : FVec Ideal S12288x2048 .f32) (M : FVec Ideal S384x1x2048 .f32) (G : FVec Ideal S4x2048 .f32) : FVec Ideal S12288x2048 .bf16 :=
  truncf .bf16 (addf (mulf (mulf (mulf (Y) (broadcastInDim S12288x2048 ![0, 1] bcast_S12288x1_S12288x2048_0_1 (Host.rsqrt (addf (Host.divf (broadcastInDim S12288x1 ![0] bcast_S12288_S12288x1_0 (Host.reduceAdd (mulf (Y) (Y)) (constant S_ .f32 0x00000000#32) reducesTo_S12288x2048_S12288_d1 h_S_)) (broadcastInDim S12288x1 ![] bcast_S_S12288x1 (constant S_ .f32 0x45000000#32))) (broadcastInDim S12288x1 ![] bcast_S_S12288x1 (constant S_ .f32 0x358637BD#32)))))) (broadcastInDim S12288x2048 ![0, 1] bcast_S1x2048_S12288x2048_0_1 (broadcastInDim S1x2048 ![1] bcast_S2048_S1x2048_1 (shapeCast _ (extractStridedSlice S1x2048 ![1, 0] G slices_S4x2048_S1x2048_1_0) shapeCasts_S1x2048_S2048)))) (addf (broadcastInDim S12288x2048 ![] bcast_S_S12288x2048 (constant S_ .f32 0x3F800000#32)) (rows4 M))) (rows3 M)) bitsLt_bf16_f32

theorem stream_eq (O : FVec Ideal S12288x2048 .bf16) (W : FVec Ideal S1x2048x2048 .f32) (X : FVec Ideal S12288x2048 .f32) (M : FVec Ideal S384x1x2048 .f32) :
    stream O W X M = XN O W X M := by
  funext j
  pointwise [stream, XN, rows2_at]

theorem normed_eq (Y : FVec Ideal S12288x2048 .f32) (M : FVec Ideal S384x1x2048 .f32) (G : FVec Ideal S4x2048 .f32) :
    normed Y M G = NM Y M G := by
  funext j
  pointwise [normed, NM, rows3_at, rows4_at]

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = XN (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v57) = NM (XN (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (stream_eq _ _ _ _),
    (h c).2.1.trans ((congrArg (fun Y => normed Y _ _) (stream_eq _ _ _ _)).trans (normed_eq _ _ _)), (h c).2.2⟩) (Value.run m ρ)

end Cert.MixOutReferenceIdeal.Values

end
-- ==== Proof.Softmax.lean ====
module

public import Idealize.ShloMosaic.Lib.Pipeline.ValueKit
public import Idealize.ShloMosaic.Lib.KernelVsHost

@[expose] public section

noncomputable section

open Idealize.ShloMosaic

/-!
Attention over extended reals. A weighted mean of the values, with weights `exp (s - M)` for scores `s` and their
largest one `M`, is taken in two ways: the weighted sum times the reciprocal of the sum of the weights, or the sum of
the values times the quotients of the weights by their sum. On real numbers the two agree.
-/

namespace Cert.Softmax

/-- The scale of the scores, the single-precision word nearest to 128 ^ (-1/2). -/
abbrev scale : EReal := Ideal.ofBits .f32 0x3DB504F3#32

/-- The word a maximum starts from. -/
abbrev low : EReal := Ideal.ofBits .f32 0xFF800000#32

theorem low_eq : low = ⊥ := by
  unfold low Ideal.ofBits Ideal.ieee
  exact (if_pos (by decide)).trans ((if_pos (by decide)).trans (if_pos (by decide)))

theorem scale_real : ∃ r : ℝ, scale = r := by
  unfold scale Ideal.ofBits Ideal.ieee
  exact ⟨_, rfl⟩

/-- All entries are real numbers. -/
def IsReal {ι : Type*} (f : ι → EReal) : Prop := ∀ i, ∃ r : ℝ, f i = r

variable {n d : ℕ}

/-- The scores with the query scaled before the product. -/
def before (q : Fin d → EReal) (k : Fin n → Fin d → EReal) (x : Fin n) : EReal := ∑ e, q e * scale * k x e

/-- The scores scaled after the product. -/
def after (q : Fin d → EReal) (k : Fin n → Fin d → EReal) (x : Fin n) : EReal := (∑ e, k x e * q e) * scale

/-- The largest score. -/
def top (s : Fin n → EReal) : EReal := Finset.univ.fold max low s

/-- The sum of the weights. -/
def total (s : Fin n → EReal) (M : EReal) : EReal := ∑ x, Ideal.exp (s x - M)

/-- The weighted sum of the values times the reciprocal of `D`. -/
def mean (s v : Fin n → EReal) (M D : EReal) : EReal := (∑ x, Ideal.exp (s x - M) * v x) * Ideal.div 1 D

/-- The sum of the values times the quotients by `D`. -/
def quot (s v : Fin n → EReal) (M D : EReal) : EReal := ∑ x, v x * Ideal.div (Ideal.exp (s x - M)) D

/-- A sum of real numbers in the extended reals. -/
theorem coe_sum (f : Fin n → ℝ) : ∑ x, (f x : EReal) = ((∑ x, f x : ℝ) : EReal) :=
  (map_sum (⟨⟨Real.toEReal, EReal.coe_zero⟩, EReal.coe_add⟩ : ℝ →+ EReal) f Finset.univ).symm

/-- Real numbers name a family whose entries are real. -/
theorem IsReal.names {ι : Type*} {f : ι → EReal} (h : IsReal f) : ∃ g : ι → ℝ, f = fun i => (g i : EReal) :=
  ⟨fun i => (h i).choose, funext fun i => (h i).choose_spec⟩

theorem before_eq_after {q : Fin d → EReal} {k : Fin n → Fin d → EReal} (hq : IsReal q) (hk : ∀ x, IsReal (k x)) :
    before q k = after q k := by
  obtain ⟨q, rfl⟩ := hq.names
  obtain ⟨c, hc⟩ := scale_real
  funext x
  obtain ⟨y, hy⟩ := (hk x).names
  simp only [before, after, hc, hy, ← EReal.coe_mul, coe_sum, Finset.sum_mul]
  exact congrArg _ (Finset.sum_congr rfl fun e _ => by ring)

theorem after_real {q : Fin d → EReal} {k : Fin n → Fin d → EReal} (hq : IsReal q) (hk : ∀ x, IsReal (k x)) :
    IsReal (after q k) := by
  obtain ⟨q, rfl⟩ := hq.names
  obtain ⟨c, hc⟩ := scale_real
  intro x
  obtain ⟨y, hy⟩ := (hk x).names
  exact ⟨(∑ e, y e * q e) * c, by simp only [after, hc, hy, ← EReal.coe_mul, coe_sum]⟩

/-- The two ways of taking the weighted mean agree on real numbers. -/
theorem mean_eq_quot {s v : Fin n → EReal} {M D : EReal} (hs : IsReal s) (hv : IsReal v) (hM : ∃ r : ℝ, M = r)
    (hD : ∃ r : ℝ, 0 < r ∧ D = r) : mean s v M D = quot s v M D := by
  obtain ⟨s, rfl⟩ := hs.names
  obtain ⟨v, rfl⟩ := hv.names
  obtain ⟨M, rfl⟩ := hM
  obtain ⟨D, hD, rfl⟩ := hD
  simp only [mean, quot, Ideal.div_coe hD.ne', ← EReal.coe_sub, Ideal.exp_coe, ← EReal.coe_mul, coe_sum, one_mul,
    Finset.sum_mul]
  exact congrArg _ (Finset.sum_congr rfl fun e _ => by ring)

theorem total_real {s : Fin n → EReal} {M : EReal} (hs : IsReal s) (hM : ∃ r : ℝ, M = r) :
    ∃ r : ℝ, 0 ≤ r ∧ total s M = r := by
  obtain ⟨s, rfl⟩ := hs.names
  obtain ⟨M, rfl⟩ := hM
  exact ⟨∑ x, Real.exp (s x - M), Finset.sum_nonneg fun _ _ => (Real.exp_pos _).le, by
    simp only [total, ← EReal.coe_sub, Ideal.exp_coe, coe_sum]⟩

theorem total_pos {s : Fin n → EReal} {M : EReal} (h0 : 0 < n) (hs : IsReal s) (hM : ∃ r : ℝ, M = r) :
    ∃ r : ℝ, 0 < r ∧ total s M = r := by
  obtain ⟨s, rfl⟩ := hs.names
  obtain ⟨M, rfl⟩ := hM
  exact ⟨∑ x, Real.exp (s x - M), Finset.sum_pos (fun _ _ => Real.exp_pos _) ⟨⟨0, h0⟩, Finset.mem_univ _⟩, by
    simp only [total, ← EReal.coe_sub, Ideal.exp_coe, coe_sum]⟩

theorem top_ne_top {s : Fin n → EReal} (hs : IsReal s) : top s ≠ ⊤ := by
  refine (Finset.fold_max_lt _).2 ⟨?_, fun x _ => ?_⟩ |>.ne
  · rw [low_eq]; exact bot_lt_top
  · obtain ⟨r, hr⟩ := hs x
    rw [hr]; exact EReal.coe_lt_top r

theorem le_top (s : Fin n → EReal) (x : Fin n) : s x ≤ top s :=
  (Finset.le_fold_max _).2 (.inr ⟨x, Finset.mem_univ x, le_rfl⟩)

theorem top_real {s : Fin n → EReal} (h0 : 0 < n) (hs : IsReal s) : ∃ r : ℝ, top s = r := by
  have hb : top s ≠ ⊥ := fun h => by
    have := le_top s ⟨0, h0⟩
    obtain ⟨r, hr⟩ := hs ⟨0, h0⟩
    rw [h, hr] at this
    exact absurd this (not_le.2 (EReal.bot_lt_coe r))
  exact ⟨(top s).toReal, (EReal.coe_toReal (top_ne_top hs) hb).symm⟩

/-- The largest of `n + 1` scores, the first one apart. -/
theorem fold_succ (f : Fin (n + 1) → EReal) :
    Finset.univ.fold max low f = max (f 0) (top fun x => f x.succ) := by
  rw [Fin.univ_succ, Finset.fold_cons, Finset.fold_map]
  rfl

theorem low_max (x : EReal) : max low x = x := by rw [low_eq]; exact bot_sup_eq x

/-- Attention with a sink, a score without a value: the kernel's way and the reference's. -/
theorem sink {q : Fin d → EReal} {k : Fin n → Fin d → EReal} {v : Fin n → EReal} {z : EReal} (hq : IsReal q)
    (hk : ∀ x, IsReal (k x)) (hv : IsReal v) (hz : ∃ r : ℝ, z = r) (h0 : 0 < n) :
    mean (before q k) v (max (top (before q k)) z)
        (total (before q k) (max (top (before q k)) z) + Ideal.exp (z - max (top (before q k)) z))
      = quot (after q k) v (max z (top (after q k)))
        (Ideal.exp (z - max z (top (after q k))) + total (after q k) (max z (top (after q k)))) := by
  rw [before_eq_after hq hk, max_comm z]
  have hs := after_real hq hk
  generalize after q k = s at hs ⊢
  obtain ⟨t, ht⟩ := top_real h0 hs
  obtain ⟨z, rfl⟩ := hz
  have hM : ∃ r : ℝ, max (top s) (z : EReal) = r := ⟨max t z, by rw [ht]; exact (EReal.coe_strictMono.monotone.map_max).symm⟩
  generalize max (top s) (z : EReal) = M at hM ⊢
  obtain ⟨w, hw, hD⟩ := total_real hs hM
  rw [add_comm (Ideal.exp _)]
  refine mean_eq_quot hs hv hM ?_
  obtain ⟨M, rfl⟩ := hM
  exact ⟨w + Real.exp (z - M), add_pos_of_nonneg_of_pos hw (Real.exp_pos _), by
    rw [hD, ← EReal.coe_sub, Ideal.exp_coe, ← EReal.coe_add]⟩

/-- Attention without a sink. -/
theorem plain {q : Fin d → EReal} {k : Fin n → Fin d → EReal} {v : Fin n → EReal} (hq : IsReal q)
    (hk : ∀ x, IsReal (k x)) (hv : IsReal v) (h0 : 0 < n) :
    mean (before q k) v (top (before q k)) (total (before q k) (top (before q k)))
      = quot (after q k) v (top (after q k)) (total (after q k) (top (after q k))) := by
  rw [before_eq_after hq hk]
  have hs := after_real hq hk
  have hM := top_real h0 hs
  exact mean_eq_quot hs hv hM (total_pos h0 hs hM)

/-- The scores with the sink in front: their largest, and the sum of their weights. -/
theorem split {s : Fin (n + 1) → EReal} {z : EReal} {t : Fin n → EReal} (h0 : s 0 = z) (hs : ∀ x, s x.succ = t x) :
    top s = max z (top t) ∧ ∀ M, ∑ y, Ideal.exp (s y - M) = Ideal.exp (z - M) + total t M :=
  ⟨(fold_succ s).trans (by rw [h0, funext hs]), fun M => by rw [Fin.sum_univ_succ, h0]; simp only [hs, total]⟩

/-- The host's maximum over one axis of length `n`. -/
theorem hostMax {s t u : Shape} {a : Fin s.rank} (h' : s.ReducesTo [a] t) (h : s.Reduces [a] t) (hu : 0 < u.numel)
    (x : FVec Ideal s .f32) (j : t.Idx) {n : ℕ} (hn : s.size a = n) (f : Fin n → EReal)
    (hf : ∀ k : Fin (s.size a), x (h.lift j k) = f (k.cast hn)) :
    Host.reduce FloatOps.maximumf x (constant u .f32 0xFF800000#32) h' hu j = top f := by
  subst hn
  rw [hostReduce_maximumf_eq_multiReduction x 0xFF800000#32 h' hu h (.inl rfl) rfl]
  exact (Ideal.multiReduction_maximumf_single x _ h (.inl rfl) rfl j).trans
    (congrArg (fun e => Finset.univ.fold max low e) (funext hf))

theorem inf_eq : Ideal.ofBits .f32 0x7F800000#32 = ⊤ := by
  unfold Ideal.ofBits Ideal.ieee
  exact (if_pos (by decide)).trans ((if_pos (by decide)).trans (if_neg (by decide)))

/-- A value whose absolute value is below infinity is a real number. -/
theorem real_of_finite {x : EReal} (h : Ideal.cmp .olt (max x (-x)) (Ideal.ofBits .f32 0x7F800000#32) = 1#1) :
    ∃ r : ℝ, x = r := by
  have h' : max x (-x) < ⊤ := by
    rw [inf_eq] at h
    by_contra hn
    have : Ideal.cmp .olt (max x (-x)) (⊤ : EReal) = 0#1 := by simp [Ideal.cmp, hn]
    rw [this] at h
    exact absurd h (by decide)
  obtain ⟨h1, h2⟩ := max_lt_iff.mp h'
  induction x with
  | bot => exact absurd h2 (by simp)
  | coe r => exact ⟨r, rfl⟩
  | top => exact absurd h1 (by simp)

/-- The signed comparison of a row number with 4096. -/
theorem below {r : ℕ} (hr : r < 12288) (h : IntOp.cmpi .slt (BitVec.ofNat 32 r) 4096#32 = 1#1) : r < 4096 := by
  have hd : ∀ r : Fin 12288, IntOp.cmpi .slt (BitVec.ofNat 32 r.val) 4096#32 = 1#1 → r.val < 4096 := by decide +kernel
  exact hd ⟨r, hr⟩ h

end Cert.Softmax
-- ==== Proof.ContextA.lean ====
module

public import proofs.«01_k».proof.Proof.Softmax
public import proofs.«01_k».proof.Proof.Gen.ContextAIdeal.Value
public import proofs.«01_k».proof.Proof.Gen.ContextAReferenceIdeal.Run
public import Idealize.ShloMosaic.Lib.Pipeline.ValueKit
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open Cert.Softmax (mean quot top total before after IsReal hostMax)

namespace Cert.ContextAIdeal.Values

open Cert.ContextAIdeal Cert.ContextAIdeal.Gen

variable (m : (ℓ : Loc nD τ sig) → Buf (Elt Ideal) ℓ)

/-- One head's attention over `n` keys, of a query, the keys, one column of the values and the head's sink. -/
def att {n d : ℕ} (q : Fin d → EReal) (k : Fin n → Fin d → EReal) (v : Fin n → EReal) (z : EReal) : EReal :=
  mean (before q k) v (max (top (before q k)) z)
    (total (before q k) (max (top (before q k)) z) + Ideal.exp (z - max (top (before q k)) z))

/-- One head of one block of rows, as the kernel takes it. -/
theorem head_at (K V Q : FVec Ideal S256x128 .f32) (z : Elt Ideal .f32) (j : S256x128.Idx) :
    k0_pay5 (F := Ideal) K V Q z j
      = att (fun e => Q (ix2 (j 0) e)) (fun n e => K (ix2 n e)) (fun n => V (ix2 n (j 1))) z := by
  pointwise [k0_pay5, k0_pay3, k0_pay4, att, mean, top, total, before]

/-! The sixteen heads' terms are one term of their own operands. -/

theorem part6 (K V Q : FVec Ideal S256x128 .f32) (z : Elt Ideal .f32) : k0_pay6 (F := Ideal) (k0_pay3 K) (k0_pay4 V) Q z = k0_pay5 (F := Ideal) K V Q z := rfl
theorem part10 (K V Q : FVec Ideal S256x128 .f32) (z : Elt Ideal .f32) : k0_pay10 (F := Ideal) (k0_pay4 V) (k0_pay7 (k0_pay3 K) Q) z (k0_pay8 (k0_pay3 K) Q z) (k0_pay9 (k0_pay3 K) Q z) = k0_pay5 (F := Ideal) K V Q z := rfl
theorem part11 (K V Q : FVec Ideal S256x128 .f32) (z : Elt Ideal .f32) : k0_pay11 (F := Ideal) (k0_pay3 K) (k0_pay4 V) Q z = k0_pay5 (F := Ideal) K V Q z := rfl
theorem part16 (K V Q : FVec Ideal S256x128 .f32) (z : Elt Ideal .f32) : k0_pay16 (F := Ideal) K V Q z = k0_pay5 (F := Ideal) K V Q z := rfl
theorem part17 (K V Q : FVec Ideal S256x128 .f32) (z : Elt Ideal .f32) : k0_pay17 (F := Ideal) (k0_pay14 K) (k0_pay15 V) Q z = k0_pay5 (F := Ideal) K V Q z := rfl
theorem part21 (K V Q : FVec Ideal S256x128 .f32) (z : Elt Ideal .f32) : k0_pay21 (F := Ideal) (k0_pay15 V) (k0_pay18 (k0_pay14 K) Q) z (k0_pay19 (k0_pay14 K) Q z) (k0_pay20 (k0_pay14 K) Q z) = k0_pay5 (F := Ideal) K V Q z := rfl
theorem part22 (K V Q : FVec Ideal S256x128 .f32) (z : Elt Ideal .f32) : k0_pay22 (F := Ideal) (k0_pay14 K) (k0_pay15 V) Q z = k0_pay5 (F := Ideal) K V Q z := rfl
theorem part27 (K V Q : FVec Ideal S256x128 .f32) (z : Elt Ideal .f32) : k0_pay27 (F := Ideal) K V Q z = k0_pay5 (F := Ideal) K V Q z := rfl
theorem part28 (K V Q : FVec Ideal S256x128 .f32) (z : Elt Ideal .f32) : k0_pay28 (F := Ideal) (k0_pay25 K) (k0_pay26 V) Q z = k0_pay5 (F := Ideal) K V Q z := rfl
theorem part32 (K V Q : FVec Ideal S256x128 .f32) (z : Elt Ideal .f32) : k0_pay32 (F := Ideal) (k0_pay26 V) (k0_pay29 (k0_pay25 K) Q) z (k0_pay30 (k0_pay25 K) Q z) (k0_pay31 (k0_pay25 K) Q z) = k0_pay5 (F := Ideal) K V Q z := rfl
theorem part33 (K V Q : FVec Ideal S256x128 .f32) (z : Elt Ideal .f32) : k0_pay33 (F := Ideal) (k0_pay25 K) (k0_pay26 V) Q z = k0_pay5 (F := Ideal) K V Q z := rfl
theorem part38 (K V Q : FVec Ideal S256x128 .f32) (z : Elt Ideal .f32) : k0_pay38 (F := Ideal) K V Q z = k0_pay5 (F := Ideal) K V Q z := rfl
theorem part39 (K V Q : FVec Ideal S256x128 .f32) (z : Elt Ideal .f32) : k0_pay39 (F := Ideal) (k0_pay36 K) (k0_pay37 V) Q z = k0_pay5 (F := Ideal) K V Q z := rfl
theorem part43 (K V Q : FVec Ideal S256x128 .f32) (z : Elt Ideal .f32) : k0_pay43 (F := Ideal) (k0_pay37 V) (k0_pay40 (k0_pay36 K) Q) z (k0_pay41 (k0_pay36 K) Q z) (k0_pay42 (k0_pay36 K) Q z) = k0_pay5 (F := Ideal) K V Q z := rfl
theorem part44 (K V Q : FVec Ideal S256x128 .f32) (z : Elt Ideal .f32) : k0_pay44 (F := Ideal) (k0_pay36 K) (k0_pay37 V) Q z = k0_pay5 (F := Ideal) K V Q z := rfl

/-- Attention of equal operands. -/
theorem att_congr {n d : ℕ} {q q' : Fin d → EReal} {k k' : Fin n → Fin d → EReal} {v v' : Fin n → EReal} {z z' : EReal}
    (hq : ∀ e, q e = q' e) (hk : ∀ x e, k x e = k' x e) (hv : ∀ x, v x = v' x) (hz : z = z') :
    att q k v z = att q' k' v' z' := by
  rw [funext hq, funext fun x => funext (hk x), funext hv, hz]

/-- Row `n` of the batch that row `r` lies in. -/
def row (r : Fin 12288) (n : Fin 256) : Fin 12288 := ⟨r.val / 256 * 256 + n.val, by omega⟩
/-- Column `e` of the query of the head that column `o` lies in. -/
def qcol (o : Fin 2048) (e : Fin 128) : Fin 3072 := ⟨o.val / 128 * 128 + e.val, by omega⟩
/-- Column `e` of that head's group of keys. -/
def kcol (o : Fin 2048) (e : Fin 128) : Fin 3072 := ⟨2048 + o.val / 512 * 128 + e.val, by omega⟩
/-- The column of that head's group of values. -/
def vcol (o : Fin 2048) : Fin 3072 := ⟨2560 + o.val / 512 * 128 + o.val % 128, by omega⟩
/-- The head that column `o` lies in. -/
def head (o : Fin 2048) : Fin 16 := ⟨o.val / 128, by omega⟩

/-- The attention, row by row. -/
def REF (X : FVec Ideal S12288x3072 .f32) (Z : FVec Ideal S16 .f32) : FVec Ideal S12288x2048 .bf16 := fun j =>
  att (fun e => X (ix2 (j 0) (qcol (j 1) e))) (fun n e => X (ix2 (row (j 0) n) (kcol (j 1) e)))
    (fun n => X (ix2 (row (j 0) n) (vcol (j 1)))) (Z (ix1 (head (j 1))))

/-- The row of the projections that batch `b`'s row `r` is. -/
def flat (b : Fin 16) (r : Fin 256) : Fin 12288 := ⟨b.val * 256 + r.val, by omega⟩

/-- Column `e` of group `g`'s keys. -/
def keyAt (g : Fin 4) (e : Fin 128) : Fin 3072 := ⟨2048 + g.val * 128 + e.val, by omega⟩
/-- Column `e` of group `g`'s values. -/
def valueAt (g : Fin 4) (e : Fin 128) : Fin 3072 := ⟨2560 + g.val * 128 + e.val, by omega⟩

/-- The new keys, of the first 4096 rows. -/
def KEYS (X : FVec Ideal S12288x3072 .f32) : FVec Ideal S16x256x4x128 .f32 := fun j =>
  X (ix2 (flat (j 0) (j 1)) (keyAt (j 2) (j 3)))

/-- The new values. -/
def VALUES (X : FVec Ideal S12288x3072 .f32) : FVec Ideal S16x256x4x128 .f32 := fun j =>
  X (ix2 (flat (j 0) (j 1)) (valueAt (j 2) (j 3)))

theorem idx : ∀ t : Fin cfg0.N, win0_0.index t = ![0] ∧ win0_1.index t = ![t.val, 0] ∧ win0_2.index t = ![t.val, 4]
    ∧ win0_3.index t = ![t.val, 5] ∧ win0_4.index t = ![t.val, 0] ∧ win0_5.index t = ![t.val, 0, 0, 0]
    ∧ win0_6.index t = ![t.val, 0, 0, 0] :=
  (by decide +kernel : ∀ t : Fin grid0.N, _)

theorem final_keys (c : Dev nD) : (dats m 0 c).arrAt 5 (cfgs 0).N = KEYS (m ((c : Thread nD τ).loc main_arg0)) := by
  refine (dats m 0 c).arrAt_eq_of_covers 5 _ (by decide +kernel) fun t _ y => ?_
  blk_simp
  rw [after0_5]
  unfold outsAt0
  frame_out
  canon_tiles x h
  all_goals (open_payloads; pointwise [KEYS, flat, keyAt]; blk_point [iblk, V, idx t])

theorem final_values (c : Dev nD) : (dats m 0 c).arrAt 6 (cfgs 0).N = VALUES (m ((c : Thread nD τ).loc main_arg0)) := by
  refine (dats m 0 c).arrAt_eq_of_covers 6 _ (by decide +kernel) fun t _ y => ?_
  blk_simp
  rw [after0_6]
  unfold outsAt0
  frame_out
  canon_tiles x h
  all_goals (open_payloads; pointwise [VALUES, flat, valueAt]; blk_point [iblk, V, idx t])

/-- The query block of a point, read at an index. -/
theorem query (c : Dev nD) (t : Fin cfg0.N) (r : Fin 256) (e : Fin 2048) : X0_1 m c t (ix2 r e : S256x2048.Idx)
    = m ((c : Thread nD τ).loc main_arg0) (ix2 (⟨t.val * 256 + r.val, by have h : t.val < 16 := t.isLt; omega⟩ : Fin 12288)
      (⟨e.val, by omega⟩ : Fin 3072)) := by
  unfold X0_1 Pipeline.Window.fill
  rw [dif_pos (moved0_1 t _)]
  blk_ext [iblk, V, idx t]

set_option maxHeartbeats 1600000 in
theorem final_out (c : Dev nD) : (dats m 0 c).arrAt 4 (cfgs 0).N = fun i : S12288x2048.Idx => if (i 0).val < 4096
    then REF (m ((c : Thread nD τ).loc main_arg0)) (m ((c : Thread nD τ).loc main_arg1)) i else V m c main_v0_0 i := by
  refine (dats m 0 c).arrAt_eq_of_coversWhere 4 _ (fun β => β 0 < 16) (by decide +kernel) (fun t _ y => ?_) (fun j => by blk_simp [Pipeline.Window.cell_apply]; omega)
  blk_simp
  rw [after0_4]
  unfold outsAt0
  frame_out
  canon_tiles x h
  all_goals
    try simp only [part6, part10, part11, part16, part17, part21, part22, part27, part28, part32, part33, part38, part39, part43, part44]
    rw [head_at]
    refine att_congr (fun e => ?_) (fun n e => ?_) (fun n => ?_) ?_
    · pointwise [qcol]; refine (query m c t _ _).trans ?_; blk_ext [idx t]
    · pointwise [row, kcol]; blk_point [iblk, V, idx t]
    · pointwise [row, vcol]; blk_point [iblk, V, idx t]
    · pointwise [head]; blk_point [iblk, V, idx t]

end Cert.ContextAIdeal.Values
namespace Cert.ContextAReferenceIdeal.Values

open Cert.ContextAReferenceIdeal Cert.ContextAReferenceIdeal.Gen
open Cert.ContextAIdeal.Values (att att_congr row qcol kcol vcol head flat keyAt valueAt REF KEYS VALUES)

/-- The reference's keys. -/
def keys (X : FVec Ideal S12288x3072 .f32) : FVec Ideal S16x256x4x128 .f32 :=
  (shapeCast _ (extractStridedSlice S16x256x512 ![0, 0, 2048] (shapeCast _ (extractStridedSlice S4096x3072 ![0, 0] X slices_S12288x3072_S4096x3072_0_0) shapeCasts_S4096x3072_S16x256x3072) slices_S16x256x3072_S16x256x512_0_0_2048) shapeCasts_S16x256x512_S16x256x4x128)

/-- The reference's values. -/
def values (X : FVec Ideal S12288x3072 .f32) : FVec Ideal S16x256x4x128 .f32 :=
  (shapeCast _ (extractStridedSlice S16x256x512 ![0, 0, 2560] (shapeCast _ (extractStridedSlice S4096x3072 ![0, 0] X slices_S12288x3072_S4096x3072_0_0) shapeCasts_S4096x3072_S16x256x3072) slices_S16x256x3072_S16x256x512_0_0_2560) shapeCasts_S16x256x512_S16x256x4x128)

/-- The reference's queries. -/
def queries (X : FVec Ideal S12288x3072 .f32) : FVec Ideal S16x256x4x4x128 .f32 :=
  (shapeCast _ (extractStridedSlice S16x256x2048 ![0, 0, 0] (shapeCast _ (extractStridedSlice S4096x3072 ![0, 0] X slices_S12288x3072_S4096x3072_0_0) shapeCasts_S4096x3072_S16x256x3072) slices_S16x256x3072_S16x256x2048_0_0_0) shapeCasts_S16x256x2048_S16x256x4x4x128)

/-- The scaled scores. -/
def scores (rk : FVec Ideal S16x256x4x128 .f32) (rq : FVec Ideal S16x256x4x4x128 .f32) : FVec Ideal S16x4x4x256x256 .f32 :=
  (mulf (transpose S16x4x4x256x256 [0, 1, 4, 3, 2] (Host.dotGeneral dot_S16x256x4x128_S16x256x4x4x128_S16x4x256x256x4_3_4_1_13_02_02 none rk rq) transposes_S16x4x256x256x4_S16x4x4x256x256_0_1_4_3_2) (broadcastInDim S16x4x4x256x256 ![] bcast_S_S16x4x4x256x256 (constant S_ .f32 0x3DB504F3#32)))

/-- The scores with the sink in front. -/
def joined (S : FVec Ideal S16x4x4x256x256 .f32) (Z : FVec Ideal S16 .f32) : FVec Ideal S16x4x4x256x257 .f32 :=
  (concatenate S16x4x4x256x257 4 [⟨S16x4x4x256x1, (broadcastInDim S16x4x4x256x1 ![0, 1, 2, 3, 4] bcast_S1x4x4x1x1_S16x4x4x256x1_0_1_2_3_4 (broadcastInDim S1x4x4x1x1 ![1, 2] bcast_S4x4_S1x4x4x1x1_1_2 (shapeCast _ Z shapeCasts_S16_S4x4)))⟩, ⟨S16x4x4x256x256, S⟩] concatenates_S16x4x4x256x1_S16x4x4x256x256_S16x4x4x256x257_d4)

/-- The largest of each row. -/
def peak (rc : FVec Ideal S16x4x4x256x257 .f32) : FVec Ideal S16x4x4x256 .f32 :=
  (maximumf (broadcastInDim S16x4x4x256 ![] bcast_S_S16x4x4x256 (constant S_ .f32 0xFF800000#32)) (Host.reduce FloatOps.maximumf rc (constant S_ .f32 0xFF800000#32) reducesTo_S16x4x4x256x257_S16x4x4x256_d4 h_S_))

/-- The weights before the division. -/
def weights (rc : FVec Ideal S16x4x4x256x257 .f32) (rm : FVec Ideal S16x4x4x256 .f32) : FVec Ideal S16x4x4x256x257 .f32 :=
  (Host.exp (subf rc (broadcastInDim S16x4x4x256x257 ![0, 1, 2, 3, 4] bcast_S16x4x4x256x1_S16x4x4x256x257_0_1_2_3_4 (broadcastInDim S16x4x4x256x1 ![0, 1, 2, 3] bcast_S16x4x4x256_S16x4x4x256x1_0_1_2_3 rm))))

/-- The weights of the keys. -/
def shares (re : FVec Ideal S16x4x4x256x257 .f32) : FVec Ideal S16x4x4x256x256 .f32 :=
  (extractStridedSlice S16x4x4x256x256 ![0, 0, 0, 0, 1] (Host.divf re (broadcastInDim S16x4x4x256x257 ![0, 1, 2, 3, 4] bcast_S16x4x4x256x1_S16x4x4x256x257_0_1_2_3_4 (broadcastInDim S16x4x4x256x1 ![0, 1, 2, 3] bcast_S16x4x4x256_S16x4x4x256x1_0_1_2_3 (Host.reduceAdd re (constant S_ .f32 0x00000000#32) reducesTo_S16x4x4x256x257_S16x4x4x256_d4 h_S_)))) slices_S16x4x4x256x257_S16x4x4x256x256_0_0_0_0_1)

/-- The padded attention. -/
def padded (rv : FVec Ideal S16x256x4x128 .f32) (rp : FVec Ideal S16x4x4x256x256 .f32) : FVec Ideal S12288x2048 .bf16 :=
  pad S12288x2048 ![0, 0] ![8192, 0] ![0, 0] (truncf .bf16 (shapeCast _ (transpose S16x256x4x4x128 [0, 4, 1, 3, 2] (Host.dotGeneral dot_S16x256x4x128_S16x4x4x256x256_S16x4x128x4x256_1_4_3_23_02_01 none rv rp) transposes_S16x4x128x4x256_S16x256x4x4x128_0_4_1_3_2) shapeCasts_S16x256x4x4x128_S4096x2048) bitsLt_bf16_f32) (sitofp .bf16 (constantI S_ 32 0#32)) pads_S4096x2048_S12288x2048_081920_000 h_S_

theorem keys_eq (X : FVec Ideal S12288x3072 .f32) : keys X = KEYS X := by
  funext j
  pointwise [keys, KEYS, flat, keyAt]
  blk_point []

theorem values_eq (X : FVec Ideal S12288x3072 .f32) : values X = VALUES X := by
  funext j
  pointwise [values, VALUES, flat, valueAt]
  blk_point []

theorem queries_at (X : FVec Ideal S12288x3072 .f32) (b : Fin 16) (r : Fin 256) (g h : Fin 4) (e : Fin 128) :
    queries X (ix5 b r g h e) = X (ix2 (flat b r) (⟨(g.val * 4 + h.val) * 128 + e.val, by omega⟩ : Fin 3072)) := by
  pointwise [queries, flat]
  blk_point []

theorem scores_at (K : FVec Ideal S16x256x4x128 .f32) (Q : FVec Ideal S16x256x4x4x128 .f32) (b : Fin 16) (g h : Fin 4)
    (r n : Fin 256) : scores K Q (ix5 b g h r n)
      = after (fun e => Q (ix5 b r g h e)) (fun n e => K (ix4 b n g e)) n := by
  pointwise [scores, after]

theorem joined_zero (S : FVec Ideal S16x4x4x256x256 .f32) (Z : FVec Ideal S16 .f32) (b : Fin 16) (g h : Fin 4) (r : Fin 256) :
    joined S Z (ix5 b g h r (0 : Fin 257)) = Z (ix1 (⟨g.val * 4 + h.val, by omega⟩ : Fin 16)) := by
  pointwise [joined]

/-- The position of key `n` behind the sink. -/
abbrev behind (n : Fin 256) : Fin 257 := ⟨1 + n.val, by omega⟩

theorem succ_eq (n : Fin 256) : (n.succ : Fin 257) = behind n := Fin.ext (by show n.val + 1 = 1 + n.val; omega)

theorem joined_behind (S : FVec Ideal S16x4x4x256x256 .f32) (Z : FVec Ideal S16 .f32) (b : Fin 16) (g h : Fin 4) (r n : Fin 256) :
    joined S Z (ix5 b g h r (behind n)) = S (ix5 b g h r n) := by
  pointwise [joined]

theorem reduces : Shape.Reduces S16x4x4x256x257 [4] S16x4x4x256 := by decide

theorem long : S16x4x4x256x257.size (4 : Fin 5) = 257 := by decide +kernel

theorem lift_at (b : Fin 16) (g h : Fin 4) (r : Fin 256) (y : Fin (S16x4x4x256x257.size (4 : Fin 5))) :
    reduces.lift (ix4 b g h r) y = (ix5 b g h r (y.cast long) : S16x4x4x256x257.Idx) := by
  funext a
  fin_cases a <;> rfl

theorem largest (A : FVec Ideal S16x4x4x256 .f32) (j : S16x4x4x256.Idx) :
    maximumf (broadcastInDim S16x4x4x256 ![] bcast_S_S16x4x4x256 (constant S_ .f32 0xFF800000#32)) A j = A j :=
  (by pointwise [] : _ = max Softmax.low (A j)).trans (Softmax.low_max _)

theorem peak_at (C : FVec Ideal S16x4x4x256x257 .f32) (b : Fin 16) (g h : Fin 4) (r : Fin 256) :
    peak C (ix4 b g h r) = top fun y : Fin 257 => C (ix5 b g h r y) :=
  (largest _ _).trans (@hostMax S16x4x4x256x257 S16x4x4x256 S_ (4 : Fin 5)
    reducesTo_S16x4x4x256x257_S16x4x4x256_d4 reduces h_S_ C (ix4 b g h r) 257 long (fun y => C (ix5 b g h r y))
    fun k => congrArg C (lift_at b g h r k))

theorem shares_at (C : FVec Ideal S16x4x4x256x257 .f32) (M : FVec Ideal S16x4x4x256 .f32) (b : Fin 16) (g h : Fin 4) (r n : Fin 256) :
    shares (weights C M) (ix5 b g h r n) = Ideal.div (Ideal.exp (C (ix5 b g h r (behind n)) - M (ix4 b g h r)))
      (∑ y : Fin 257, Ideal.exp (C (ix5 b g h r y) - M (ix4 b g h r))) := by
  pointwise [shares, weights]

theorem padded_at (V : FVec Ideal S16x256x4x128 .f32) (P : FVec Ideal S16x4x4x256x256 .f32) (j : S12288x2048.Idx) (hj : (j 0).val < 4096) :
    padded V P j = ∑ n : Fin 256, V (ix4 (⟨(j 0).val / 256, by omega⟩ : Fin 16) n (⟨(j 1).val / 512, by have h : (j 1).val < 2048 := (j 1).isLt; omega⟩ : Fin 4) (⟨(j 1).val % 128, by omega⟩ : Fin 128))
      * P (ix5 (⟨(j 0).val / 256, by omega⟩ : Fin 16) (⟨(j 1).val / 512, by have h : (j 1).val < 2048 := (j 1).isLt; omega⟩ : Fin 4) (⟨(j 1).val / 128 % 4, by omega⟩ : Fin 4) (⟨(j 0).val % 256, by omega⟩ : Fin 256) n) := by
  pointwise [padded]
  rw [dif_pos hj]

/-- The joined scores of the projections. -/
abbrev scored (X : FVec Ideal S12288x3072 .f32) (Z : FVec Ideal S16 .f32) : FVec Ideal S16x4x4x256x257 .f32 :=
  joined (scores (keys X) (queries X)) Z

theorem row_at (X : FVec Ideal S12288x3072 .f32) (Z : FVec Ideal S16 .f32) (hX : IsReal X) (hZ : IsReal Z) (b : Fin 16)
    (g h : Fin 4) (r : Fin 256) (d : Fin 128) :
    ∑ n : Fin 256, values X (ix4 b n g d) * shares (weights (scored X Z) (peak (scored X Z))) (ix5 b g h r n)
      = att (fun e => X (ix2 (flat b r) (⟨(g.val * 4 + h.val) * 128 + e.val, by omega⟩ : Fin 3072)))
          (fun n e => X (ix2 (flat b n) (keyAt g e))) (fun n => X (ix2 (flat b n) (valueAt g d)))
          (Z (ix1 (⟨g.val * 4 + h.val, by omega⟩ : Fin 16))) := by
  have hS : ∀ n, scores (keys X) (queries X) (ix5 b g h r n)
      = after (fun e => X (ix2 (flat b r) (⟨(g.val * 4 + h.val) * 128 + e.val, by omega⟩ : Fin 3072)))
          (fun n e => X (ix2 (flat b n) (keyAt g e))) n := fun n => by
    rw [scores_at, keys_eq, funext fun e => queries_at X b r g h e]
    rfl
  have h2 := @Softmax.split 256 (fun y => scored X Z (ix5 b g h r y)) _ _ (joined_zero _ Z b g h r) fun n =>
    ((congrArg (fun y => scored X Z (ix5 b g h r y)) (succ_eq n)).trans (joined_behind _ Z b g h r n)).trans (hS n)
  simp only [shares_at, joined_behind, hS, values_eq]
  rw [(peak_at _ b g h r).trans h2.1, h2.2]
  exact (Softmax.sink (fun e => hX _) (fun n e => hX _) (fun n => hX _) (hZ _) (by decide)).symm

theorem result_at (X : FVec Ideal S12288x3072 .f32) (Z : FVec Ideal S16 .f32) (hX : IsReal X) (hZ : IsReal Z)
    (j : S12288x2048.Idx) (hj : (j 0).val < 4096) :
    padded (values X) (shares (weights (scored X Z) (peak (scored X Z)))) j = REF X Z j := by
  have h1 : (j 1).val < 2048 := (j 1).isLt
  rw [padded_at _ _ j hj, row_at X Z hX hZ]
  have e2 : ∀ {a a' : Fin 12288} {o o' : Fin 3072}, a.val = a'.val → o.val = o'.val →
      X (ix2 a o) = X (ix2 a' o') := fun ha ho => by rw [Fin.ext ha, Fin.ext ho]
  refine att_congr (fun e => e2 ?_ ?_) (fun n e => e2 ?_ ?_) (fun n => e2 ?_ ?_) ?_
  · show (j 0).val / 256 * 256 + (j 0).val % 256 = (j 0).val
    omega
  · show ((j 1).val / 512 * 4 + (j 1).val / 128 % 4) * 128 + e.val = (j 1).val / 128 * 128 + e.val
    omega
  · rfl
  · rfl
  · rfl
  · rfl
  · refine congrArg (fun o : Fin 16 => Z (ix1 o)) (Fin.ext ?_)
    show (j 1).val / 512 * 4 + (j 1).val / 128 % 4 = (j 1).val / 128
    omega

theorem res_eq (m : (ℓ : Loc nD τ sig) → Buf (Elt Ideal) ℓ) (c : Dev nD) : Value.res_main_v32 m c
    = padded (values (m ((c.tc : Thread nD τ).loc main_arg0))) (shares (weights
        (scored (m ((c.tc : Thread nD τ).loc main_arg0)) (m ((c.tc : Thread nD τ).loc main_arg1)))
        (peak (scored (m ((c.tc : Thread nD τ).loc main_arg0)) (m ((c.tc : Thread nD τ).loc main_arg1)))))) := rfl

set_option maxHeartbeats 1600000 in
/-- A run of the reference: the attention in the rows of the batches, the keys and the values. -/
theorem run (m : (ℓ : Loc nD τ sig) → Buf (Elt Ideal) ℓ) (ρ : Dev nD → PrngReg)
    (hX : ∀ c : Dev nD, IsReal (m ((c.tc : Thread nD τ).loc main_arg0)))
    (hZ : ∀ c : Dev nD, IsReal (m ((c.tc : Thread nD τ).loc main_arg1))) :
    θ_run defs (onTc (τ := τ) (main (F := Ideal))) ⟨m, fun _ => 0, ρ⟩ fun r => ∀ c : Dev nD,
      (∀ i : S12288x2048.Idx, (i 0).val < 4096 → r.2.mem ((c.tc : Thread nD τ).loc main_v32) i
        = REF (m ((c.tc : Thread nD τ).loc main_arg0)) (m ((c.tc : Thread nD τ).loc main_arg1)) i)
      ∧ r.2.mem ((c.tc : Thread nD τ).loc main_v5) = KEYS (m ((c.tc : Thread nD τ).loc main_arg0))
      ∧ r.2.mem ((c.tc : Thread nD τ).loc main_v7) = VALUES (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨fun i hi => ((congrFun (h c).1 i).trans (congrFun (res_eq m c) i)).trans
      (result_at _ _ (hX c) (hZ c) i hi), (h c).2.1.trans (keys_eq _), (h c).2.2.1.trans (values_eq _), (h c).2.2.2⟩)
    (Value.run (F := Ideal) m ρ)

end Cert.ContextAReferenceIdeal.Values

end
-- ==== Proof.ContextB.lean ====
module

public import proofs.«01_k».proof.Proof.Softmax
public import proofs.«01_k».proof.Proof.Gen.ContextBIdeal.Value
public import proofs.«01_k».proof.Proof.Gen.ContextBReferenceIdeal.Run
public import Idealize.ShloMosaic.Lib.Pipeline.ValueKit
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open Cert.Softmax (mean quot top total before after IsReal hostMax)

namespace Cert.ContextBIdeal.Values

open Cert.ContextBIdeal Cert.ContextBIdeal.Gen

variable (m : (ℓ : Loc nD τ sig) → Buf (Elt Ideal) ℓ)

/-- One head's attention over `n` keys, of a query, the keys and one column of the values. -/
def att {n d : ℕ} (q : Fin d → EReal) (k : Fin n → Fin d → EReal) (v : Fin n → EReal) : EReal :=
  mean (before q k) v (top (before q k)) (total (before q k) (top (before q k)))

/-- One head of one block of rows, as the kernel takes it. -/
theorem head_at (K V Q : FVec Ideal S256x128 .f32) (j : S256x128.Idx) :
    k0_pay5 (F := Ideal) K V Q j
      = att (fun e => Q (ix2 (j 0) e)) (fun n e => K (ix2 n e)) (fun n => V (ix2 n (j 1))) := by
  pointwise [k0_pay5, att, mean, top, total, before]

/-! The sixteen heads' terms are one term of their own operands. -/

theorem part8 (K V Q : FVec Ideal S256x128 .f32) : k0_pay8 (F := Ideal) K V Q = k0_pay5 (F := Ideal) K V Q := rfl
theorem part11 (K V Q : FVec Ideal S256x128 .f32) : k0_pay11 (F := Ideal) K V Q = k0_pay5 (F := Ideal) K V Q := rfl
theorem part14 (K V Q : FVec Ideal S256x128 .f32) : k0_pay14 (F := Ideal) K V Q = k0_pay5 (F := Ideal) K V Q := rfl
theorem part17 (K V Q : FVec Ideal S256x128 .f32) : k0_pay17 (F := Ideal) K V Q = k0_pay5 (F := Ideal) K V Q := rfl
theorem part22 (K V Q : FVec Ideal S256x128 .f32) : k0_pay22 (F := Ideal) (k0_pay20 K) (k0_pay21 V) Q = k0_pay5 (F := Ideal) K V Q := rfl
theorem part28 (K V Q : FVec Ideal S256x128 .f32) : k0_pay28 (F := Ideal) (k0_pay25 K) (k0_pay26 V) Q k0_pay27 = k0_pay5 (F := Ideal) K V Q := rfl
theorem part33 (K V Q : FVec Ideal S256x128 .f32) : k0_pay33 (F := Ideal) (k0_pay31 V) (k0_pay32 K Q) = k0_pay5 (F := Ideal) K V Q := rfl
theorem part38 (K V Q : FVec Ideal S256x128 .f32) : k0_pay38 (F := Ideal) (k0_pay36 V) (k0_pay37 K Q) = k0_pay5 (F := Ideal) K V Q := rfl
theorem part45 (K V Q : FVec Ideal S256x128 .f32) : k0_pay45 (F := Ideal) (k0_pay41 V) (k0_pay42 K Q) (k0_pay43 K Q) k0_pay44 = k0_pay5 (F := Ideal) K V Q := rfl
theorem part51 (K V Q : FVec Ideal S256x128 .f32) : k0_pay51 (F := Ideal) (k0_pay49 K V Q) (k0_pay50 K Q) = k0_pay5 (F := Ideal) K V Q := rfl
theorem part54 (K V Q : FVec Ideal S256x128 .f32) : k0_pay54 (F := Ideal) K V Q = k0_pay5 (F := Ideal) K V Q := rfl
theorem part57 (K V Q : FVec Ideal S256x128 .f32) : k0_pay57 (F := Ideal) K V Q = k0_pay5 (F := Ideal) K V Q := rfl
theorem part60 (K V Q : FVec Ideal S256x128 .f32) : k0_pay60 (F := Ideal) K V Q = k0_pay5 (F := Ideal) K V Q := rfl
theorem part63 (K V Q : FVec Ideal S256x128 .f32) : k0_pay63 (F := Ideal) K V Q = k0_pay5 (F := Ideal) K V Q := rfl
theorem part2 (K V Q : FVec Ideal S256x128 .f32) : k0_pay2 (F := Ideal) K V Q = k0_pay5 (F := Ideal) K V Q := rfl

/-- Attention of equal operands. -/
theorem att_congr {n d : ℕ} {q q' : Fin d → EReal} {k k' : Fin n → Fin d → EReal} {v v' : Fin n → EReal}
    (hq : ∀ e, q e = q' e) (hk : ∀ x e, k x e = k' x e) (hv : ∀ x, v x = v' x) :
    att q k v = att q' k' v' := by
  rw [funext hq, funext fun x => funext (hk x), funext hv]

/-- Row `n` of the batch that row `r` lies in. -/
def row (r : Fin 12288) (n : Fin 256) : Fin 12288 := ⟨r.val / 256 * 256 + n.val, by omega⟩
/-- Column `e` of the query of the head that column `o` lies in. -/
def qcol (o : Fin 2048) (e : Fin 128) : Fin 6144 := ⟨o.val / 128 * 128 + e.val, by omega⟩
/-- Column `e` of that head's keys. -/
def kcol (o : Fin 2048) (e : Fin 128) : Fin 6144 := ⟨2048 + o.val / 128 * 128 + e.val, by omega⟩
/-- The column of the values. -/
def vcol (o : Fin 2048) : Fin 6144 := ⟨4096 + o.val / 128 * 128 + o.val % 128, by omega⟩

/-- The attention, row by row. -/
def REF (X : FVec Ideal S12288x6144 .f32) : FVec Ideal S12288x2048 .bf16 := fun j =>
  att (fun e => X (ix2 (j 0) (qcol (j 1) e))) (fun n e => X (ix2 (row (j 0) n) (kcol (j 1) e)))
    (fun n => X (ix2 (row (j 0) n) (vcol (j 1))))

/-- The row of the projections that batch `b`'s row `r` is. -/
def flat (b : Fin 16) (r : Fin 256) : Fin 12288 := ⟨b.val * 256 + r.val, by omega⟩

/-- Column `e` of head `g`'s query. -/
def queryAt (g : Fin 16) (e : Fin 128) : Fin 6144 := ⟨g.val * 128 + e.val, by omega⟩
/-- Column `e` of head `g`'s keys. -/
def keyAt (g : Fin 16) (e : Fin 128) : Fin 6144 := ⟨2048 + g.val * 128 + e.val, by omega⟩
/-- Column `e` of head `g`'s values. -/
def valueAt (g : Fin 16) (e : Fin 128) : Fin 6144 := ⟨4096 + g.val * 128 + e.val, by omega⟩

/-- The new keys, of the first 4096 rows. -/
def KEYS (X : FVec Ideal S12288x6144 .f32) : FVec Ideal S16x256x16x128 .f32 := fun j =>
  X (ix2 (flat (j 0) (j 1)) (keyAt (j 2) (j 3)))

/-- The new values. -/
def VALUES (X : FVec Ideal S12288x6144 .f32) : FVec Ideal S16x256x16x128 .f32 := fun j =>
  X (ix2 (flat (j 0) (j 1)) (valueAt (j 2) (j 3)))

theorem idx : ∀ t : Fin cfg0.N, win0_0.index t = ![0] ∧ win0_1.index t = ![t.val, 0] ∧ win0_2.index t = ![t.val, 1]
    ∧ win0_3.index t = ![t.val, 2] ∧ win0_4.index t = ![t.val, 0] ∧ win0_5.index t = ![t.val, 0, 0, 0]
    ∧ win0_6.index t = ![t.val, 0, 0, 0] :=
  (by decide +kernel : ∀ t : Fin grid0.N, _)

set_option maxHeartbeats 1600000 in
theorem final_keys (c : Dev nD) : (dats m 0 c).arrAt 5 (cfgs 0).N = KEYS (m ((c : Thread nD τ).loc main_arg0)) := by
  refine (dats m 0 c).arrAt_eq_of_covers 5 _ (by decide +kernel) fun t _ y => ?_
  blk_simp
  rw [after0_5]
  unfold outsAt0
  frame_out
  canon_tiles x h
  all_goals (open_payloads; pointwise [KEYS, flat, keyAt]; blk_point [iblk, V, idx t])

set_option maxHeartbeats 1600000 in
theorem final_values (c : Dev nD) : (dats m 0 c).arrAt 6 (cfgs 0).N = VALUES (m ((c : Thread nD τ).loc main_arg0)) := by
  refine (dats m 0 c).arrAt_eq_of_covers 6 _ (by decide +kernel) fun t _ y => ?_
  blk_simp
  rw [after0_6]
  unfold outsAt0
  frame_out
  canon_tiles x h
  all_goals (open_payloads; pointwise [VALUES, flat, valueAt]; blk_point [iblk, V, idx t])

set_option maxHeartbeats 1600000 in
theorem final_out (c : Dev nD) : (dats m 0 c).arrAt 4 (cfgs 0).N = fun i : S12288x2048.Idx => if (i 0).val < 4096
    then REF (m ((c : Thread nD τ).loc main_arg0)) i else V m c main_v1_0 i := by
  refine (dats m 0 c).arrAt_eq_of_coversWhere 4 _ (fun β => β 0 < 16) (by decide +kernel) (fun t _ y => ?_) (fun j => by blk_simp [Pipeline.Window.cell_apply]; omega)
  blk_simp
  rw [after0_4]
  unfold outsAt0
  frame_out
  canon_tiles x h
  all_goals
    try simp only [part8, part11, part14, part17, part22, part28, part33, part38, part45, part51, part54, part57, part60, part63, part2]
    rw [head_at]
    refine att_congr (fun e => ?_) (fun n e => ?_) (fun n => ?_)
    · pointwise [qcol]; blk_point [iblk, V, idx t]
    · pointwise [row, kcol]; blk_point [iblk, V, idx t]
    · pointwise [row, vcol]; blk_point [iblk, V, idx t]

end Cert.ContextBIdeal.Values

namespace Cert.ContextBReferenceIdeal.Values

open Cert.ContextBReferenceIdeal Cert.ContextBReferenceIdeal.Gen
open Cert.ContextBIdeal.Values (att att_congr row qcol kcol vcol flat queryAt keyAt valueAt REF KEYS VALUES)

/-- The reference's keys. -/
def keys (X : FVec Ideal S12288x6144 .f32) : FVec Ideal S16x256x16x128 .f32 :=
  (shapeCast _ (extractStridedSlice S16x256x1x16x128 ![0, 0, 1, 0, 0] (shapeCast _ (extractStridedSlice S4096x6144 ![0, 0] X slices_S12288x6144_S4096x6144_0_0) shapeCasts_S4096x6144_S16x256x3x16x128) slices_S16x256x3x16x128_S16x256x1x16x128_0_0_1_0_0) shapeCasts_S16x256x1x16x128_S16x256x16x128)

/-- The reference's values. -/
def values (X : FVec Ideal S12288x6144 .f32) : FVec Ideal S16x256x16x128 .f32 :=
  (shapeCast _ (extractStridedSlice S16x256x1x16x128 ![0, 0, 2, 0, 0] (shapeCast _ (extractStridedSlice S4096x6144 ![0, 0] X slices_S12288x6144_S4096x6144_0_0) shapeCasts_S4096x6144_S16x256x3x16x128) slices_S16x256x3x16x128_S16x256x1x16x128_0_0_2_0_0) shapeCasts_S16x256x1x16x128_S16x256x16x128)

/-- The reference's queries. -/
def queries (X : FVec Ideal S12288x6144 .f32) : FVec Ideal S16x256x16x128 .f32 :=
  (shapeCast _ (extractStridedSlice S16x256x1x16x128 ![0, 0, 0, 0, 0] (shapeCast _ (extractStridedSlice S4096x6144 ![0, 0] X slices_S12288x6144_S4096x6144_0_0) shapeCasts_S4096x6144_S16x256x3x16x128) slices_S16x256x3x16x128_S16x256x1x16x128_0_0_0_0_0) shapeCasts_S16x256x1x16x128_S16x256x16x128)

/-- The scaled scores. -/
def scores (rk : FVec Ideal S16x256x16x128 .f32) (rq : FVec Ideal S16x256x16x128 .f32) : FVec Ideal S16x16x256x256 .f32 :=
  (mulf (Host.dotGeneral dot_S16x256x16x128_S16x256x16x128_S16x16x256x256_3_3_1_1_02_02 none rq rk) (broadcastInDim S16x16x256x256 ![] bcast_S_S16x16x256x256 (constant S_ .f32 0x3DB504F3#32)))

/-- The largest of each row. -/
def peak (rs : FVec Ideal S16x16x256x256 .f32) : FVec Ideal S16x16x256 .f32 :=
  (maximumf (broadcastInDim S16x16x256 ![] bcast_S_S16x16x256 (constant S_ .f32 0xFF800000#32)) (Host.reduce FloatOps.maximumf rs (constant S_ .f32 0xFF800000#32) reducesTo_S16x16x256x256_S16x16x256_d3 h_S_))

/-- The weights before the division. -/
def weights (rs : FVec Ideal S16x16x256x256 .f32) (rm : FVec Ideal S16x16x256 .f32) : FVec Ideal S16x16x256x256 .f32 :=
  (Host.exp (subf rs (broadcastInDim S16x16x256x256 ![0, 1, 2, 3] bcast_S16x16x256x1_S16x16x256x256_0_1_2_3 (broadcastInDim S16x16x256x1 ![0, 1, 2] bcast_S16x16x256_S16x16x256x1_0_1_2 rm))))

/-- The weights of the keys. -/
def shares (re : FVec Ideal S16x16x256x256 .f32) : FVec Ideal S16x16x256x256 .f32 :=
  (Host.divf re (broadcastInDim S16x16x256x256 ![0, 1, 2, 3] bcast_S16x16x256x1_S16x16x256x256_0_1_2_3 (broadcastInDim S16x16x256x1 ![0, 1, 2] bcast_S16x16x256_S16x16x256x1_0_1_2 (Host.reduceAdd re (constant S_ .f32 0x00000000#32) reducesTo_S16x16x256x256_S16x16x256_d3 h_S_))))

/-- The padded attention. -/
def padded (rv : FVec Ideal S16x256x16x128 .f32) (rp : FVec Ideal S16x16x256x256 .f32) : FVec Ideal S12288x2048 .bf16 :=
  pad S12288x2048 ![0, 0] ![8192, 0] ![0, 0] (truncf .bf16 (shapeCast _ (transpose S16x256x16x128 [0, 3, 1, 2] (Host.dotGeneral dot_S16x256x16x128_S16x16x256x256_S16x16x128x256_1_3_3_2_02_01 none rv rp) transposes_S16x16x128x256_S16x256x16x128_0_3_1_2) shapeCasts_S16x256x16x128_S4096x2048) bitsLt_bf16_f32) (sitofp .bf16 (constantI S_ 32 0#32)) pads_S4096x2048_S12288x2048_081920_000 h_S_

theorem keys_eq (X : FVec Ideal S12288x6144 .f32) : keys X = KEYS X := by
  funext j
  pointwise [keys, KEYS, flat, keyAt]

theorem values_eq (X : FVec Ideal S12288x6144 .f32) : values X = VALUES X := by
  funext j
  pointwise [values, VALUES, flat, valueAt]

theorem queries_at (X : FVec Ideal S12288x6144 .f32) (b : Fin 16) (r : Fin 256) (g : Fin 16) (e : Fin 128) :
    queries X (ix4 b r g e) = X (ix2 (flat b r) (queryAt g e)) := by
  pointwise [queries, flat, queryAt]

theorem scores_at (K Q : FVec Ideal S16x256x16x128 .f32) (b g : Fin 16) (r n : Fin 256) :
    scores K Q (ix4 b g r n) = after (fun e => Q (ix4 b r g e)) (fun n e => K (ix4 b n g e)) n := by
  have h : scores K Q (ix4 b g r n) = (∑ e : Fin 128, Q (ix4 b r g e) * K (ix4 b n g e)) * Softmax.scale := by
    pointwise [scores]
  rw [h, after]
  exact congrArg (· * Softmax.scale) (Finset.sum_congr rfl fun e _ => mul_comm _ _)

theorem reduces : Shape.Reduces S16x16x256x256 [3] S16x16x256 := by decide

theorem long : S16x16x256x256.size (3 : Fin 4) = 256 := by decide +kernel

theorem lift_at (b g : Fin 16) (r : Fin 256) (y : Fin (S16x16x256x256.size (3 : Fin 4))) :
    reduces.lift (ix3 b g r) y = (ix4 b g r (y.cast long) : S16x16x256x256.Idx) := by
  funext a
  fin_cases a <;> rfl

theorem largest (A : FVec Ideal S16x16x256 .f32) (j : S16x16x256.Idx) :
    maximumf (broadcastInDim S16x16x256 ![] bcast_S_S16x16x256 (constant S_ .f32 0xFF800000#32)) A j = A j :=
  (by pointwise [] : _ = max Softmax.low (A j)).trans (Softmax.low_max _)

theorem peak_at (C : FVec Ideal S16x16x256x256 .f32) (b g : Fin 16) (r : Fin 256) :
    peak C (ix3 b g r) = top fun y : Fin 256 => C (ix4 b g r y) :=
  (largest _ _).trans (@hostMax S16x16x256x256 S16x16x256 S_ (3 : Fin 4)
    reducesTo_S16x16x256x256_S16x16x256_d3 reduces h_S_ C (ix3 b g r) 256 long (fun y => C (ix4 b g r y))
    fun k => congrArg C (lift_at b g r k))

theorem shares_at (C : FVec Ideal S16x16x256x256 .f32) (M : FVec Ideal S16x16x256 .f32) (b g : Fin 16) (r n : Fin 256) :
    shares (weights C M) (ix4 b g r n) = Ideal.div (Ideal.exp (C (ix4 b g r n) - M (ix3 b g r)))
      (∑ y : Fin 256, Ideal.exp (C (ix4 b g r y) - M (ix3 b g r))) := by
  pointwise [shares, weights]

theorem padded_at (V : FVec Ideal S16x256x16x128 .f32) (P : FVec Ideal S16x16x256x256 .f32) (j : S12288x2048.Idx) (hj : (j 0).val < 4096) :
    padded V P j = ∑ n : Fin 256, V (ix4 (⟨(j 0).val / 256, by omega⟩ : Fin 16) n (⟨(j 1).val / 128, by have h : (j 1).val < 2048 := (j 1).isLt; omega⟩ : Fin 16) (⟨(j 1).val % 128, by omega⟩ : Fin 128))
      * P (ix4 (⟨(j 0).val / 256, by omega⟩ : Fin 16) (⟨(j 1).val / 128, by have h : (j 1).val < 2048 := (j 1).isLt; omega⟩ : Fin 16) (⟨(j 0).val % 256, by omega⟩ : Fin 256) n) := by
  pointwise [padded]
  rw [dif_pos hj]

/-- The scores of the projections. -/
abbrev scored (X : FVec Ideal S12288x6144 .f32) : FVec Ideal S16x16x256x256 .f32 := scores (keys X) (queries X)

theorem row_at (X : FVec Ideal S12288x6144 .f32) (hX : IsReal X) (b g : Fin 16) (r : Fin 256) (d : Fin 128) :
    ∑ n : Fin 256, values X (ix4 b n g d) * shares (weights (scored X) (peak (scored X))) (ix4 b g r n)
      = att (fun e => X (ix2 (flat b r) (queryAt g e)))
          (fun n e => X (ix2 (flat b n) (keyAt g e))) (fun n => X (ix2 (flat b n) (valueAt g d))) := by
  have hS : ∀ n, scored X (ix4 b g r n)
      = after (fun e => X (ix2 (flat b r) (queryAt g e))) (fun n e => X (ix2 (flat b n) (keyAt g e))) n := fun n => by
    rw [scored, scores_at, keys_eq, funext fun e => queries_at X b r g e]
    rfl
  have hM : peak (scored X) (ix3 b g r) = top (after (fun e => X (ix2 (flat b r) (queryAt g e)))
      fun n e => X (ix2 (flat b n) (keyAt g e))) := (peak_at _ b g r).trans (congrArg _ (funext hS))
  simp only [shares_at, hM, hS, values_eq]
  exact (Softmax.plain (fun e => hX _) (fun n e => hX _) (fun n => hX _) (by decide)).symm

theorem result_at (X : FVec Ideal S12288x6144 .f32) (hX : IsReal X) (j : S12288x2048.Idx) (hj : (j 0).val < 4096) :
    padded (values X) (shares (weights (scored X) (peak (scored X)))) j = REF X j := by
  have h1 : (j 1).val < 2048 := (j 1).isLt
  rw [padded_at _ _ j hj, row_at X hX]
  have e2 : ∀ {a a' : Fin 12288} {o o' : Fin 6144}, a.val = a'.val → o.val = o'.val →
      X (ix2 a o) = X (ix2 a' o') := fun ha ho => by rw [Fin.ext ha, Fin.ext ho]
  refine att_congr (fun e => e2 ?_ rfl) (fun n e => rfl) (fun n => rfl)
  show (j 0).val / 256 * 256 + (j 0).val % 256 = (j 0).val
  omega

theorem res_eq (m : (ℓ : Loc nD τ sig) → Buf (Elt Ideal) ℓ) (c : Dev nD) : Value.res_main_v26 m c
    = padded (values (m ((c.tc : Thread nD τ).loc main_arg0))) (shares (weights
        (scored (m ((c.tc : Thread nD τ).loc main_arg0))) (peak (scored (m ((c.tc : Thread nD τ).loc main_arg0)))))) := rfl

set_option maxHeartbeats 1600000 in
/-- A run of the reference: the attention in the rows of the batches, the keys and the values. -/
theorem run (m : (ℓ : Loc nD τ sig) → Buf (Elt Ideal) ℓ) (ρ : Dev nD → PrngReg)
    (hX : ∀ c : Dev nD, IsReal (m ((c.tc : Thread nD τ).loc main_arg0))) :
    θ_run defs (onTc (τ := τ) (main (F := Ideal))) ⟨m, fun _ => 0, ρ⟩ fun r => ∀ c : Dev nD,
      (∀ i : S12288x2048.Idx, (i 0).val < 4096 → r.2.mem ((c.tc : Thread nD τ).loc main_v26) i
        = REF (m ((c.tc : Thread nD τ).loc main_arg0)) i)
      ∧ r.2.mem ((c.tc : Thread nD τ).loc main_v5) = KEYS (m ((c.tc : Thread nD τ).loc main_arg0))
      ∧ r.2.mem ((c.tc : Thread nD τ).loc main_v7) = VALUES (m ((c.tc : Thread nD τ).loc main_arg0))
      ∧ r.2.mem ((c.tc : Thread nD τ).loc main_arg0) = m ((c.tc : Thread nD τ).loc main_arg0) :=
  (θ_run defs _ _).mono (fun r h c => ⟨fun i hi => ((congrFun (h c).1 i).trans (congrFun (res_eq m c) i)).trans
      (result_at _ (hX c) i hi), (h c).2.1.trans (keys_eq _), (h c).2.2.1.trans (values_eq _), (h c).2.2.2⟩)
    (Value.run (F := Ideal) m ρ)

end Cert.ContextBReferenceIdeal.Values

end
-- ==== Proof.CombinePrompt.lean ====
module

public import proofs.«01_k».proof.Proof.Gen.CombinePromptIdeal.Value
public import proofs.«01_k».proof.Proof.Gen.CombinePromptReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CombinePromptIdeal.Values

open Cert.CombinePromptIdeal Cert.CombinePromptIdeal.Gen

variable (m : (ℓ : Loc nD τ sig) → Buf (Elt Ideal) ℓ)

/-- The batch of row `r` of the prompt and the row's place in it. -/
def batch (r : Fin 4096) : Fin 16 := ⟨r.val / 256, by omega⟩
def place (r : Fin 4096) : Fin 256 := ⟨r.val % 256, by omega⟩

/-- The row of the residual stream that row `r` of the prompt is. -/
def token (r : Fin 4096) : Fin 12288 := ⟨r.val, by omega⟩

/-- Slot `s` of batch `b` is slot `s % 32` of the batch's 32 in the outputs of expert `s / 32`. -/
def expert (s : Fin 512) : Fin 16 := ⟨s.val / 32, by omega⟩
def seat (b : Fin 16) (s : Fin 512) : Fin 1536 := ⟨b.val * 32 + s.val % 32, by omega⟩

/-- The row of the modulation table that holds the gate of the prompt: the last layer, condition 0, slot 5. -/
def gate (b : Fin 16) : Fin 384 := 293

/-- The residual stream of the prompt with the experts' outputs added, each slot weighted as the routing says. -/
def XN (P : FVec Ideal S16x256x512 .bf16) (Y : FVec Ideal S16x1536x2048 .bf16) (X : FVec Ideal S12288x2048 .f32) (M : FVec Ideal S384x1x2048 .f32) :
    Fin 4096 → Fin 2048 → Ideal .f32 := fun r d =>
  X (ix2 (token r) d) + M (ix3 (gate (batch r)) 0 d) * ∑ s : Fin 512, P (ix3 (batch r) (place r) s) * Y (ix3 (expert s) (seat (batch r) s) d)

/-- The rows of `Z` normalised and scaled. -/
def NM (Z : Fin 4096 → Fin 2048 → Ideal .f32) (G : FVec Ideal S2048 .f32) : FVec Ideal S4096x2048 .f32 := fun j =>
  Z (j 0) (j 1) * Ideal.rsqrt (Ideal.div (∑ k : Fin 2048, Z (j 0) k * Z (j 0) k) (Ideal.ofBits .f32 0x45000000#32) + Ideal.ofBits .f32 0x358637BD#32) * G (ix1 (j 1))

theorem idx : ∀ t : Fin cfg0.N, win0_0.index t = ![t.val, 0, 0] ∧ win0_1.index t = ![0, t.val, 0] ∧ win0_2.index t = ![t.val, 0]
    ∧ win0_3.index t = ![293, 0, 0] ∧ win0_4.index t = ![0, 0] ∧ win0_5.index t = ![t.val, 0] :=
  (by decide +kernel : ∀ t : Fin grid0.N, _)

set_option maxHeartbeats 1600000 in
theorem final (c : Dev nD) : (dats m 0 c).arrAt 5 (cfgs 0).N
    = NM (XN (m ((c : Thread nD τ).loc main_arg0)) (m ((c : Thread nD τ).loc main_arg1)) (m ((c : Thread nD τ).loc main_arg2)) (m ((c : Thread nD τ).loc main_arg3)))
        (m ((c : Thread nD τ).loc main_arg4)) := by
  refine (dats m 0 c).arrAt_eq_of_covers 5 _ (by decide +kernel) fun t _ y => ?_
  blk_simp
  rw [after0_5]
  frame_out
  open_payloads
  pointwise [NM, XN, batch, place, token, expert, seat, gate]
  blk_point [iblk, V, idx t]

end Cert.CombinePromptIdeal.Values

namespace Cert.CombinePromptReferenceIdeal.Values

open Cert.CombinePromptReferenceIdeal Cert.CombinePromptReferenceIdeal.Gen
open Cert.CombinePromptIdeal.Values (batch place token expert seat gate XN NM)

/-- The reference's residual stream with the experts' outputs. -/
def stream (P : FVec Ideal S16x256x512 .bf16) (Y : FVec Ideal S16x1536x2048 .bf16) (X : FVec Ideal S12288x2048 .f32) (M : FVec Ideal S384x1x2048 .f32) : FVec Ideal S16x256x2048 .f32 :=
  (addf (shapeCast _ (extractStridedSlice S4096x2048 ![0, 0] X slices_S12288x2048_S4096x2048_0_0) shapeCasts_S4096x2048_S16x256x2048) (mulf (broadcastInDim S16x256x2048 ![0, 1, 2] bcast_S1x1x2048_S16x256x2048_0_1_2 (broadcastInDim S1x1x2048 ![0, 2] bcast_S1x2048_S1x1x2048_0_2 (shapeCast _ (extractStridedSlice S1x1x1x2048 ![3, 0, 5, 0] (shapeCast _ M shapeCasts_S384x1x2048_S4x16x6x2048) slices_S4x16x6x2048_S1x1x1x2048_3_0_5_0) shapeCasts_S1x1x1x2048_S1x2048))) (Host.dotGeneral dot_S16x256x512_S16x512x2048_S16x256x2048_2_1_1_2_0_0 none (extf .f32 P bitsLt_bf16_f32) (shapeCast _ (transpose S16x16x32x2048 [1, 0, 2, 3] (extf .f32 (shapeCast _ (extractStridedSlice S16x512x2048 ![0, 0, 0] Y slices_S16x1536x2048_S16x512x2048_0_0_0) shapeCasts_S16x512x2048_S16x16x32x2048) bitsLt_bf16_f32) transposes_S16x16x32x2048_S16x16x32x2048_1_0_2_3) shapeCasts_S16x16x32x2048_S16x512x2048))))

/-- The reference's result, of its residual stream. -/
def normed (Z : FVec Ideal S16x256x2048 .f32) (G : FVec Ideal S2048 .f32) : FVec Ideal S4096x2048 .f32 :=
  shapeCast _ (mulf (mulf Z (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf Z Z) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 G))) shapeCasts_S16x256x2048_S4096x2048

set_option maxHeartbeats 1600000 in
theorem stream_at (P : FVec Ideal S16x256x512 .bf16) (Y : FVec Ideal S16x1536x2048 .bf16) (X : FVec Ideal S12288x2048 .f32) (M : FVec Ideal S384x1x2048 .f32)
    (r : Fin 4096) (d : Fin 2048) : stream P Y X M (ix3 (batch r) (place r) d) = XN P Y X M r d := by
  pointwise [stream, XN, batch, place, token, expert, seat, gate]

theorem normed_eq (Z : FVec Ideal S16x256x2048 .f32) (G : FVec Ideal S2048 .f32) :
    normed Z G = NM (fun r d => Z (ix3 (batch r) (place r) d)) G := by
  funext j
  pointwise [normed, NM, batch, place]

theorem result_eq (P : FVec Ideal S16x256x512 .bf16) (Y : FVec Ideal S16x1536x2048 .bf16) (X : FVec Ideal S12288x2048 .f32) (M : FVec Ideal S384x1x2048 .f32)
    (G : FVec Ideal S2048 .f32) : normed (stream P Y X M) G = NM (XN P Y X M) G :=
  (normed_eq _ _).trans (congrArg (fun Z => NM Z G) (funext fun r => funext fun d => stream_at P Y X M r d))

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = NM (XN (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq _ _ _ _ _), (h c).2⟩) (Value.run m ρ)

end Cert.CombinePromptReferenceIdeal.Values

end
-- ==== Proof.CombineSample.lean ====
module

public import proofs.«01_k».proof.Proof.Gen.CombineSampleIdeal.Value
public import proofs.«01_k».proof.Proof.Gen.CombineSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CombineSampleIdeal.Values

open Cert.CombineSampleIdeal Cert.CombineSampleIdeal.Gen

variable (m : (ℓ : Loc nD τ sig) → Buf (Elt Ideal) ℓ)

/-- The batch of row `r` of the sample and the row's place in it. -/
def batch (r : Fin 8192) : Fin 8 := ⟨r.val / 1024, by omega⟩
def place (r : Fin 8192) : Fin 1024 := ⟨r.val % 1024, by omega⟩

/-- The row of the residual stream that row `r` of the sample is. -/
def token (r : Fin 8192) : Fin 12288 := ⟨4096 + r.val, by omega⟩

/-- Slot `s` of batch `b` is slot `s % 128` of the batch's 128 in the outputs of expert `s / 128`. -/
def expert (s : Fin 2048) : Fin 16 := ⟨s.val / 128, by omega⟩
def seat (b : Fin 8) (s : Fin 2048) : Fin 1536 := ⟨512 + b.val * 128 + s.val % 128, by omega⟩

/-- The row of the modulation table that holds the gate of batch `b`: the last layer, condition `1 + b`, slot 5. -/
def gate (b : Fin 8) : Fin 384 := ⟨299 + 6 * b.val, by omega⟩

/-- The residual stream of the sample with the experts' outputs added, each slot weighted as the routing says. -/
def XN (P : FVec Ideal S8x1024x2048 .bf16) (Y : FVec Ideal S16x1536x2048 .bf16) (X : FVec Ideal S12288x2048 .f32) (M : FVec Ideal S384x1x2048 .f32) :
    Fin 8192 → Fin 2048 → Ideal .f32 := fun r d =>
  X (ix2 (token r) d) + M (ix3 (gate (batch r)) 0 d) * ∑ s : Fin 2048, P (ix3 (batch r) (place r) s) * Y (ix3 (expert s) (seat (batch r) s) d)

/-- The rows of `Z` normalised and scaled. -/
def NM (Z : Fin 8192 → Fin 2048 → Ideal .f32) (G : FVec Ideal S2048 .f32) : FVec Ideal S8192x2048 .f32 := fun j =>
  Z (j 0) (j 1) * Ideal.rsqrt (Ideal.div (∑ k : Fin 2048, Z (j 0) k * Z (j 0) k) (Ideal.ofBits .f32 0x45000000#32) + Ideal.ofBits .f32 0x358637BD#32) * G (ix1 (j 1))

theorem idx : ∀ t : Fin cfg0.N, win0_0.index t = ![t.val / 2, t.val % 2, 0] ∧ win0_1.index t = ![0, 4 + t.val / 2, 0] ∧ win0_2.index t = ![8 + t.val, 0]
    ∧ win0_3.index t = ![299 + 6 * (t.val / 2), 0, 0] ∧ win0_4.index t = ![0, 0] ∧ win0_5.index t = ![t.val, 0] :=
  (by decide +kernel : ∀ t : Fin grid0.N, _)

set_option maxHeartbeats 1600000 in
theorem final (c : Dev nD) : (dats m 0 c).arrAt 5 (cfgs 0).N
    = NM (XN (m ((c : Thread nD τ).loc main_arg0)) (m ((c : Thread nD τ).loc main_arg1)) (m ((c : Thread nD τ).loc main_arg2)) (m ((c : Thread nD τ).loc main_arg3)))
        (m ((c : Thread nD τ).loc main_arg4)) := by
  refine (dats m 0 c).arrAt_eq_of_covers 5 _ (by decide +kernel) fun t _ y => ?_
  blk_simp
  rw [after0_5]
  frame_out
  open_payloads
  pointwise [NM, XN, batch, place, token, expert, seat, gate]
  blk_point [iblk, V, idx t]

end Cert.CombineSampleIdeal.Values

namespace Cert.CombineSampleReferenceIdeal.Values

open Cert.CombineSampleReferenceIdeal Cert.CombineSampleReferenceIdeal.Gen
open Cert.CombineSampleIdeal.Values (batch place token expert seat gate XN NM)

/-- The reference's residual stream with the experts' outputs. -/
def stream (P : FVec Ideal S8x1024x2048 .bf16) (Y : FVec Ideal S16x1536x2048 .bf16) (X : FVec Ideal S12288x2048 .f32) (M : FVec Ideal S384x1x2048 .f32) : FVec Ideal S8x1024x2048 .f32 :=
  (addf (shapeCast _ (extractStridedSlice S8192x2048 ![4096, 0] X slices_S12288x2048_S8192x2048_4096_0) shapeCasts_S8192x2048_S8x1024x2048) (mulf (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![3, 1, 5, 0] (shapeCast _ M shapeCasts_S384x1x2048_S4x16x6x2048) slices_S4x16x6x2048_S1x8x1x2048_3_1_5_0) shapeCasts_S1x8x1x2048_S8x2048))) (Host.dotGeneral dot_S8x1024x2048_S8x2048x2048_S8x1024x2048_2_1_1_2_0_0 none (extf .f32 P bitsLt_bf16_f32) (shapeCast _ (transpose S8x16x128x2048 [1, 0, 2, 3] (extf .f32 (shapeCast _ (extractStridedSlice S16x1024x2048 ![0, 512, 0] Y slices_S16x1536x2048_S16x1024x2048_0_512_0) shapeCasts_S16x1024x2048_S16x8x128x2048) bitsLt_bf16_f32) transposes_S16x8x128x2048_S8x16x128x2048_1_0_2_3) shapeCasts_S8x16x128x2048_S8x2048x2048))))

/-- The reference's result, of its residual stream. -/
def normed (Z : FVec Ideal S8x1024x2048 .f32) (G : FVec Ideal S2048 .f32) : FVec Ideal S8192x2048 .f32 :=
  shapeCast _ (mulf (mulf Z (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf Z Z) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 G))) shapeCasts_S8x1024x2048_S8192x2048

set_option maxHeartbeats 1600000 in
theorem stream_at (P : FVec Ideal S8x1024x2048 .bf16) (Y : FVec Ideal S16x1536x2048 .bf16) (X : FVec Ideal S12288x2048 .f32) (M : FVec Ideal S384x1x2048 .f32)
    (r : Fin 8192) (d : Fin 2048) : stream P Y X M (ix3 (batch r) (place r) d) = XN P Y X M r d := by
  pointwise [stream, XN, batch, place, token, expert, seat, gate]
  blk_point []

theorem normed_eq (Z : FVec Ideal S8x1024x2048 .f32) (G : FVec Ideal S2048 .f32) :
    normed Z G = NM (fun r d => Z (ix3 (batch r) (place r) d)) G := by
  funext j
  pointwise [normed, NM, batch, place]

theorem result_eq (P : FVec Ideal S8x1024x2048 .bf16) (Y : FVec Ideal S16x1536x2048 .bf16) (X : FVec Ideal S12288x2048 .f32) (M : FVec Ideal S384x1x2048 .f32)
    (G : FVec Ideal S2048 .f32) : normed (stream P Y X M) G = NM (XN P Y X M) G :=
  (normed_eq _ _).trans (congrArg (fun Z => NM Z G) (funext fun r => funext fun d => stream_at P Y X M r d))

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = NM (XN (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq _ _ _ _ _), (h c).2⟩) (Value.run m ρ)

end Cert.CombineSampleReferenceIdeal.Values

end
-- ==== Proof.MixFirst.lean ====
module

public import proofs.«01_k».proof.Proof.Gen.MixFirstIdeal.Value
public import proofs.«01_k».proof.Proof.Gen.MixFirstReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFirstIdeal.Values

open Cert.MixFirstIdeal Cert.MixFirstIdeal.Gen

variable (m : (ℓ : Loc nD τ sig) → Buf (Elt Ideal) ℓ)

/-- The row of the modulation table that token `r` takes for slot `s`: the first layer's sixteen conditions come first, six slots each;
    the context tokens, the first 4096, take condition 0, and the latent tokens of batch `b` take condition `1 + b`. -/
def slot (r : Fin 12288) (s : Fin 6) : Fin 384 := ⟨(r.val / 1024 - 3) * 6 + s.val, by omega⟩

/-- The rows of the context tokens, then those of the latent tokens. -/
def both (A : FVec Ideal S16x256x2048 .f32) (B : FVec Ideal S8x1024x2048 .f32) : FVec Ideal S12288x2048 .f32 := fun j =>
  if h : (j 0).val < 4096 then A (ix3 (⟨(j 0).val / 256, by omega⟩ : Fin 16) (⟨(j 0).val % 256, by omega⟩ : Fin 256) (j 1))
  else B (ix3 (⟨((j 0).val - 4096) / 1024, by have h' : (j 0).val < 12288 := (j 0).isLt; omega⟩ : Fin 8)
    (⟨((j 0).val - 4096) % 1024, by omega⟩ : Fin 1024) (j 1))

/-- The residual stream after the mixer's output projection, gated. -/
def XN (O : FVec Ideal S12288x2048 .bf16) (W : FVec Ideal S2x2048x2048 .f32) (X : FVec Ideal S12288x2048 .f32) (M : FVec Ideal S384x1x2048 .f32) :
    FVec Ideal S12288x2048 .f32 := fun j =>
  X j + M (ix3 (slot (j 0) 2) 0 (j 1)) * ∑ k : Fin 2048, O (ix2 (j 0) k) * W (ix3 0 k (j 1))

/-- The rows of `Y` normalised, scaled and modulated. -/
def NM (Y : FVec Ideal S12288x2048 .f32) (M : FVec Ideal S384x1x2048 .f32) (G : FVec Ideal S4x2048 .f32) : FVec Ideal S12288x2048 .bf16 := fun j =>
  Y j * Ideal.rsqrt (Ideal.div (∑ k : Fin 2048, Y (ix2 (j 0) k) * Y (ix2 (j 0) k)) (Ideal.ofBits .f32 0x45000000#32) + Ideal.ofBits .f32 0x358637BD#32)
    * G (ix2 0 (j 1)) * (Ideal.ofBits .f32 0x3F800000#32 + M (ix3 (slot (j 0) 4) 0 (j 1))) + M (ix3 (slot (j 0) 3) 0 (j 1))

theorem idx : ∀ t : Fin cfg0.N, win0_0.index t = ![t.val, 0] ∧ win0_1.index t = ![0, 0] ∧ win0_2.index t = ![t.val - (t.val - 7), 0]
    ∧ win0_3.index t = ![t.val - 8, 0] ∧ win0_4.index t = ![(t.val / 2 - 3) * 6 + 2, 0, 0] ∧ win0_5.index t = ![0, 0, 0]
    ∧ win0_6.index t = ![(t.val / 2 - 3) * 6 + 3, 0, 0] ∧ win0_7.index t = ![(t.val / 2 - 3) * 6 + 4, 0, 0]
    ∧ win0_8.index t = ![t.val, 0] ∧ win0_9.index t = ![t.val, 0] :=
  (by decide +kernel : ∀ t : Fin grid0.N, _)

theorem choice : ∀ t : Fin cfg0.N, Scalar.cmpi CmpIPredicate.slt (BitVec.ofNat 32 (grid0.coords t 0).val) 8#32 = if t.val < 8 then 1#1 else 0#1 :=
  (by decide +kernel : ∀ t : Fin grid0.N, _)

theorem later (c : Dev nD) (t : Fin cfg0.N) (n : ℕ) (hn' : n < 16) (i3 : win0_3.index t = ![n, 0]) (r : Fin 512) (d : Fin 2048) :
    iblk m c 3 t (ix2 r d) = m ((c : Thread nD τ).loc main_arg3)
      (ix3 (⟨(n * 512 + r.val) / 1024, by omega⟩ : Fin 8) (⟨(n * 512 + r.val) % 1024, by omega⟩ : Fin 1024) d) := by
  blk_point [iblk, V, i3]

/-- What the body reads of the two parts at a point is the point's rows of both. -/
theorem part (c : Dev nD) (t : Fin cfg0.N) (r : Fin 512) (d : Fin 2048) :
    Scalar.select (Scalar.cmpi CmpIPredicate.slt (BitVec.ofNat 32 (grid0.coords t 0).val) 8#32) (iblk m c 2 t (ix2 r d)) (iblk m c 3 t (ix2 r d))
      = both (m ((c : Thread nD τ).loc main_arg2)) (m ((c : Thread nD τ).loc main_arg3))
        (ix2 (⟨t.val * 512 + r.val, by have h : t.val < 24 := t.isLt; omega⟩ : Fin 12288) d) := by
  have ht : t.val < 24 := t.isLt
  rw [choice]
  by_cases h : t.val < 8
  · rw [if_pos h]
    refine Eq.trans ?_ (dif_pos (show t.val * 512 + r.val < 4096 by omega)).symm
    show iblk m c 2 t (ix2 r d) = _
    have i2 : win0_2.index t = ![t.val, 0] := by rw [(idx t).2.2.1, show t.val - (t.val - 7) = t.val - (t.val - 7) from rfl]; congr 1; omega
    blk_point [iblk, V, i2]
  · rw [if_neg h]
    refine Eq.trans ?_ (dif_neg (show ¬ t.val * 512 + r.val < 4096 by omega)).symm
    show iblk m c 3 t (ix2 r d) = _
    obtain ⟨n, hn⟩ : ∃ n, t.val = n + 8 := ⟨t.val - 8, by omega⟩
    have i3 : win0_3.index t = ![n, 0] := by rw [(idx t).2.2.2.1]; congr 1; omega
    have e : (ix3 (⟨(t.val * 512 + r.val - 4096) / 1024, by omega⟩ : Fin 8) (⟨(t.val * 512 + r.val - 4096) % 1024, by omega⟩ : Fin 1024) d : S8x1024x2048.Idx)
        = ix3 (⟨(n * 512 + r.val) / 1024, by omega⟩ : Fin 8) (⟨(n * 512 + r.val) % 1024, by omega⟩ : Fin 1024) d := by
      have e' : t.val * 512 + r.val - 4096 = n * 512 + r.val := by omega
      simp only [e']
    refine Eq.trans ?_ (congrArg (m ((c : Thread nD τ).loc main_arg3)) e).symm
    exact later m c t n (by omega) i3 r d

/-- The new stream at a point of the block is its rows' new stream. -/
theorem stream_at (c : Dev nD) (t : Fin cfg0.N) (r : Fin 512) (d : Fin 2048) :
    ((show EReal from Scalar.select (Scalar.cmpi CmpIPredicate.slt (BitVec.ofNat 32 (grid0.coords t 0).val) 8#32) (iblk m c 2 t (ix2 r d)) (iblk m c 3 t (ix2 r d)))
        + (show EReal from iblk m c 4 t (ix3 0 0 d)) * ∑ k : Fin 2048, (show EReal from iblk m c 0 t (ix2 r k)) * (show EReal from iblk m c 1 t (ix2 k d)) : EReal)
      = XN (m ((c : Thread nD τ).loc main_arg0)) (m ((c : Thread nD τ).loc main_arg1)) (both (m ((c : Thread nD τ).loc main_arg2)) (m ((c : Thread nD τ).loc main_arg3))) (m ((c : Thread nD τ).loc main_arg4)) (ix2 (⟨t.val * 512 + r.val, by have h : t.val < 24 := t.isLt; omega⟩ : Fin 12288) d) := by
  refine congrArg₂ (· + ·) (part m c t r d) (congrArg₂ (· * ·) ?_ (Finset.sum_congr rfl fun k _ => congrArg₂ (· * ·) ?_ ?_))
  · show _ = m ((c : Thread nD τ).loc main_arg4) (ix3 (slot _ 2) 0 d)
    blk_point [iblk, V, idx t, slot]
  · show _ = m ((c : Thread nD τ).loc main_arg0) (ix2 (⟨t.val * 512 + r.val, by have h : t.val < 24 := t.isLt; omega⟩ : Fin 12288) k)
    blk_point [iblk, V, idx t]
  · show _ = m ((c : Thread nD τ).loc main_arg1) (ix3 0 k d)
    blk_point [iblk, V, idx t]

theorem final_x (c : Dev nD) : (dats m 0 c).arrAt 8 (cfgs 0).N
    = XN (m ((c : Thread nD τ).loc main_arg0)) (m ((c : Thread nD τ).loc main_arg1)) (both (m ((c : Thread nD τ).loc main_arg2)) (m ((c : Thread nD τ).loc main_arg3))) (m ((c : Thread nD τ).loc main_arg4)) := by
  refine (dats m 0 c).arrAt_eq_of_covers 8 _ (by decide +kernel) fun t _ y => ?_
  blk_simp
  rw [after0_8]
  frame_out
  canon_tiles x h
  · open_payloads
    pointwise []
    rw [show ((View.whole main_v6_0).slice (win0_8.rect t)).emb y = (ix2 (⟨t.val * 512 + (256 + (x 0).val), by have h : t.val < 24 := t.isLt; omega⟩ : Fin 12288) (x 1) : S12288x2048.Idx) by
      blk_ext [idx t]]
    exact stream_at m c t _ _
  · open_payloads
    pointwise []
    rw [show ((View.whole main_v6_0).slice (win0_8.rect t)).emb y = (ix2 (⟨t.val * 512 + (x 0).val, by have h : t.val < 24 := t.isLt; omega⟩ : Fin 12288) (x 1) : S12288x2048.Idx) by
      blk_ext [idx t]]
    exact stream_at m c t _ _

set_option maxHeartbeats 800000 in
theorem final_h (c : Dev nD) : (dats m 0 c).arrAt 9 (cfgs 0).N
    = NM (XN (m ((c : Thread nD τ).loc main_arg0)) (m ((c : Thread nD τ).loc main_arg1)) (both (m ((c : Thread nD τ).loc main_arg2)) (m ((c : Thread nD τ).loc main_arg3))) (m ((c : Thread nD τ).loc main_arg4)))
        (m ((c : Thread nD τ).loc main_arg4)) (m ((c : Thread nD τ).loc main_arg5)) := by
  refine (dats m 0 c).arrAt_eq_of_covers 9 _ (by decide +kernel) fun t _ y => ?_
  blk_simp
  rw [after0_9]
  frame_out
  canon_tiles x h
  · open_payloads
    pointwise [NM]
    rw [show ((View.whole main_v6_1).slice (win0_9.rect t)).emb y = (ix2 (⟨t.val * 512 + (256 + (x 0).val), by have h : t.val < 24 := t.isLt; omega⟩ : Fin 12288) (x 1) : S12288x2048.Idx) by
      blk_ext [idx t]]
    refine congrArg₂ (· + ·) (congrArg₂ (· * ·) (congrArg₂ (· * ·) (congrArg₂ (· * ·) (stream_at m c t _ _) (congrArg Ideal.rsqrt (congrArg₂ (· + ·)
      (congrArg₂ Ideal.div (Finset.sum_congr rfl fun k _ => congrArg₂ (· * ·) (stream_at m c t _ k) (stream_at m c t _ k)) rfl) rfl))) ?_) (congrArg₂ (· + ·) rfl ?_)) ?_
    · show _ = m ((c : Thread nD τ).loc main_arg5) (ix2 0 (x 1))
      blk_point [iblk, V, idx t]
    · show _ = m ((c : Thread nD τ).loc main_arg4) (ix3 (slot _ 4) 0 (x 1))
      blk_point [iblk, V, idx t, slot]
    · show _ = m ((c : Thread nD τ).loc main_arg4) (ix3 (slot _ 3) 0 (x 1))
      blk_point [iblk, V, idx t, slot]
  · open_payloads
    pointwise [NM]
    rw [show ((View.whole main_v6_1).slice (win0_9.rect t)).emb y = (ix2 (⟨t.val * 512 + (x 0).val, by have h : t.val < 24 := t.isLt; omega⟩ : Fin 12288) (x 1) : S12288x2048.Idx) by
      blk_ext [idx t]]
    refine congrArg₂ (· + ·) (congrArg₂ (· * ·) (congrArg₂ (· * ·) (congrArg₂ (· * ·) (stream_at m c t _ _) (congrArg Ideal.rsqrt (congrArg₂ (· + ·)
      (congrArg₂ Ideal.div (Finset.sum_congr rfl fun k _ => congrArg₂ (· * ·) (stream_at m c t _ k) (stream_at m c t _ k)) rfl) rfl))) ?_) (congrArg₂ (· + ·) rfl ?_)) ?_
    · show _ = m ((c : Thread nD τ).loc main_arg5) (ix2 0 (x 1))
      blk_point [iblk, V, idx t]
    · show _ = m ((c : Thread nD τ).loc main_arg4) (ix3 (slot _ 4) 0 (x 1))
      blk_point [iblk, V, idx t, slot]
    · show _ = m ((c : Thread nD τ).loc main_arg4) (ix3 (slot _ 3) 0 (x 1))
      blk_point [iblk, V, idx t, slot]

end Cert.MixFirstIdeal.Values

namespace Cert.MixFirstReferenceIdeal.Values

open Cert.MixFirstReferenceIdeal Cert.MixFirstReferenceIdeal.Gen
open Cert.MixFirstIdeal.Values (slot both XN NM)

/-- The row that each token takes from the table for slot 2. -/
def rows2 (M : FVec Ideal S384x1x2048 .f32) : FVec Ideal S12288x2048 .f32 :=
  concatenate S12288x2048 0 [⟨S4096x2048, (broadcastInDim S4096x2048 ![1] bcast_S2048_S4096x2048_1 (shapeCast _ (extractStridedSlice S1x2048 ![0, 0] (shapeCast _ (extractStridedSlice S16x1x2048 ![0, 2, 0] (shapeCast _ (extractStridedSlice S1x16x6x2048 ![0, 0, 0, 0] (shapeCast _ M shapeCasts_S384x1x2048_S4x16x6x2048) slices_S4x16x6x2048_S1x16x6x2048_0_0_0_0) shapeCasts_S1x16x6x2048_S16x6x2048) slices_S16x6x2048_S16x1x2048_0_2_0) shapeCasts_S16x1x2048_S16x2048) slices_S16x2048_S1x2048_0_0) shapeCasts_S1x2048_S2048))⟩, ⟨S8192x2048, (shapeCast _ (broadcastInDim S8x1024x2048 ![0, 1, 2] bcast_S8x1x2048_S8x1024x2048_0_1_2 (broadcastInDim S8x1x2048 ![0, 2] bcast_S8x2048_S8x1x2048_0_2 (extractStridedSlice S8x2048 ![1, 0] (shapeCast _ (extractStridedSlice S16x1x2048 ![0, 2, 0] (shapeCast _ (extractStridedSlice S1x16x6x2048 ![0, 0, 0, 0] (shapeCast _ M shapeCasts_S384x1x2048_S4x16x6x2048) slices_S4x16x6x2048_S1x16x6x2048_0_0_0_0) shapeCasts_S1x16x6x2048_S16x6x2048) slices_S16x6x2048_S16x1x2048_0_2_0) shapeCasts_S16x1x2048_S16x2048) slices_S16x2048_S8x2048_1_0))) shapeCasts_S8x1024x2048_S8192x2048)⟩] concatenates_S4096x2048_S8192x2048_S12288x2048_d0

theorem rows2_at (M : FVec Ideal S384x1x2048 .f32) (j : S12288x2048.Idx) : rows2 M j = M (ix3 (slot (j 0) 2) 0 (j 1)) := by
  pointwise [rows2, slot]
  blk_point []

/-- The row that each token takes from the table for slot 4. -/
def rows4 (M : FVec Ideal S384x1x2048 .f32) : FVec Ideal S12288x2048 .f32 :=
  concatenate S12288x2048 0 [⟨S4096x2048, (broadcastInDim S4096x2048 ![1] bcast_S2048_S4096x2048_1 (shapeCast _ (extractStridedSlice S1x2048 ![0, 0] (shapeCast _ (extractStridedSlice S16x1x2048 ![0, 4, 0] (shapeCast _ (extractStridedSlice S1x16x6x2048 ![0, 0, 0, 0] (shapeCast _ M shapeCasts_S384x1x2048_S4x16x6x2048) slices_S4x16x6x2048_S1x16x6x2048_0_0_0_0) shapeCasts_S1x16x6x2048_S16x6x2048) slices_S16x6x2048_S16x1x2048_0_4_0) shapeCasts_S16x1x2048_S16x2048) slices_S16x2048_S1x2048_0_0) shapeCasts_S1x2048_S2048))⟩, ⟨S8192x2048, (shapeCast _ (broadcastInDim S8x1024x2048 ![0, 1, 2] bcast_S8x1x2048_S8x1024x2048_0_1_2 (broadcastInDim S8x1x2048 ![0, 2] bcast_S8x2048_S8x1x2048_0_2 (extractStridedSlice S8x2048 ![1, 0] (shapeCast _ (extractStridedSlice S16x1x2048 ![0, 4, 0] (shapeCast _ (extractStridedSlice S1x16x6x2048 ![0, 0, 0, 0] (shapeCast _ M shapeCasts_S384x1x2048_S4x16x6x2048) slices_S4x16x6x2048_S1x16x6x2048_0_0_0_0) shapeCasts_S1x16x6x2048_S16x6x2048) slices_S16x6x2048_S16x1x2048_0_4_0) shapeCasts_S16x1x2048_S16x2048) slices_S16x2048_S8x2048_1_0))) shapeCasts_S8x1024x2048_S8192x2048)⟩] concatenates_S4096x2048_S8192x2048_S12288x2048_d0

theorem rows4_at (M : FVec Ideal S384x1x2048 .f32) (j : S12288x2048.Idx) : rows4 M j = M (ix3 (slot (j 0) 4) 0 (j 1)) := by
  pointwise [rows4, slot]
  blk_point []

/-- The row that each token takes from the table for slot 3. -/
def rows3 (M : FVec Ideal S384x1x2048 .f32) : FVec Ideal S12288x2048 .f32 :=
  concatenate S12288x2048 0 [⟨S4096x2048, (broadcastInDim S4096x2048 ![1] bcast_S2048_S4096x2048_1 (shapeCast _ (extractStridedSlice S1x2048 ![0, 0] (shapeCast _ (extractStridedSlice S16x1x2048 ![0, 3, 0] (shapeCast _ (extractStridedSlice S1x16x6x2048 ![0, 0, 0, 0] (shapeCast _ M shapeCasts_S384x1x2048_S4x16x6x2048) slices_S4x16x6x2048_S1x16x6x2048_0_0_0_0) shapeCasts_S1x16x6x2048_S16x6x2048) slices_S16x6x2048_S16x1x2048_0_3_0) shapeCasts_S16x1x2048_S16x2048) slices_S16x2048_S1x2048_0_0) shapeCasts_S1x2048_S2048))⟩, ⟨S8192x2048, (shapeCast _ (broadcastInDim S8x1024x2048 ![0, 1, 2] bcast_S8x1x2048_S8x1024x2048_0_1_2 (broadcastInDim S8x1x2048 ![0, 2] bcast_S8x2048_S8x1x2048_0_2 (extractStridedSlice S8x2048 ![1, 0] (shapeCast _ (extractStridedSlice S16x1x2048 ![0, 3, 0] (shapeCast _ (extractStridedSlice S1x16x6x2048 ![0, 0, 0, 0] (shapeCast _ M shapeCasts_S384x1x2048_S4x16x6x2048) slices_S4x16x6x2048_S1x16x6x2048_0_0_0_0) shapeCasts_S1x16x6x2048_S16x6x2048) slices_S16x6x2048_S16x1x2048_0_3_0) shapeCasts_S16x1x2048_S16x2048) slices_S16x2048_S8x2048_1_0))) shapeCasts_S8x1024x2048_S8192x2048)⟩] concatenates_S4096x2048_S8192x2048_S12288x2048_d0

theorem rows3_at (M : FVec Ideal S384x1x2048 .f32) (j : S12288x2048.Idx) : rows3 M j = M (ix3 (slot (j 0) 3) 0 (j 1)) := by
  pointwise [rows3, slot]
  blk_point []

/-- The first result of the reference, of its arguments. -/
def stream (O : FVec Ideal S12288x2048 .bf16) (W : FVec Ideal S2x2048x2048 .f32) (X : FVec Ideal S12288x2048 .f32) (M : FVec Ideal S384x1x2048 .f32) :
    FVec Ideal S12288x2048 .f32 :=
  addf X (mulf (rows2 M) (Host.dotGeneral dot_S12288x2048_S2048x2048_S12288x2048_1_0_0_1_n_n none (extf .f32 O bitsLt_bf16_f32) (shapeCast _ (extractStridedSlice S1x2048x2048 ![0, 0, 0] W slices_S2x2048x2048_S1x2048x2048_0_0_0) shapeCasts_S1x2048x2048_S2048x2048)))

/-- The second result of the reference, of the first and the arguments. -/
def normed (Y : FVec Ideal S12288x2048 .f32) (M : FVec Ideal S384x1x2048 .f32) (G : FVec Ideal S4x2048 .f32) : FVec Ideal S12288x2048 .bf16 :=
  truncf .bf16 (addf (mulf (mulf (mulf (Y) (broadcastInDim S12288x2048 ![0, 1] bcast_S12288x1_S12288x2048_0_1 (Host.rsqrt (addf (Host.divf (broadcastInDim S12288x1 ![0] bcast_S12288_S12288x1_0 (Host.reduceAdd (mulf (Y) (Y)) (constant S_ .f32 0x00000000#32) reducesTo_S12288x2048_S12288_d1 h_S_)) (broadcastInDim S12288x1 ![] bcast_S_S12288x1 (constant S_ .f32 0x45000000#32))) (broadcastInDim S12288x1 ![] bcast_S_S12288x1 (constant S_ .f32 0x358637BD#32)))))) (broadcastInDim S12288x2048 ![0, 1] bcast_S1x2048_S12288x2048_0_1 (broadcastInDim S1x2048 ![1] bcast_S2048_S1x2048_1 (shapeCast _ (extractStridedSlice S1x2048 ![0, 0] G slices_S4x2048_S1x2048_0_0) shapeCasts_S1x2048_S2048)))) (addf (broadcastInDim S12288x2048 ![] bcast_S_S12288x2048 (constant S_ .f32 0x3F800000#32)) (rows4 M))) (rows3 M)) bitsLt_bf16_f32

theorem stream_eq (O : FVec Ideal S12288x2048 .bf16) (W : FVec Ideal S2x2048x2048 .f32) (X : FVec Ideal S12288x2048 .f32) (M : FVec Ideal S384x1x2048 .f32) :
    stream O W X M = XN O W X M := by
  funext j
  pointwise [stream, XN, rows2_at]

theorem normed_eq (Y : FVec Ideal S12288x2048 .f32) (M : FVec Ideal S384x1x2048 .f32) (G : FVec Ideal S4x2048 .f32) :
    normed Y M G = NM Y M G := by
  funext j
  pointwise [normed, NM, rows3_at, rows4_at]

/-- The reference's rows of both parts. -/
def rows (A : FVec Ideal S16x256x2048 .f32) (B : FVec Ideal S8x1024x2048 .f32) : FVec Ideal S12288x2048 .f32 :=
  concatenate S12288x2048 0 [⟨S4096x2048, (shapeCast _ A shapeCasts_S16x256x2048_S4096x2048)⟩, ⟨S8192x2048, (shapeCast _ B shapeCasts_S8x1024x2048_S8192x2048)⟩] concatenates_S4096x2048_S8192x2048_S12288x2048_d0

theorem rows_eq (A : FVec Ideal S16x256x2048 .f32) (B : FVec Ideal S8x1024x2048 .f32) : rows A B = both A B := by
  funext j
  pointwise [rows, both]

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = XN (m ((c.tc : Thread nD τ).loc main_arg0)) (m ((c.tc : Thread nD τ).loc main_arg1)) (both (m ((c.tc : Thread nD τ).loc main_arg2)) (m ((c.tc : Thread nD τ).loc main_arg3))) (m ((c.tc : Thread nD τ).loc main_arg4))
      ∧ r.2.mem ((c.tc : Thread nD τ).loc main_v61) = NM (XN (m ((c.tc : Thread nD τ).loc main_arg0)) (m ((c.tc : Thread nD τ).loc main_arg1)) (both (m ((c.tc : Thread nD τ).loc main_arg2)) (m ((c.tc : Thread nD τ).loc main_arg3))) (m ((c.tc : Thread nD τ).loc main_arg4))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((stream_eq _ _ (rows _ _) _).trans (congrArg (fun X => XN _ _ X _) (rows_eq _ _))),
    (h c).2.1.trans ((congrArg (fun Y => normed Y _ _) ((stream_eq _ _ (rows _ _) _).trans (congrArg (fun X => XN _ _ X _) (rows_eq _ _)))).trans
      (normed_eq _ _ _)), (h c).2.2⟩) (Value.run m ρ)

end Cert.MixFirstReferenceIdeal.Values

end
-- ==== Proof.Gating.lean ====
module

public import proofs.«01_k».proof.Proof.Gen.GatingIdeal.Value
public import proofs.«01_k».proof.Proof.Gen.GatingReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatingIdeal.Values

open Cert.GatingIdeal Cert.GatingIdeal.Gen

variable (m : (ℓ : Loc nD τ sig) → Buf (Elt Ideal) ℓ)

/-- The second half of row `r` of the projection, normalised and scaled. -/
def vn (Z : FVec Ideal S12288x4096 .bf16) (G : FVec Ideal S1x2048 .f32) (r : Fin 12288) (d : Fin 2048) : EReal :=
  Z (ix2 r (⟨2048 + d.val, by omega⟩ : Fin 4096))
    * Ideal.rsqrt (Ideal.div (∑ k : Fin 2048, Z (ix2 r (⟨2048 + k.val, by omega⟩ : Fin 4096)) * Z (ix2 r (⟨2048 + k.val, by omega⟩ : Fin 4096))) (Ideal.ofBits .f32 0x45000000#32) + Ideal.ofBits .f32 0x358637BD#32)
    * G (ix2 0 d)

/-- Row `q` of the chunk of 128 rows that row `r` is in, the row's place in it, and the group of 128 columns that column `d` is in. -/
def near (r : Fin 12288) (q : Fin 128) : Fin 12288 := ⟨r.val / 128 * 128 + q.val, by omega⟩
def place (r : Fin 12288) : Fin 128 := ⟨r.val % 128, by omega⟩
def group (d : Fin 2048) : Fin 16 := ⟨d.val / 128, by omega⟩

/-- The first half, gated by the second mixed along its chunk of rows. -/
def REF (Z : FVec Ideal S12288x4096 .bf16) (G : FVec Ideal S1x2048 .f32) (W : FVec Ideal S1x16x128x128 .f32) (B : FVec Ideal S1x16x128 .f32) : FVec Ideal S12288x2048 .bf16 := fun j =>
  Z (ix2 (j 0) (⟨(j 1).val, by have h : (j 1).val < 2048 := (j 1).isLt; omega⟩ : Fin 4096))
    * ((∑ q : Fin 128, W (ix4 0 (group (j 1)) (place (j 0)) q) * vn Z G (near (j 0) q) (j 1)) + B (ix3 0 (group (j 1)) (place (j 0))))

theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

set_option maxHeartbeats 32000000 in
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  canon_tiles x h
  all_goals
    open_payloads
    pointwise [REF, vn, near, place, group]
    blk_point [iblk, V, idx t]

end Cert.GatingIdeal.Values

namespace Cert.GatingReferenceIdeal.Values

open Cert.GatingReferenceIdeal Cert.GatingReferenceIdeal.Gen
open Cert.GatingIdeal.Values (vn near place group REF)

/-- The reference's host operations composed. -/
def res (Z : FVec Ideal S12288x4096 .bf16) (G : FVec Ideal S1x2048 .f32) (W : FVec Ideal S1x16x128x128 .f32) (B : FVec Ideal S1x16x128 .f32) : FVec Ideal S12288x2048 .bf16 :=
  truncf .bf16 (mulf (extf .f32 (extractStridedSlice S12288x2048 ![0, 0] Z slices_S12288x4096_S12288x2048_0_0) bitsLt_bf16_f32) (shapeCast _ (addf (transpose S96x128x16x128 [1, 3, 0, 2] (Host.dotGeneral dot_S96x128x16x128_S16x128x128_S16x96x128x128_1_2_03_1_2_0 none (shapeCast _ (mulf (mulf (extf .f32 (extractStridedSlice S12288x2048 ![0, 2048] Z slices_S12288x4096_S12288x2048_0_2048) bitsLt_bf16_f32) (broadcastInDim S12288x2048 ![0, 1] bcast_S12288x1_S12288x2048_0_1 (Host.rsqrt (addf (Host.divf (broadcastInDim S12288x1 ![0] bcast_S12288_S12288x1_0 (Host.reduceAdd (mulf (extf .f32 (extractStridedSlice S12288x2048 ![0, 2048] Z slices_S12288x4096_S12288x2048_0_2048) bitsLt_bf16_f32) (extf .f32 (extractStridedSlice S12288x2048 ![0, 2048] Z slices_S12288x4096_S12288x2048_0_2048) bitsLt_bf16_f32)) (constant S_ .f32 0x00000000#32) reducesTo_S12288x2048_S12288_d1 h_S_)) (broadcastInDim S12288x1 ![] bcast_S_S12288x1 (constant S_ .f32 0x45000000#32))) (broadcastInDim S12288x1 ![] bcast_S_S12288x1 (constant S_ .f32 0x358637BD#32)))))) (broadcastInDim S12288x2048 ![0, 1] bcast_S1x2048_S12288x2048_0_1 (broadcastInDim S1x2048 ![1] bcast_S2048_S1x2048_1 (shapeCast _ G shapeCasts_S1x2048_S2048)))) shapeCasts_S12288x2048_S96x128x16x128) (shapeCast _ W shapeCasts_S1x16x128x128_S16x128x128)) transposes_S16x96x128x128_S96x128x16x128_1_3_0_2) (broadcastInDim S96x128x16x128 ![0, 1, 2, 3] bcast_S1x128x16x1_S96x128x16x128_0_1_2_3 (broadcastInDim S1x128x16x1 ![1, 2] bcast_S128x16_S1x128x16x1_1_2 (transpose S128x16 [1, 0] (shapeCast _ B shapeCasts_S1x16x128_S16x128) transposes_S16x128_S128x16_1_0)))) shapeCasts_S96x128x16x128_S12288x2048)) bitsLt_bf16_f32

theorem res_eq (Z : FVec Ideal S12288x4096 .bf16) (G : FVec Ideal S1x2048 .f32) (W : FVec Ideal S1x16x128x128 .f32) (B : FVec Ideal S1x16x128 .f32) : res Z G W B = REF Z G W B := by
  funext j
  pointwise [res, REF, vn, near, place, group]
  refine congrArg₂ (· * ·) rfl (congrArg₂ (· + ·) (Finset.sum_congr rfl fun q _ => (mul_comm _ _).trans ?_) ?_)
  · blk_point []
  · blk_point []

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq _ _ _ _), (h c).2⟩) (Value.run m ρ)

end Cert.GatingReferenceIdeal.Values

end
-- ==== Proof.Modulation.lean ====
module

public import proofs.«01_k».proof.Proof.Gen.ModulationIdeal.Value
public import proofs.«01_k».proof.Proof.Gen.ModulationReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModulationIdeal.Values

open Cert.ModulationIdeal Cert.ModulationIdeal.Gen

variable (m : (ℓ : Loc nD τ sig) → Buf (Elt Ideal) ℓ)

theorem one_add_exp_ne (a : EReal) : (1 : EReal) + Ideal.exp a ≠ 0 := by
  have h0 : (0 : EReal) ≤ Ideal.exp a := by
    induction a using EReal.rec with
    | bot => exact le_refl _
    | coe r => exact EReal.coe_nonneg.2 (Real.exp_pos r).le
    | top => exact le_top
  exact (lt_of_lt_of_le zero_lt_one (le_add_of_nonneg_right h0)).ne'

/-- The two spellings of the gate's activation: a quotient, and a product with the logistic. -/
theorem silu_eq (a : EReal) : Ideal.div a (1 + Ideal.exp (0 - a)) = a * Ideal.div 1 (1 + Ideal.exp (-a)) := by
  rw [zero_sub, Ideal.div, Ideal.div, if_neg (one_add_exp_ne _), if_neg (one_add_exp_ne _), one_mul]

/-- The conditions: the context's, the eight of the sample, and rows of zero. -/
def cond (C : FVec Ideal S8x2048 .f32) (K : FVec Ideal S2048 .f32) : FVec Ideal S16x2048 .f32 :=
  (concatenate S16x2048 0 [⟨S1x2048, ((broadcastInDim S1x2048 ![1] bcast_S2048_S1x2048_1 K))⟩, ⟨S8x2048, (C)⟩, ⟨S7x2048, ((broadcastInDim S7x2048 ![] bcast_S_S7x2048 (constant S_ .f32 0x00000000#32)))⟩] concatenates_S1x2048_S8x2048_S7x2048_S16x2048_d0)

/-- A condition's activation. -/
def act (a : EReal) : EReal := Ideal.div a (1 + Ideal.exp (0 - a))

/-- The modulation table of the conditions `S`. -/
def REF (S : FVec Ideal S16x2048 .f32) (W : FVec Ideal S4x2048x12288 .f32) (B : FVec Ideal S4x12288 .f32) : FVec Ideal S4x16x12288 .f32 := fun j =>
  (∑ k : Fin 2048, act (S (ix2 (j 1) k)) * W (ix3 (j 0) k (j 2))) + B (ix2 (j 0) (j 2))

theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

theorem cond_eq (c : Dev nD) : V m c main_v2 = cond (m ((c : Thread nD τ).loc main_arg0)) (m ((c : Thread nD τ).loc main_arg1)) := by
  show StableHlo.after hostOps0 (fun b => m (c, b)) (Proc.tc.devRef main_v2) = _
  after_results_simp <;> rfl

theorem cond_at (c : Dev nD) (t : Fin cfg0.N) (r : Fin 16) (k : Fin 2048) : iblk m c 0 t (ix2 r k) = cond (m ((c : Thread nD τ).loc main_arg0)) (m ((c : Thread nD τ).loc main_arg1)) (ix2 r k) := by
  rw [← cond_eq]
  blk_point [iblk, idx t]

set_option maxHeartbeats 1600000 in
theorem final (c : Dev nD) : (dats m 0 c).arrAt 3 (cfgs 0).N = REF (cond (m ((c : Thread nD τ).loc main_arg0)) (m ((c : Thread nD τ).loc main_arg1))) (m ((c : Thread nD τ).loc main_arg2)) (m ((c : Thread nD τ).loc main_arg3)) := by
  refine (dats m 0 c).arrAt_eq_of_covers 3 _ (by decide +kernel) fun t _ y => ?_
  blk_simp
  rw [after0_3]
  frame_out
  open_payloads
  pointwise [REF, act]
  refine congrArg₂ (· + ·) (Finset.sum_congr rfl fun k _ => congrArg₂ (· * ·) ?_ ?_) ?_
  · refine congrArg act ((cond_at m c t (y 1) k).trans (congrArg (cond _ _) ?_))
    blk_ext [idx t]
  · blk_point [iblk, V, idx t]
  · blk_point [iblk, V, idx t]

end Cert.ModulationIdeal.Values

namespace Cert.ModulationReferenceIdeal.Values

open Cert.ModulationReferenceIdeal Cert.ModulationReferenceIdeal.Gen
open Cert.ModulationIdeal.Values (silu_eq cond act REF)

/-- The reference's host operations, of the conditions. -/
def table (S : FVec Ideal S16x2048 .f32) (W : FVec Ideal S4x2048x12288 .f32) (B : FVec Ideal S4x12288 .f32) : FVec Ideal S4x16x12288 .f32 :=
  addf (transpose S4x16x12288 [0, 2, 1] (Host.dotGeneral dot_S4x2048x12288_S16x2048_S4x12288x16_1_1_02_0_n_n none W (mulf (S) (Host.divf (broadcastInDim S16x2048 ![] bcast_S_S16x2048 (constant S_ .f32 0x3F800000#32)) (addf (broadcastInDim S16x2048 ![] bcast_S_S16x2048 (constant S_ .f32 0x3F800000#32)) (Host.exp (Host.negf (S))))))) transposes_S4x12288x16_S4x16x12288_0_2_1) (broadcastInDim S4x16x12288 ![0, 1, 2] bcast_S4x1x12288_S4x16x12288_0_1_2 (broadcastInDim S4x1x12288 ![0, 2] bcast_S4x12288_S4x1x12288_0_2 B))

theorem table_eq (S : FVec Ideal S16x2048 .f32) (W : FVec Ideal S4x2048x12288 .f32) (B : FVec Ideal S4x12288 .f32) : table S W B = REF S W B := by
  funext j
  pointwise [table, REF, act]
  exact congrArg₂ (· + ·) (Finset.sum_congr rfl fun k _ => (mul_comm _ _).trans (congrArg (· * _) (silu_eq _).symm)) rfl

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = REF (cond (m ((c.tc : Thread nD τ).loc main_arg0)) (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (table_eq _ _ _), (h c).2⟩) (Value.run m ρ)

end Cert.ModulationReferenceIdeal.Values

end
-- ==== Proof.NextSample.lean ====
module

public import proofs.«01_k».proof.Proof.Gen.NextSampleIdeal.Value
public import proofs.«01_k».proof.Proof.Gen.NextSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NextSampleIdeal.Values

open Cert.NextSampleIdeal Cert.NextSampleIdeal.Gen

variable (m : (ℓ : Loc nD τ sig) → Buf (Elt Ideal) ℓ)

/-- The batch of row `r` of the sample and the row's place in it. -/
def batch (r : Fin 8192) : Fin 8 := ⟨r.val / 1024, by omega⟩
def place (r : Fin 8192) : Fin 1024 := ⟨r.val % 1024, by omega⟩

/-- The row of the stream that row `r` of the sample is; the prompt's 4096 rows come first. -/
def token (r : Fin 8192) : Fin 12288 := ⟨4096 + r.val, by omega⟩

/-- The row of the sample that a row of the stream is. -/
def late (j : S12288x2048.Idx) : Fin 8192 := ⟨(j 0).val - 4096, by have h : (j 0).val < 12288 := (j 0).isLt; omega⟩

/-- Slot `s` of batch `b` is slot `s % 128` of the batch's 128 in the outputs of expert `s / 128`. -/
def expert (s : Fin 2048) : Fin 16 := ⟨s.val / 128, by omega⟩
def seat (b : Fin 8) (s : Fin 2048) : Fin 1536 := ⟨512 + b.val * 128 + s.val % 128, by omega⟩

/-- The row of the modulation table that holds the gate of batch `b` (the first layer, condition `1 + b`, slot 5), and slot `s` of the layer after. -/
def gate (b : Fin 8) : Fin 384 := ⟨11 + 6 * b.val, by omega⟩
def after (b : Fin 8) (s : Fin 2) : Fin 384 := ⟨102 + s.val + 6 * b.val, by omega⟩

/-- The residual stream of the sample with the experts' outputs added, each slot weighted as the routing says. -/
def XN (P : FVec Ideal S8x1024x2048 .bf16) (Y : FVec Ideal S16x1536x2048 .bf16) (X : FVec Ideal S12288x2048 .f32) (M : FVec Ideal S384x1x2048 .f32) : Fin 8192 → Fin 2048 → Ideal .f32 := fun r d =>
  X (ix2 (token r) d) + M (ix3 (gate (batch r)) 0 d) * ∑ s : Fin 2048, P (ix3 (batch r) (place r) s) * Y (ix3 (expert s) (seat (batch r) s) d)

/-- The rows of `Z` normalised with the next layer's gain and modulated. -/
def NM (Z : Fin 8192 → Fin 2048 → Ideal .f32) (M : FVec Ideal S384x1x2048 .f32) (G : FVec Ideal S4x2048 .f32) : Fin 8192 → Fin 2048 → Ideal .bf16 := fun r d =>
  Z r d * Ideal.rsqrt (Ideal.div (∑ k : Fin 2048, Z r k * Z r k) (Ideal.ofBits .f32 0x45000000#32) + Ideal.ofBits .f32 0x358637BD#32)
    * G (ix2 1 d) * (Ideal.ofBits .f32 0x3F800000#32 + M (ix3 (after (batch r) 1) 0 d)) + M (ix3 (after (batch r) 0) 0 d)

/-- The prompt's rows of `H` as they were, and the sample's rows of `Z`. -/
def put {f : FTy} (H : FVec Ideal S12288x2048 f) (Z : Fin 8192 → Fin 2048 → Ideal f) : FVec Ideal S12288x2048 f := fun j =>
  if 4096 ≤ (j 0).val then Z (late j) (j 1) else H j

theorem idx : ∀ t : Fin cfg0.N, win0_0.index t = ![t.val / 2, t.val % 2, 0] ∧ win0_1.index t = ![0, 4 + t.val / 2, 0] ∧ win0_2.index t = ![8 + t.val, 0]
    ∧ win0_3.index t = ![11 + 6 * (t.val / 2), 0, 0] ∧ win0_4.index t = ![1, 0, 0] ∧ win0_5.index t = ![102 + 6 * (t.val / 2), 0, 0]
    ∧ win0_6.index t = ![103 + 6 * (t.val / 2), 0, 0] ∧ win0_7.index t = ![8 + t.val, 0] ∧ win0_8.index t = ![8 + t.val, 0] :=
  (by decide +kernel : ∀ t : Fin grid0.N, _)

set_option maxHeartbeats 1600000 in
theorem blocks_x (c : Dev nD) : (dats m 0 c).arrAt 7 (cfgs 0).N = fun i : S12288x2048.Idx => if 4096 ≤ (i 0).val
    then XN (m ((c : Thread nD τ).loc main_arg0)) (m ((c : Thread nD τ).loc main_arg1)) (m ((c : Thread nD τ).loc main_arg2)) (m ((c : Thread nD τ).loc main_arg3)) (late i) (i 1) else V m c main_v1_0 i := by
  refine (dats m 0 c).arrAt_eq_of_coversWhere 7 _ (fun β => 8 ≤ β 0) (by decide +kernel) (fun t _ y => ?_) (fun j => by blk_simp [Pipeline.Window.cell_apply]; omega)
  blk_simp
  rw [after0_7]
  unfold outsAt0
  frame_out
  open_payloads
  have ht : t.val < 16 := t.isLt
  have hy : (y 0).val < 512 := (y 0).isLt
  have e : late (((View.whole main_v1_0).slice (win0_7.rect t)).emb y) = ⟨t.val * 512 + (y 0).val, by omega⟩ := by
    refine Fin.ext ?_
    show _ - 4096 = _
    blk_simp [idx t]
    show _ = t.val * 512 + (y 0).val
    omega
  rw [e]
  pointwise [XN, batch, place, token, expert, seat, gate]
  blk_point [iblk, V, idx t]

set_option maxHeartbeats 1600000 in
theorem blocks_h (c : Dev nD) : (dats m 0 c).arrAt 8 (cfgs 0).N = fun i : S12288x2048.Idx => if 4096 ≤ (i 0).val
    then NM (XN (m ((c : Thread nD τ).loc main_arg0)) (m ((c : Thread nD τ).loc main_arg1)) (m ((c : Thread nD τ).loc main_arg2)) (m ((c : Thread nD τ).loc main_arg3))) (m ((c : Thread nD τ).loc main_arg3)) (m ((c : Thread nD τ).loc main_arg4)) (late i) (i 1) else V m c main_v1_1 i := by
  refine (dats m 0 c).arrAt_eq_of_coversWhere 8 _ (fun β => 8 ≤ β 0) (by decide +kernel) (fun t _ y => ?_) (fun j => by blk_simp [Pipeline.Window.cell_apply]; omega)
  blk_simp
  rw [after0_8]
  unfold outsAt0
  frame_out
  open_payloads
  have ht : t.val < 16 := t.isLt
  have hy : (y 0).val < 512 := (y 0).isLt
  have e : late (((View.whole main_v1_1).slice (win0_8.rect t)).emb y) = ⟨t.val * 512 + (y 0).val, by omega⟩ := by
    refine Fin.ext ?_
    show _ - 4096 = _
    blk_simp [idx t]
    show _ = t.val * 512 + (y 0).val
    omega
  rw [e]
  pointwise [NM, XN, batch, place, token, expert, seat, gate, after]
  blk_point [iblk, V, idx t]

theorem final_x (c : Dev nD) : (dats m 0 c).arrAt 7 (cfgs 0).N = put (m ((c : Thread nD τ).loc main_arg2)) (XN (m ((c : Thread nD τ).loc main_arg0)) (m ((c : Thread nD τ).loc main_arg1)) (m ((c : Thread nD τ).loc main_arg2)) (m ((c : Thread nD τ).loc main_arg3))) := by
  rw [blocks_x]
  funext i
  have e : V m c main_v1_0 = m ((c : Thread nD τ).loc main_arg2) := by
    show StableHlo.after hostOps0 (fun b => m (c, b)) (Proc.tc.devRef main_v1_0) = _
    after_results_simp <;> rfl
  show (if _ then _ else V m c main_v1_0 i) = _
  rw [e]
  rfl

theorem final_h (c : Dev nD) : (dats m 0 c).arrAt 8 (cfgs 0).N = put (m ((c : Thread nD τ).loc main_arg5)) (NM (XN (m ((c : Thread nD τ).loc main_arg0)) (m ((c : Thread nD τ).loc main_arg1)) (m ((c : Thread nD τ).loc main_arg2)) (m ((c : Thread nD τ).loc main_arg3))) (m ((c : Thread nD τ).loc main_arg3)) (m ((c : Thread nD τ).loc main_arg4))) := by
  rw [blocks_h]
  funext i
  have e : V m c main_v1_1 = m ((c : Thread nD τ).loc main_arg5) := by
    show StableHlo.after hostOps0 (fun b => m (c, b)) (Proc.tc.devRef main_v1_1) = _
    after_results_simp <;> rfl
  show (if _ then _ else V m c main_v1_1 i) = _
  rw [e]
  rfl

end Cert.NextSampleIdeal.Values

namespace Cert.NextSampleReferenceIdeal.Values

open Cert.NextSampleReferenceIdeal Cert.NextSampleReferenceIdeal.Gen
open Cert.NextSampleIdeal.Values (batch place token late expert seat gate after XN NM put)

/-- The reference's residual stream of the sample. -/
def stream (P : FVec Ideal S8x1024x2048 .bf16) (Y : FVec Ideal S16x1536x2048 .bf16) (X : FVec Ideal S12288x2048 .f32) (M : FVec Ideal S384x1x2048 .f32) : FVec Ideal S8x1024x2048 .f32 :=
  (addf (shapeCast _ (extractStridedSlice S8192x2048 ![4096, 0] X slices_S12288x2048_S8192x2048_4096_0) shapeCasts_S8192x2048_S8x1024x2048) (mulf (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![0, 0, 5, 0] (extractStridedSlice S4x8x6x2048 ![0, 1, 0, 0] (shapeCast _ M shapeCasts_S384x1x2048_S4x16x6x2048) slices_S4x16x6x2048_S4x8x6x2048_0_1_0_0) slices_S4x8x6x2048_S1x8x1x2048_0_0_5_0) shapeCasts_S1x8x1x2048_S8x2048))) (Host.dotGeneral dot_S8x1024x2048_S8x2048x2048_S8x1024x2048_2_1_1_2_0_0 none (extf .f32 P bitsLt_bf16_f32) (shapeCast _ (transpose S8x16x128x2048 [1, 0, 2, 3] (extf .f32 (shapeCast _ (extractStridedSlice S16x1024x2048 ![0, 512, 0] Y slices_S16x1536x2048_S16x1024x2048_0_512_0) shapeCasts_S16x1024x2048_S16x8x128x2048) bitsLt_bf16_f32) transposes_S16x8x128x2048_S8x16x128x2048_1_0_2_3) shapeCasts_S8x16x128x2048_S8x2048x2048))))

/-- The rows of the stream normalised and modulated. -/
def normed (Z : FVec Ideal S8x1024x2048 .f32) (M : FVec Ideal S384x1x2048 .f32) (G : FVec Ideal S4x2048 .f32) : FVec Ideal S8x1024x2048 .f32 :=
  (addf (mulf (mulf (mulf Z (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf Z Z) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 (shapeCast _ (extractStridedSlice S1x2048 ![1, 0] G slices_S4x2048_S1x2048_1_0) shapeCasts_S1x2048_S2048)))) (broadcastInDim S8x1024x2048 ![0, 1, 2] bcast_S8x1x2048_S8x1024x2048_0_1_2 (addf (broadcastInDim S8x1x2048 ![] bcast_S_S8x1x2048 (constant S_ .f32 0x3F800000#32)) (broadcastInDim S8x1x2048 ![0, 2] bcast_S8x2048_S8x1x2048_0_2 (shapeCast _ (extractStridedSlice S1x8x1x2048 ![1, 0, 1, 0] (extractStridedSlice S4x8x6x2048 ![0, 1, 0, 0] (shapeCast _ M shapeCasts_S384x1x2048_S4x16x6x2048) slices_S4x16x6x2048_S4x8x6x2048_0_1_0_0) slices_S4x8x6x2048_S1x8x1x2048_1_0_1_0) shapeCasts_S1x8x1x2048_S8x2048))))) (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![1, 0, 0, 0] (extractStridedSlice S4x8x6x2048 ![0, 1, 0, 0] (shapeCast _ M shapeCasts_S384x1x2048_S4x16x6x2048) slices_S4x16x6x2048_S4x8x6x2048_0_1_0_0) slices_S4x8x6x2048_S1x8x1x2048_1_0_0_0) shapeCasts_S1x8x1x2048_S8x2048))))

/-- The reference's two results, of the sample's rows. -/
def joined_x (Z : FVec Ideal S8x1024x2048 .f32) (X : FVec Ideal S12288x2048 .f32) : FVec Ideal S12288x2048 .f32 :=
  concatenate S12288x2048 0 [⟨S4096x2048, (extractStridedSlice S4096x2048 ![0, 0] X slices_S12288x2048_S4096x2048_0_0)⟩, ⟨S8192x2048, (shapeCast _ Z shapeCasts_S8x1024x2048_S8192x2048)⟩] concatenates_S4096x2048_S8192x2048_S12288x2048_d0

def joined_h (Z : FVec Ideal S8x1024x2048 .f32) (H : FVec Ideal S12288x2048 .bf16) : FVec Ideal S12288x2048 .bf16 :=
  concatenate S12288x2048 0 [⟨S4096x2048, (extractStridedSlice S4096x2048 ![0, 0] H slices_S12288x2048_S4096x2048_0_0)⟩, ⟨S8192x2048, (shapeCast _ (truncf .bf16 Z bitsLt_bf16_f32) shapeCasts_S8x1024x2048_S8192x2048)⟩] concatenates_S4096x2048_S8192x2048_S12288x2048_d0

set_option maxHeartbeats 1600000 in
theorem stream_at (P : FVec Ideal S8x1024x2048 .bf16) (Y : FVec Ideal S16x1536x2048 .bf16) (X : FVec Ideal S12288x2048 .f32) (M : FVec Ideal S384x1x2048 .f32) (r : Fin 8192) (d : Fin 2048) :
    stream P Y X M (ix3 (batch r) (place r) d) = XN P Y X M r d := by
  pointwise [stream, XN, batch, place, token, expert, seat, gate]
  blk_point []

theorem normed_at (Z : FVec Ideal S8x1024x2048 .f32) (M : FVec Ideal S384x1x2048 .f32) (G : FVec Ideal S4x2048 .f32) (r : Fin 8192) (d : Fin 2048) :
    normed Z M G (ix3 (batch r) (place r) d) = NM (fun r d => Z (ix3 (batch r) (place r) d)) M G r d := by
  pointwise [normed, NM, batch, place, after]
  blk_point []

theorem joined_x_at (Z : FVec Ideal S8x1024x2048 .f32) (X : FVec Ideal S12288x2048 .f32) (j : S12288x2048.Idx) :
    joined_x Z X j = if 4096 ≤ (j 0).val then Z (ix3 (⟨((j 0).val - 4096) / 1024, by have h : (j 0).val < 12288 := (j 0).isLt; omega⟩ : Fin 8)
      (⟨((j 0).val - 4096) % 1024, by omega⟩ : Fin 1024) (j 1)) else X j := by
  by_cases h : 4096 ≤ (j 0).val
  · rw [if_pos h]
    pointwise [joined_x]
    split
    · exfalso; omega
    · rfl
  · rw [if_neg h]
    pointwise [joined_x]
    split
    · rfl
    · exfalso; omega

theorem joined_h_at (Z : FVec Ideal S8x1024x2048 .f32) (H : FVec Ideal S12288x2048 .bf16) (j : S12288x2048.Idx) :
    joined_h Z H j = if 4096 ≤ (j 0).val then Z (ix3 (⟨((j 0).val - 4096) / 1024, by have h : (j 0).val < 12288 := (j 0).isLt; omega⟩ : Fin 8)
      (⟨((j 0).val - 4096) % 1024, by omega⟩ : Fin 1024) (j 1)) else H j := by
  by_cases h : 4096 ≤ (j 0).val
  · rw [if_pos h]
    pointwise [joined_h]
    split
    · exfalso; omega
    · rfl
  · rw [if_neg h]
    pointwise [joined_h]
    split
    · rfl
    · exfalso; omega

theorem result_x (P : FVec Ideal S8x1024x2048 .bf16) (Y : FVec Ideal S16x1536x2048 .bf16) (X : FVec Ideal S12288x2048 .f32) (M : FVec Ideal S384x1x2048 .f32) : joined_x (stream P Y X M) X = put X (XN P Y X M) := by
  funext j
  rw [joined_x_at]
  exact if_congr Iff.rfl (stream_at P Y X M (late j) (j 1)) rfl

theorem result_h (P : FVec Ideal S8x1024x2048 .bf16) (Y : FVec Ideal S16x1536x2048 .bf16) (X : FVec Ideal S12288x2048 .f32) (M : FVec Ideal S384x1x2048 .f32) (G : FVec Ideal S4x2048 .f32) (H : FVec Ideal S12288x2048 .bf16) :
    joined_h (normed (stream P Y X M) M G) H = put H (NM (XN P Y X M) M G) := by
  funext j
  rw [joined_h_at]
  refine if_congr Iff.rfl ((normed_at _ M G (late j) (j 1)).trans ?_) rfl
  exact congrArg (fun Z => NM Z M G (late j) (j 1)) (funext fun r => funext fun d => stream_at P Y X M r d)

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = put (m ((c.tc : Thread nD τ).loc main_arg2)) (XN (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v50) = put (m ((c.tc : Thread nD τ).loc main_arg5)) (NM (XN (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_x _ _ _ _), (h c).2.1.trans (result_h _ _ _ _ _ _), (h c).2.2⟩) (Value.run m ρ)

end Cert.NextSampleReferenceIdeal.Values

end
-- ==== Proof.EnterSample.lean ====
module

public import proofs.«01_k».proof.Proof.Gen.EnterSampleIdeal.Value
public import proofs.«01_k».proof.Proof.Gen.EnterSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EnterSampleIdeal.Values

open Cert.EnterSampleIdeal Cert.EnterSampleIdeal.Gen

variable (m : (ℓ : Loc nD τ sig) → Buf (Elt Ideal) ℓ)

/-- The batch of row `r` of the sample and the row's place in it. -/
def batch (r : Fin 8192) : Fin 8 := ⟨r.val / 1024, by omega⟩
def place (r : Fin 8192) : Fin 1024 := ⟨r.val % 1024, by omega⟩

/-- The row of the sample that a row of the stream is; the prompt's 4096 rows come first. -/
def late (j : S12288x2048.Idx) : Fin 8192 := ⟨(j 0).val - 4096, by have h : (j 0).val < 12288 := (j 0).isLt; omega⟩

/-- The row of the modulation table that holds slot `s` of batch `b`: the first layer, condition `1 + b`. -/
def slot (b : Fin 8) (s : Fin 2) : Fin 384 := ⟨6 * (1 + b.val) + s.val, by omega⟩

/-- The sample's rows normalised with the first layer's gain and modulated. -/
def NM (X : FVec Ideal S8x1024x2048 .f32) (G : FVec Ideal S4x2048 .f32) (M : FVec Ideal S384x1x2048 .f32) : Fin 8192 → Fin 2048 → Ideal .bf16 := fun r d =>
  X (ix3 (batch r) (place r) d)
    * Ideal.rsqrt (Ideal.div (∑ k : Fin 2048, X (ix3 (batch r) (place r) k) * X (ix3 (batch r) (place r) k)) (Ideal.ofBits .f32 0x45000000#32) + Ideal.ofBits .f32 0x358637BD#32)
    * G (ix2 0 d) * (Ideal.ofBits .f32 0x3F800000#32 + M (ix3 (slot (batch r) 1) 0 d)) + M (ix3 (slot (batch r) 0) 0 d)

/-- The prompt's rows as they were, and the sample's. -/
def REF (X : FVec Ideal S8x1024x2048 .f32) (G : FVec Ideal S4x2048 .f32) (M : FVec Ideal S384x1x2048 .f32) (H : FVec Ideal S12288x2048 .bf16) : FVec Ideal S12288x2048 .bf16 := fun j =>
  if 4096 ≤ (j 0).val then NM X G M (late j) (j 1) else H j

theorem idx : ∀ t : Fin cfg0.N, win0_0.index t = ![t.val, 0] ∧ win0_1.index t = ![0, 0, 0] ∧ win0_2.index t = ![6 * (1 + t.val / 2), 0, 0]
    ∧ win0_3.index t = ![6 * (1 + t.val / 2) + 1, 0, 0] ∧ win0_4.index t = ![8 + t.val, 0] :=
  (by decide +kernel : ∀ t : Fin grid0.N, _)

theorem blocks_out (c : Dev nD) : (dats m 0 c).arrAt 4 (cfgs 0).N = fun i : S12288x2048.Idx => if 4096 ≤ (i 0).val
    then NM (m ((c : Thread nD τ).loc main_arg0)) (m ((c : Thread nD τ).loc main_arg1)) (m ((c : Thread nD τ).loc main_arg2)) (late i) (i 1) else V m c main_v2 i := by
  refine (dats m 0 c).arrAt_eq_of_coversWhere 4 _ (fun β => 8 ≤ β 0) (by decide +kernel) (fun t _ y => ?_) (fun j => by blk_simp [Pipeline.Window.cell_apply]; omega)
  blk_simp
  rw [after0_4]
  unfold outsAt0
  frame_out
  open_payloads
  have ht : t.val < 16 := t.isLt
  have hy : (y 0).val < 512 := (y 0).isLt
  have e : late (((View.whole main_v2).slice (win0_4.rect t)).emb y) = ⟨t.val * 512 + (y 0).val, by omega⟩ := by
    refine Fin.ext ?_
    show _ - 4096 = _
    blk_simp [idx t]
    show _ = t.val * 512 + (y 0).val
    omega
  rw [e]
  pointwise [NM, batch, place, slot]
  blk_point [iblk, V, idx t]

theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  rw [blocks_out]
  funext i
  have e : V m c main_v2 = m ((c : Thread nD τ).loc main_arg3) := by
    show StableHlo.after hostOps0 (fun b => m (c, b)) (Proc.tc.devRef main_v2) = _
    after_results_simp <;> rfl
  show (if _ then _ else V m c main_v2 i) = _
  rw [e]
  rfl

end Cert.EnterSampleIdeal.Values

namespace Cert.EnterSampleReferenceIdeal.Values

open Cert.EnterSampleReferenceIdeal Cert.EnterSampleReferenceIdeal.Gen
open Cert.EnterSampleIdeal.Values (batch place late slot NM REF)

/-- The reference's normalised sample. -/
def normed (X : FVec Ideal S8x1024x2048 .f32) (G : FVec Ideal S4x2048 .f32) (M : FVec Ideal S384x1x2048 .f32) : FVec Ideal S8x1024x2048 .f32 :=
  (addf (mulf (mulf (mulf X (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf X X) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 (shapeCast _ (extractStridedSlice S1x2048 ![0, 0] G slices_S4x2048_S1x2048_0_0) shapeCasts_S1x2048_S2048)))) (broadcastInDim S8x1024x2048 ![0, 1, 2] bcast_S8x1x2048_S8x1024x2048_0_1_2 (addf (broadcastInDim S8x1x2048 ![] bcast_S_S8x1x2048 (constant S_ .f32 0x3F800000#32)) (broadcastInDim S8x1x2048 ![0, 2] bcast_S8x2048_S8x1x2048_0_2 (shapeCast _ (extractStridedSlice S8x1x2048 ![0, 1, 0] (shapeCast _ (extractStridedSlice S1x8x6x2048 ![0, 1, 0, 0] (shapeCast _ M shapeCasts_S384x1x2048_S4x16x6x2048) slices_S4x16x6x2048_S1x8x6x2048_0_1_0_0) shapeCasts_S1x8x6x2048_S8x6x2048) slices_S8x6x2048_S8x1x2048_0_1_0) shapeCasts_S8x1x2048_S8x2048))))) (broadcastInDim S8x1024x2048 ![0, 1, 2] bcast_S8x1x2048_S8x1024x2048_0_1_2 (broadcastInDim S8x1x2048 ![0, 2] bcast_S8x2048_S8x1x2048_0_2 (shapeCast _ (extractStridedSlice S8x1x2048 ![0, 0, 0] (shapeCast _ (extractStridedSlice S1x8x6x2048 ![0, 1, 0, 0] (shapeCast _ M shapeCasts_S384x1x2048_S4x16x6x2048) slices_S4x16x6x2048_S1x8x6x2048_0_1_0_0) shapeCasts_S1x8x6x2048_S8x6x2048) slices_S8x6x2048_S8x1x2048_0_0_0) shapeCasts_S8x1x2048_S8x2048))))

/-- The reference's result. -/
def joined (Y : FVec Ideal S8x1024x2048 .f32) (H : FVec Ideal S12288x2048 .bf16) : FVec Ideal S12288x2048 .bf16 :=
  concatenate S12288x2048 0 [⟨S4096x2048, (extractStridedSlice S4096x2048 ![0, 0] H slices_S12288x2048_S4096x2048_0_0)⟩, ⟨S8192x2048, (shapeCast _ (truncf .bf16 Y bitsLt_bf16_f32) shapeCasts_S8x1024x2048_S8192x2048)⟩] concatenates_S4096x2048_S8192x2048_S12288x2048_d0

theorem normed_at (X : FVec Ideal S8x1024x2048 .f32) (G : FVec Ideal S4x2048 .f32) (M : FVec Ideal S384x1x2048 .f32) (r : Fin 8192) (d : Fin 2048) :
    normed X G M (ix3 (batch r) (place r) d) = NM X G M r d := by
  pointwise [normed, NM, batch, place, slot]
  blk_point []

theorem joined_at (Y : FVec Ideal S8x1024x2048 .f32) (H : FVec Ideal S12288x2048 .bf16) (j : S12288x2048.Idx) :
    joined Y H j = if 4096 ≤ (j 0).val then Y (ix3 (⟨((j 0).val - 4096) / 1024, by have h : (j 0).val < 12288 := (j 0).isLt; omega⟩ : Fin 8)
      (⟨((j 0).val - 4096) % 1024, by omega⟩ : Fin 1024) (j 1)) else H j := by
  by_cases h : 4096 ≤ (j 0).val
  · rw [if_pos h]
    pointwise [joined]
    split
    · exfalso; omega
    · rfl
  · rw [if_neg h]
    pointwise [joined]
    split
    · rfl
    · exfalso; omega

theorem result_eq (X : FVec Ideal S8x1024x2048 .f32) (G : FVec Ideal S4x2048 .f32) (M : FVec Ideal S384x1x2048 .f32) (H : FVec Ideal S12288x2048 .bf16) : joined (normed X G M) H = REF X G M H := by
  funext j
  rw [joined_at]
  exact if_congr Iff.rfl (normed_at X G M (late j) (j 1)) rfl

/-- What the reference's host operations compose to. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq _ _ _ _), (h c).2⟩) (Value.run m ρ)

end Cert.EnterSampleReferenceIdeal.Values

end
-- ==== Proof.lean ====
module

public import proofs.«01_k».proof.Defs
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.ProjectA.Frame
public import proofs.«01_k».proof.Proof.Gen.ProjectAIdeal.Value
public import proofs.«01_k».proof.Proof.Gen.ProjectAReferenceIdeal.Run
public import proofs.«01_k».proof.Proof.Gen.ProjectB.Frame
public import proofs.«01_k».proof.Proof.Gen.ProjectBIdeal.Value
public import proofs.«01_k».proof.Proof.Gen.ProjectBReferenceIdeal.Run
public import proofs.«01_k».proof.Proof.Gen.GatedIn.Frame
public import proofs.«01_k».proof.Proof.Gen.GatedInIdeal.Value
public import proofs.«01_k».proof.Proof.Gen.GatedInReferenceIdeal.Run
public import proofs.«01_k».proof.Proof.Gen.MixOut.Frame
public import proofs.«01_k».proof.Proof.Gen.MixOutIdeal.Value
public import proofs.«01_k».proof.Proof.Gen.MixOutReferenceIdeal.Run
public import proofs.«01_k».proof.Proof.Gen.ContextA.Frame
public import proofs.«01_k».proof.Proof.Gen.ContextAIdeal.Value
public import proofs.«01_k».proof.Proof.Gen.ContextAReferenceIdeal.Run
public import proofs.«01_k».proof.Proof.Gen.ContextB.Frame
public import proofs.«01_k».proof.Proof.Gen.ContextBIdeal.Value
public import proofs.«01_k».proof.Proof.Gen.ContextBReferenceIdeal.Run
public import proofs.«01_k».proof.Proof.Gen.CombinePrompt.Frame
public import proofs.«01_k».proof.Proof.Gen.CombinePromptIdeal.Value
public import proofs.«01_k».proof.Proof.Gen.CombinePromptReferenceIdeal.Run
public import proofs.«01_k».proof.Proof.Gen.CombineSample.Frame
public import proofs.«01_k».proof.Proof.Gen.CombineSampleIdeal.Value
public import proofs.«01_k».proof.Proof.Gen.CombineSampleReferenceIdeal.Run
public import proofs.«01_k».proof.Proof.Gen.MixFirst.Frame
public import proofs.«01_k».proof.Proof.Gen.MixFirstIdeal.Value
public import proofs.«01_k».proof.Proof.Gen.MixFirstReferenceIdeal.Run
public import proofs.«01_k».proof.Proof.Gen.Gating.Frame
public import proofs.«01_k».proof.Proof.Gen.GatingIdeal.Value
public import proofs.«01_k».proof.Proof.Gen.GatingReferenceIdeal.Run
public import proofs.«01_k».proof.Proof.Gen.Modulation.Frame
public import proofs.«01_k».proof.Proof.Gen.ModulationIdeal.Value
public import proofs.«01_k».proof.Proof.Gen.ModulationReferenceIdeal.Run
public import proofs.«01_k».proof.Proof.Gen.NextSample.Frame
public import proofs.«01_k».proof.Proof.Gen.NextSampleIdeal.Value
public import proofs.«01_k».proof.Proof.Gen.NextSampleReferenceIdeal.Run
public import proofs.«01_k».proof.Proof.Gen.EnterSample.Frame
public import proofs.«01_k».proof.Proof.Gen.EnterSampleIdeal.Value
public import proofs.«01_k».proof.Proof.Gen.EnterSampleReferenceIdeal.Run
public import proofs.«01_k».proof.Proof.Gen.Pre_finite_a
public import proofs.«01_k».proof.Proof.Gen.On_context_rows_a
public import proofs.«01_k».proof.Proof.Gen.Pre_finite_b
public import proofs.«01_k».proof.Proof.Gen.On_context_rows_b
public import proofs.«01_k».proof.Proof.FfnUp
public import proofs.«01_k».proof.Proof.FfnDown
public import proofs.«01_k».proof.Proof.ProjectA
public import proofs.«01_k».proof.Proof.ProjectB
public import proofs.«01_k».proof.Proof.GatedIn
public import proofs.«01_k».proof.Proof.MixOut
public import proofs.«01_k».proof.Proof.ContextA
public import proofs.«01_k».proof.Proof.ContextB
public import proofs.«01_k».proof.Proof.CombinePrompt
public import proofs.«01_k».proof.Proof.CombineSample
public import proofs.«01_k».proof.Proof.MixFirst
public import proofs.«01_k».proof.Proof.Gating
public import proofs.«01_k».proof.Proof.Modulation
public import proofs.«01_k».proof.Proof.NextSample
public import proofs.«01_k».proof.Proof.EnterSample
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_up : Cert.quiescent_FfnUp := fun m ρ _ => Cert.FfnUp.Gen.frame m ρ
theorem frame_up_ideal : Cert.quiescent_FfnUpIdeal := fun m ρ _ => Cert.FfnUpIdeal.Gen.frame m ρ
theorem frame_up_reference : Cert.quiescent_FfnUpReferenceIdeal := fun m ρ _ =>
  (θ_run Cert.FfnUpReferenceIdeal.defs _ _).mono (fun r h => ⟨fun c => (h c).2, sem_eq_zero_of_no_sems (by decide) r.2⟩)
    (Cert.FfnUpReferenceIdeal.Value.run (F := Ideal) m ρ)

theorem algebraic_up : Cert.algebraic_FfnUpIdeal_FfnUpReferenceIdeal := by
  pair_intro
  · run_from Cert.FfnUpIdeal.Value.run_blocks m g
  · run_from Cert.FfnUpReferenceIdeal.Values.run m' g'
    exact (Cert.FfnUpIdeal.Values.final m c).symm

theorem frame_down : Cert.quiescent_FfnDown := fun m ρ _ => Cert.FfnDown.Gen.frame m ρ
theorem frame_down_ideal : Cert.quiescent_FfnDownIdeal := fun m ρ _ => Cert.FfnDownIdeal.Gen.frame m ρ
theorem frame_down_reference : Cert.quiescent_FfnDownReferenceIdeal := fun m ρ _ =>
  (θ_run Cert.FfnDownReferenceIdeal.defs _ _).mono (fun r h => ⟨fun c => (h c).2, sem_eq_zero_of_no_sems (by decide) r.2⟩)
    (Cert.FfnDownReferenceIdeal.Value.run (F := Ideal) m ρ)

theorem algebraic_down : Cert.algebraic_FfnDownIdeal_FfnDownReferenceIdeal := by
  pair_intro
  · run_from Cert.FfnDownIdeal.Value.run_blocks m g
  · run_from Cert.FfnDownReferenceIdeal.Values.run m' g'
    exact (Cert.FfnDownIdeal.Values.final m c).symm

theorem frame_project_a : Cert.quiescent_ProjectA := fun m ρ _ => Cert.ProjectA.Gen.frame m ρ
theorem frame_project_a_ideal : Cert.quiescent_ProjectAIdeal := fun m ρ _ => Cert.ProjectAIdeal.Gen.frame m ρ
theorem frame_project_a_reference : Cert.quiescent_ProjectAReferenceIdeal := fun m ρ _ =>
  (θ_run Cert.ProjectAReferenceIdeal.defs _ _).mono (fun r h => ⟨fun c => (h c).2, sem_eq_zero_of_no_sems (by decide) r.2⟩)
    (Cert.ProjectAReferenceIdeal.Value.run (F := Ideal) m ρ)

theorem algebraic_project_a : Cert.algebraic_ProjectAIdeal_ProjectAReferenceIdeal := by
  pair_intro
  · run_from Cert.ProjectAIdeal.Value.run_blocks m g
  · run_from Cert.ProjectAReferenceIdeal.Values.run m' g'
    exact (Cert.ProjectAIdeal.Values.final m c).symm

theorem frame_project_b : Cert.quiescent_ProjectB := fun m ρ _ => Cert.ProjectB.Gen.frame m ρ
theorem frame_project_b_ideal : Cert.quiescent_ProjectBIdeal := fun m ρ _ => Cert.ProjectBIdeal.Gen.frame m ρ
theorem frame_project_b_reference : Cert.quiescent_ProjectBReferenceIdeal := fun m ρ _ =>
  (θ_run Cert.ProjectBReferenceIdeal.defs _ _).mono (fun r h => ⟨fun c => (h c).2, sem_eq_zero_of_no_sems (by decide) r.2⟩)
    (Cert.ProjectBReferenceIdeal.Value.run (F := Ideal) m ρ)

theorem algebraic_project_b : Cert.algebraic_ProjectBIdeal_ProjectBReferenceIdeal := by
  pair_intro
  · run_from Cert.ProjectBIdeal.Value.run_blocks m g
  · run_from Cert.ProjectBReferenceIdeal.Values.run m' g'
    exact (Cert.ProjectBIdeal.Values.final m c).symm

theorem frame_gated_in : Cert.quiescent_GatedIn := fun m ρ _ => Cert.GatedIn.Gen.frame m ρ
theorem frame_gated_in_ideal : Cert.quiescent_GatedInIdeal := fun m ρ _ => Cert.GatedInIdeal.Gen.frame m ρ
theorem frame_gated_in_reference : Cert.quiescent_GatedInReferenceIdeal := fun m ρ _ =>
  (θ_run Cert.GatedInReferenceIdeal.defs _ _).mono (fun r h => ⟨fun c => (h c).2, sem_eq_zero_of_no_sems (by decide) r.2⟩)
    (Cert.GatedInReferenceIdeal.Value.run (F := Ideal) m ρ)

theorem algebraic_gated_in : Cert.algebraic_GatedInIdeal_GatedInReferenceIdeal := by
  pair_intro
  · run_from Cert.GatedInIdeal.Value.run_blocks m g
  · run_from Cert.GatedInReferenceIdeal.Values.run m' g'
    exact (Cert.GatedInIdeal.Values.final m c).symm

theorem frame_mix_out : Cert.quiescent_MixOut := fun m ρ _ => Cert.MixOut.Gen.frame m ρ
theorem frame_mix_out_ideal : Cert.quiescent_MixOutIdeal := fun m ρ _ => Cert.MixOutIdeal.Gen.frame m ρ
theorem frame_mix_out_reference : Cert.quiescent_MixOutReferenceIdeal := fun m ρ _ =>
  (θ_run Cert.MixOutReferenceIdeal.defs _ _).mono (fun r h => ⟨fun c => (h c).2.2, sem_eq_zero_of_no_sems (by decide) r.2⟩)
    (Cert.MixOutReferenceIdeal.Value.run (F := Ideal) m ρ)

theorem algebraic_mix_out : Cert.algebraic_MixOutIdeal_MixOutReferenceIdeal := by
  pair_intro
  · run_from Cert.MixOutIdeal.Value.run_blocks m g
  · run_from Cert.MixOutReferenceIdeal.Values.run m' g'
    · exact (Cert.MixOutIdeal.Values.final_x m c).symm
    · exact (Cert.MixOutIdeal.Values.final_h m c).symm

theorem frame_context_a : Cert.quiescent_ContextA := fun m ρ _ => Cert.ContextA.Gen.frame m ρ
theorem frame_context_a_ideal : Cert.quiescent_ContextAIdeal := fun m ρ _ => Cert.ContextAIdeal.Gen.frame m ρ
theorem frame_context_a_reference : Cert.quiescent_ContextAReferenceIdeal := fun m ρ _ =>
  (θ_run Cert.ContextAReferenceIdeal.defs _ _).mono (fun r h => ⟨fun c => (h c).2.2.2, sem_eq_zero_of_no_sems (by decide) r.2⟩)
    (Cert.ContextAReferenceIdeal.Value.run (F := Ideal) m ρ)

theorem frame_context_a_ideal_finite : Cert.quiescent_ContextAIdeal_pre_finite_a := fun m ρ _ => Cert.ContextAIdeal.Gen.frame m ρ
theorem frame_context_a_reference_finite : Cert.quiescent_ContextAReferenceIdeal_pre_finite_a := fun m ρ _ => frame_context_a_reference m ρ trivial

/-- The mask of the attention over the context, read at an index. -/
theorem rows_a (X : FVec Ideal Cert.Pre_finite_a.S12288x3072 .f32) (Z : FVec Ideal Cert.Pre_finite_a.S16 .f32) (i : Cert.On_context_rows_a.S12288x2048.Idx)
    (h : (Cert.On_context_rows_a.fn (F := Ideal) X Z).1 i = 1#1) : (i 0).val < 4096 :=
  Cert.Softmax.below (i 0).isLt h

/-- The precondition, read as real numbers. -/
theorem real_a (X : FVec Ideal Cert.Pre_finite_a.S12288x3072 .f32) (Z : FVec Ideal Cert.Pre_finite_a.S16 .f32) (h : (Cert.Pre_finite_a.fn (F := Ideal) X Z).1 = (fun _ => 1#1)) : Cert.Softmax.IsReal X :=
  fun i => Cert.Softmax.real_of_finite (congrFun h i)

theorem real_sink (X : FVec Ideal Cert.Pre_finite_a.S12288x3072 .f32) (Z : FVec Ideal Cert.Pre_finite_a.S16 .f32) (h : (Cert.Pre_finite_a.fn (F := Ideal) X Z).2 = (fun _ => 1#1)) : Cert.Softmax.IsReal Z :=
  fun i => Cert.Softmax.real_of_finite (congrFun h i)

theorem algebraic_context_a : Cert.algebraic_ContextAIdeal_ContextAReferenceIdeal_on_context_rows_a_pre_finite_a := by
  intro m g m' g' hpre hagree
  refine ⟨fun c => Cert.ContextAIdeal.Values.REF (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1)), fun c => Cert.ContextAIdeal.Values.KEYS (m ((c.tc : Thread Cert.ContextAIdeal.nD Cert.ContextAIdeal.τ).loc Cert.ContextAIdeal.main_arg0)), fun c => Cert.ContextAIdeal.Values.VALUES (m ((c.tc : Thread Cert.ContextAIdeal.nD Cert.ContextAIdeal.τ).loc Cert.ContextAIdeal.main_arg0)), ?_, ?_⟩
  · refine (θ_run Cert.ContextAIdeal.defs _ _).mono (fun r h c => ⟨fun i hi => ?_, fun i _ => ?_, fun i _ => ?_, (h c).2.2.2⟩)
      (Cert.ContextAIdeal.Value.run_blocks m g)
    · rw [(h c).1]
      exact (congrFun (Cert.ContextAIdeal.Values.final_out m c) i).trans (if_pos (rows_a _ _ i hi))
    · exact congrFun ((h c).2.1.trans (Cert.ContextAIdeal.Values.final_keys m c)) i
    · exact congrFun ((h c).2.2.1.trans (Cert.ContextAIdeal.Values.final_values m c)) i
  · refine (θ_run Cert.ContextAReferenceIdeal.defs _ _).mono (fun r h c => ⟨fun i hi => ?_, fun i _ => ?_, fun i _ => ?_, (h c).2.2.2⟩)
      (Cert.ContextAReferenceIdeal.Values.run m' g' (fun c => (hagree c).1 ▸ real_a _ _ (hpre c).1) (fun c => (hagree c).2 ▸ real_sink _ _ (hpre c).2))
    · refine ((h c).1 i (rows_a _ _ i hi)).trans (congrFun ?_ i)
      exact congrArg₂ Cert.ContextAIdeal.Values.REF (hagree c).1 (hagree c).2
    · exact (congrFun (h c).2.1 i).trans (congrFun (congrArg Cert.ContextAIdeal.Values.KEYS ((hagree c).1)) i)
    · exact (congrFun (h c).2.2.1 i).trans (congrFun (congrArg Cert.ContextAIdeal.Values.VALUES ((hagree c).1)) i)

theorem frame_context_b : Cert.quiescent_ContextB := fun m ρ _ => Cert.ContextB.Gen.frame m ρ
theorem frame_context_b_ideal : Cert.quiescent_ContextBIdeal := fun m ρ _ => Cert.ContextBIdeal.Gen.frame m ρ
theorem frame_context_b_reference : Cert.quiescent_ContextBReferenceIdeal := fun m ρ _ =>
  (θ_run Cert.ContextBReferenceIdeal.defs _ _).mono (fun r h => ⟨fun c => (h c).2.2.2, sem_eq_zero_of_no_sems (by decide) r.2⟩)
    (Cert.ContextBReferenceIdeal.Value.run (F := Ideal) m ρ)

theorem frame_context_b_ideal_finite : Cert.quiescent_ContextBIdeal_pre_finite_b := fun m ρ _ => Cert.ContextBIdeal.Gen.frame m ρ
theorem frame_context_b_reference_finite : Cert.quiescent_ContextBReferenceIdeal_pre_finite_b := fun m ρ _ => frame_context_b_reference m ρ trivial

theorem rows_b (X : FVec Ideal Cert.Pre_finite_b.S12288x6144 .f32) (i : Cert.On_context_rows_b.S12288x2048.Idx)
    (h : (Cert.On_context_rows_b.fn (F := Ideal) X).1 i = 1#1) : (i 0).val < 4096 :=
  Cert.Softmax.below (i 0).isLt h

theorem real_b (X : FVec Ideal Cert.Pre_finite_b.S12288x6144 .f32) (h : Cert.Pre_finite_b.fn (F := Ideal) X = (fun _ => 1#1)) : Cert.Softmax.IsReal X :=
  fun i => Cert.Softmax.real_of_finite (congrFun h i)

theorem algebraic_context_b : Cert.algebraic_ContextBIdeal_ContextBReferenceIdeal_on_context_rows_b_pre_finite_b := by
  intro m g m' g' hpre hagree
  refine ⟨fun c => Cert.ContextBIdeal.Values.REF (m ((c.tc : Thread Cert.ContextBIdeal.nD Cert.ContextBIdeal.τ).loc Cert.ContextBIdeal.main_arg0)), fun c => Cert.ContextBIdeal.Values.KEYS (m ((c.tc : Thread Cert.ContextBIdeal.nD Cert.ContextBIdeal.τ).loc Cert.ContextBIdeal.main_arg0)), fun c => Cert.ContextBIdeal.Values.VALUES (m ((c.tc : Thread Cert.ContextBIdeal.nD Cert.ContextBIdeal.τ).loc Cert.ContextBIdeal.main_arg0)), ?_, ?_⟩
  · refine (θ_run Cert.ContextBIdeal.defs _ _).mono (fun r h c => ⟨fun i hi => ?_, fun i _ => ?_, fun i _ => ?_, (h c).2.2.2⟩)
      (Cert.ContextBIdeal.Value.run_blocks m g)
    · rw [(h c).1]
      exact (congrFun (Cert.ContextBIdeal.Values.final_out m c) i).trans (if_pos (rows_b _ i hi))
    · exact congrFun ((h c).2.1.trans (Cert.ContextBIdeal.Values.final_keys m c)) i
    · exact congrFun ((h c).2.2.1.trans (Cert.ContextBIdeal.Values.final_values m c)) i
  · refine (θ_run Cert.ContextBReferenceIdeal.defs _ _).mono (fun r h c => ⟨fun i hi => ?_, fun i _ => ?_, fun i _ => ?_, (h c).2.2.2⟩)
      (Cert.ContextBReferenceIdeal.Values.run m' g' (fun c => hagree c ▸ real_b _ (hpre c)))
    · refine ((h c).1 i (rows_b _ i hi)).trans (congrFun ?_ i)
      exact congrArg Cert.ContextBIdeal.Values.REF (hagree c)
    · exact (congrFun (h c).2.1 i).trans (congrFun (congrArg Cert.ContextBIdeal.Values.KEYS (hagree c)) i)
    · exact (congrFun (h c).2.2.1 i).trans (congrFun (congrArg Cert.ContextBIdeal.Values.VALUES (hagree c)) i)

theorem frame_combine_prompt : Cert.quiescent_CombinePrompt := fun m ρ _ => Cert.CombinePrompt.Gen.frame m ρ
theorem frame_combine_prompt_ideal : Cert.quiescent_CombinePromptIdeal := fun m ρ _ => Cert.CombinePromptIdeal.Gen.frame m ρ
theorem frame_combine_prompt_reference : Cert.quiescent_CombinePromptReferenceIdeal := fun m ρ _ =>
  (θ_run Cert.CombinePromptReferenceIdeal.defs _ _).mono (fun r h => ⟨fun c => (h c).2, sem_eq_zero_of_no_sems (by decide) r.2⟩)
    (Cert.CombinePromptReferenceIdeal.Value.run (F := Ideal) m ρ)

theorem algebraic_combine_prompt : Cert.algebraic_CombinePromptIdeal_CombinePromptReferenceIdeal := by
  pair_intro
  · run_from Cert.CombinePromptIdeal.Value.run_blocks m g
  · run_from Cert.CombinePromptReferenceIdeal.Values.run m' g'
    exact (Cert.CombinePromptIdeal.Values.final m c).symm

theorem frame_combine_sample : Cert.quiescent_CombineSample := fun m ρ _ => Cert.CombineSample.Gen.frame m ρ
theorem frame_combine_sample_ideal : Cert.quiescent_CombineSampleIdeal := fun m ρ _ => Cert.CombineSampleIdeal.Gen.frame m ρ
theorem frame_combine_sample_reference : Cert.quiescent_CombineSampleReferenceIdeal := fun m ρ _ =>
  (θ_run Cert.CombineSampleReferenceIdeal.defs _ _).mono (fun r h => ⟨fun c => (h c).2, sem_eq_zero_of_no_sems (by decide) r.2⟩)
    (Cert.CombineSampleReferenceIdeal.Value.run (F := Ideal) m ρ)

theorem algebraic_combine_sample : Cert.algebraic_CombineSampleIdeal_CombineSampleReferenceIdeal := by
  pair_intro
  · run_from Cert.CombineSampleIdeal.Value.run_blocks m g
  · run_from Cert.CombineSampleReferenceIdeal.Values.run m' g'
    exact (Cert.CombineSampleIdeal.Values.final m c).symm

theorem frame_mix_first : Cert.quiescent_MixFirst := fun m ρ _ => Cert.MixFirst.Gen.frame m ρ
theorem frame_mix_first_ideal : Cert.quiescent_MixFirstIdeal := fun m ρ _ => Cert.MixFirstIdeal.Gen.frame m ρ
theorem frame_mix_first_reference : Cert.quiescent_MixFirstReferenceIdeal := fun m ρ _ =>
  (θ_run Cert.MixFirstReferenceIdeal.defs _ _).mono (fun r h => ⟨fun c => (h c).2.2, sem_eq_zero_of_no_sems (by decide) r.2⟩)
    (Cert.MixFirstReferenceIdeal.Value.run (F := Ideal) m ρ)

theorem algebraic_mix_first : Cert.algebraic_MixFirstIdeal_MixFirstReferenceIdeal := by
  pair_intro
  · run_from Cert.MixFirstIdeal.Value.run_blocks m g
  · run_from Cert.MixFirstReferenceIdeal.Values.run m' g'
    · exact (Cert.MixFirstIdeal.Values.final_x m c).symm
    · exact (Cert.MixFirstIdeal.Values.final_h m c).symm

theorem frame_gating : Cert.quiescent_Gating := fun m ρ _ => Cert.Gating.Gen.frame m ρ
theorem frame_gating_ideal : Cert.quiescent_GatingIdeal := fun m ρ _ => Cert.GatingIdeal.Gen.frame m ρ
theorem frame_gating_reference : Cert.quiescent_GatingReferenceIdeal := fun m ρ _ =>
  (θ_run Cert.GatingReferenceIdeal.defs _ _).mono (fun r h => ⟨fun c => (h c).2, sem_eq_zero_of_no_sems (by decide) r.2⟩)
    (Cert.GatingReferenceIdeal.Value.run (F := Ideal) m ρ)

theorem algebraic_gating : Cert.algebraic_GatingIdeal_GatingReferenceIdeal := by
  pair_intro
  · run_from Cert.GatingIdeal.Value.run_blocks m g
  · run_from Cert.GatingReferenceIdeal.Values.run m' g'
    exact (Cert.GatingIdeal.Values.final m c).symm

theorem frame_modulation : Cert.quiescent_Modulation := fun m ρ _ => Cert.Modulation.Gen.frame m ρ
theorem frame_modulation_ideal : Cert.quiescent_ModulationIdeal := fun m ρ _ => Cert.ModulationIdeal.Gen.frame m ρ
theorem frame_modulation_reference : Cert.quiescent_ModulationReferenceIdeal := fun m ρ _ =>
  (θ_run Cert.ModulationReferenceIdeal.defs _ _).mono (fun r h => ⟨fun c => (h c).2, sem_eq_zero_of_no_sems (by decide) r.2⟩)
    (Cert.ModulationReferenceIdeal.Value.run (F := Ideal) m ρ)

theorem algebraic_modulation : Cert.algebraic_ModulationIdeal_ModulationReferenceIdeal := by
  pair_intro
  · run_from Cert.ModulationIdeal.Value.run_blocks m g
  · run_from Cert.ModulationReferenceIdeal.Values.run m' g'
    exact (Cert.ModulationIdeal.Values.final m c).symm

theorem frame_next_sample : Cert.quiescent_NextSample := fun m ρ _ => Cert.NextSample.Gen.frame m ρ
theorem frame_next_sample_ideal : Cert.quiescent_NextSampleIdeal := fun m ρ _ => Cert.NextSampleIdeal.Gen.frame m ρ
theorem frame_next_sample_reference : Cert.quiescent_NextSampleReferenceIdeal := fun m ρ _ =>
  (θ_run Cert.NextSampleReferenceIdeal.defs _ _).mono (fun r h => ⟨fun c => (h c).2.2, sem_eq_zero_of_no_sems (by decide) r.2⟩)
    (Cert.NextSampleReferenceIdeal.Value.run (F := Ideal) m ρ)

theorem algebraic_next_sample : Cert.algebraic_NextSampleIdeal_NextSampleReferenceIdeal := by
  pair_intro
  · run_from Cert.NextSampleIdeal.Value.run_blocks m g
  · run_from Cert.NextSampleReferenceIdeal.Values.run m' g'
    · exact (Cert.NextSampleIdeal.Values.final_x m c).symm
    · exact (Cert.NextSampleIdeal.Values.final_h m c).symm

theorem frame_enter_sample : Cert.quiescent_EnterSample := fun m ρ _ => Cert.EnterSample.Gen.frame m ρ
theorem frame_enter_sample_ideal : Cert.quiescent_EnterSampleIdeal := fun m ρ _ => Cert.EnterSampleIdeal.Gen.frame m ρ
theorem frame_enter_sample_reference : Cert.quiescent_EnterSampleReferenceIdeal := fun m ρ _ =>
  (θ_run Cert.EnterSampleReferenceIdeal.defs _ _).mono (fun r h => ⟨fun c => (h c).2, sem_eq_zero_of_no_sems (by decide) r.2⟩)
    (Cert.EnterSampleReferenceIdeal.Value.run (F := Ideal) m ρ)

theorem algebraic_enter_sample : Cert.algebraic_EnterSampleIdeal_EnterSampleReferenceIdeal := by
  pair_intro
  · run_from Cert.EnterSampleIdeal.Value.run_blocks m g
  · run_from Cert.EnterSampleReferenceIdeal.Values.run m' g'
    exact (Cert.EnterSampleIdeal.Values.final m c).symm

theorem claim : Cert.Claim := ⟨Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.ProjectA.Gen.facts, Cert.ProjectAIdeal.Gen.facts, Cert.ProjectAReferenceIdeal.Gen.facts,
  Cert.ProjectB.Gen.facts, Cert.ProjectBIdeal.Gen.facts, Cert.ProjectBReferenceIdeal.Gen.facts,
  Cert.GatedIn.Gen.facts, Cert.GatedInIdeal.Gen.facts, Cert.GatedInReferenceIdeal.Gen.facts,
  Cert.MixOut.Gen.facts, Cert.MixOutIdeal.Gen.facts, Cert.MixOutReferenceIdeal.Gen.facts,
  Cert.ContextA.Gen.facts, Cert.ContextAIdeal.Gen.facts, Cert.ContextAReferenceIdeal.Gen.facts,
  Cert.ContextB.Gen.facts, Cert.ContextBIdeal.Gen.facts, Cert.ContextBReferenceIdeal.Gen.facts,
  Cert.CombinePrompt.Gen.facts, Cert.CombinePromptIdeal.Gen.facts, Cert.CombinePromptReferenceIdeal.Gen.facts,
  Cert.CombineSample.Gen.facts, Cert.CombineSampleIdeal.Gen.facts, Cert.CombineSampleReferenceIdeal.Gen.facts,
  Cert.MixFirst.Gen.facts, Cert.MixFirstIdeal.Gen.facts, Cert.MixFirstReferenceIdeal.Gen.facts,
  Cert.Gating.Gen.facts, Cert.GatingIdeal.Gen.facts, Cert.GatingReferenceIdeal.Gen.facts,
  Cert.Modulation.Gen.facts, Cert.ModulationIdeal.Gen.facts, Cert.ModulationReferenceIdeal.Gen.facts,
  Cert.NextSample.Gen.facts, Cert.NextSampleIdeal.Gen.facts, Cert.NextSampleReferenceIdeal.Gen.facts,
  Cert.EnterSample.Gen.facts, Cert.EnterSampleIdeal.Gen.facts, Cert.EnterSampleReferenceIdeal.Gen.facts,
  Cert.Pre_finite_a.Gen.facts, Cert.Pre_finite_b.Gen.facts, Cert.On_context_rows_a.Gen.facts, Cert.On_context_rows_b.Gen.facts,
  frame_up, frame_up_ideal, frame_up_reference,
  frame_down, frame_down_ideal, frame_down_reference,
  frame_project_a, frame_project_a_ideal, frame_project_a_reference,
  frame_project_b, frame_project_b_ideal, frame_project_b_reference,
  frame_gated_in, frame_gated_in_ideal, frame_gated_in_reference,
  frame_mix_out, frame_mix_out_ideal, frame_mix_out_reference,
  frame_context_a, frame_context_a_ideal, frame_context_a_ideal_finite, frame_context_a_reference, frame_context_a_reference_finite,
  frame_context_b, frame_context_b_ideal, frame_context_b_ideal_finite, frame_context_b_reference, frame_context_b_reference_finite,
  frame_combine_prompt, frame_combine_prompt_ideal, frame_combine_prompt_reference,
  frame_combine_sample, frame_combine_sample_ideal, frame_combine_sample_reference,
  frame_mix_first, frame_mix_first_ideal, frame_mix_first_reference,
  frame_gating, frame_gating_ideal, frame_gating_reference,
  frame_modulation, frame_modulation_ideal, frame_modulation_reference,
  frame_next_sample, frame_next_sample_ideal, frame_next_sample_reference,
  frame_enter_sample, frame_enter_sample_ideal, frame_enter_sample_reference,
  trivial, algebraic_up, trivial, algebraic_down, trivial, algebraic_project_a, trivial, algebraic_project_b, trivial, algebraic_gated_in, trivial, algebraic_mix_out, trivial, algebraic_context_a, trivial, algebraic_context_b, trivial, algebraic_combine_prompt, trivial, algebraic_combine_sample, trivial, algebraic_mix_first, trivial, algebraic_gating, trivial, algebraic_modulation, trivial, algebraic_next_sample, trivial, algebraic_enter_sample⟩

end Cert.Proof

end
